-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x2048 : Shape := ⟨2, ![4096, 2048]⟩
abbrev S1 : Shape := ⟨1, ![1]⟩
abbrev S4096x128 : Shape := ⟨2, ![4096, 128]⟩
abbrev S8x4096x128 : Shape := ⟨3, ![8, 4096, 128]⟩
abbrev S16x256x128 : Shape := ⟨3, ![16, 256, 128]⟩
abbrev S4x256x128 : Shape := ⟨3, ![4, 256, 128]⟩
abbrev S8 : Shape := ⟨1, ![8]⟩
abbrev S16 : Shape := ⟨1, ![16]⟩
abbrev S4 : Shape := ⟨1, ![4]⟩
abbrev S_ : Shape := ⟨0, ![]⟩
abbrev S1x4096x128 : Shape := ⟨3, ![1, 4096, 128]⟩
abbrev S256x128 : Shape := ⟨2, ![256, 128]⟩
abbrev S1x256x128 : Shape := ⟨3, ![1, 256, 128]⟩

abbrev nBuf : Space → Nat
  | .hbm => 5
  | .vmem => 7
  | .smem => 2
  | _ => 0

abbrev bufTy : (tb : Table) → Fin (tcTables nBuf tb) → BufTy
  | .hbm, ⟨0, _⟩ => ⟨S256x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x128, .f32⟩
  | .local _ .vmem, ⟨0, _⟩ => ⟨S256x4096, .f32⟩
  | .local _ .vmem, ⟨1, _⟩ => ⟨S256x4096, .fp8e4m3⟩
  | .local _ .vmem, ⟨2, _⟩ => ⟨S8x4096x128, .f32⟩
  | .local _ .vmem, ⟨3, _⟩ => ⟨S4096x128, .fp8e4m3⟩
  | .local _ .vmem, ⟨4, _⟩ => ⟨S16x256x128, .bf16⟩
  | .local _ .vmem, ⟨5, _⟩ => ⟨S4096x128, .bf16⟩
  | .local _ .vmem, ⟨6, _⟩ => ⟨S4x256x128, .f32⟩
  | .local _ .smem, ⟨0, _⟩ => ⟨S1, .f32⟩
  | .local _ .smem, ⟨1, _⟩ => ⟨S1, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  (ofTc nBuf bufTy 1 47 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c12_i32_135 : BitVec 32) : Fin 2 → Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v199 : BitVec 32 := Scalar.addi v2 c12_i32_135
  let c16_i32_136 : BitVec 32 := 16#32
  let c0_i32_137 : BitVec 32 := 0#32
  let v200 : BitVec 1 := Scalar.cmpi .eq c16_i32_136 c0_i32_137
  let c1_i32_138 : BitVec 32 := 1#32
  let v201 : BitVec 32 := Scalar.select v200 c1_i32_138 c16_i32_136
  let v202 : BitVec 32 := Scalar.remsi v199 v201
  let c0_i32_140 : BitVec 32 := 0#32
  let v204 : BitVec 1 := Scalar.cmpi .slt v202 c0_i32_140
  let c0_i32_141 : BitVec 32 := 0#32
  let v205 : BitVec 1 := Scalar.cmpi .slt v201 c0_i32_141
  let v206 : BitVec 1 := Scalar.xori v204 v205
  let c0_i32_139 : BitVec 32 := 0#32
  let v203 : BitVec 1 := Scalar.cmpi .ne v202 c0_i32_139
  let v207 : BitVec 1 := Scalar.andi v206 v203
  let v208 : BitVec 32 := Scalar.addi v202 v201
  let v209 : BitVec 32 := Scalar.select v207 v208 v202
  let c128_i32 : BitVec 32 := 128#32
  let v210 : BitVec 32 := Scalar.muli v209 c128_i32
  ![0, v210.toNat]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_280 : BitVec 32 := 12#32
  let v391 : BitVec 32 := Scalar.addi v2 c12_i32_280
  let c16_i32_281 : BitVec 32 := 16#32
  let c0_i32_282 : BitVec 32 := 0#32
  let v392 : BitVec 1 := Scalar.cmpi .eq c16_i32_281 c0_i32_282
  let c1_i32_283 : BitVec 32 := 1#32
  let v393 : BitVec 32 := Scalar.select v392 c1_i32_283 c16_i32_281
  let v394 : BitVec 32 := Scalar.remsi v391 v393
  let c0_i32_285 : BitVec 32 := 0#32
  let v396 : BitVec 1 := Scalar.cmpi .slt v394 c0_i32_285
  let c0_i32_286 : BitVec 32 := 0#32
  let v397 : BitVec 1 := Scalar.cmpi .slt v393 c0_i32_286
  let v398 : BitVec 1 := Scalar.xori v396 v397
  let c0_i32_284 : BitVec 32 := 0#32
  let v395 : BitVec 1 := Scalar.cmpi .ne v394 c0_i32_284
  let v399 : BitVec 1 := Scalar.andi v398 v395
  let v400 : BitVec 32 := Scalar.addi v394 v393
  let v401 : BitVec 32 := Scalar.select v399 v400 v394
  let c1_i32_287 : BitVec 32 := 1#32
  let v402 : BitVec 32 := Scalar.muli v401 c1_i32_287
  let c0_i32_288 : BitVec 32 := 0#32
  let v403 : BitVec 32 := Scalar.addi v402 c0_i32_288
  let v404 : BitVec 1 := Scalar.cmpi .eq v403 v2
  let v405 : BitVec 32 := Scalar.extui v404
  let c0_i32_289 : BitVec 32 := 0#32
  let v406 : BitVec 1 := Scalar.cmpi .ne v405 c0_i32_289
  v406

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_280 : BitVec 32 := 12#32
  let v391 : BitVec 32 := Scalar.addi v2 c12_i32_280
  let c16_i32_281 : BitVec 32 := 16#32
  let c0_i32_282 : BitVec 32 := 0#32
  let v392 : BitVec 1 := Scalar.cmpi .eq c16_i32_281 c0_i32_282
  let c1_i32_283 : BitVec 32 := 1#32
  let v393 : BitVec 32 := Scalar.select v392 c1_i32_283 c16_i32_281
  let v394 : BitVec 32 := Scalar.remsi v391 v393
  let c0_i32_285 : BitVec 32 := 0#32
  let v396 : BitVec 1 := Scalar.cmpi .slt v394 c0_i32_285
  let c0_i32_286 : BitVec 32 := 0#32
  let v397 : BitVec 1 := Scalar.cmpi .slt v393 c0_i32_286
  let v398 : BitVec 1 := Scalar.xori v396 v397
  let c0_i32_284 : BitVec 32 := 0#32
  let v395 : BitVec 1 := Scalar.cmpi .ne v394 c0_i32_284
  let v399 : BitVec 1 := Scalar.andi v398 v395
  let v400 : BitVec 32 := Scalar.addi v394 v393
  let v401 : BitVec 32 := Scalar.select v399 v400 v394
  let c1_i32_287 : BitVec 32 := 1#32
  let v402 : BitVec 32 := Scalar.muli v401 c1_i32_287
  let c0_i32_288 : BitVec 32 := 0#32
  let v403 : BitVec 32 := Scalar.addi v402 c0_i32_288
  let v407 : BitVec 1 := Scalar.cmpi .ne v403 v2
  let v408 : BitVec 32 := Scalar.extui v407
  let c0_i32_290 : BitVec 32 := 0#32
  let v409 : BitVec 1 := Scalar.cmpi .ne v408 c0_i32_290
  v409

def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_280 : BitVec 32 := 12#32
  let v391 : BitVec 32 := Scalar.addi v2 c12_i32_280
  let c16_i32_281 : BitVec 32 := 16#32
  let c0_i32_282 : BitVec 32 := 0#32
  let v392 : BitVec 1 := Scalar.cmpi .eq c16_i32_281 c0_i32_282
  let c1_i32_283 : BitVec 32 := 1#32
  let v393 : BitVec 32 := Scalar.select v392 c1_i32_283 c16_i32_281
  let v394 : BitVec 32 := Scalar.remsi v391 v393
  let c0_i32_285 : BitVec 32 := 0#32
  let v396 : BitVec 1 := Scalar.cmpi .slt v394 c0_i32_285
  let c0_i32_286 : BitVec 32 := 0#32
  let v397 : BitVec 1 := Scalar.cmpi .slt v393 c0_i32_286
  let v398 : BitVec 1 := Scalar.xori v396 v397
  let c0_i32_284 : BitVec 32 := 0#32
  let v395 : BitVec 1 := Scalar.cmpi .ne v394 c0_i32_284
  let v399 : BitVec 1 := Scalar.andi v398 v395
  let v400 : BitVec 32 := Scalar.addi v394 v393
  let v401 : BitVec 32 := Scalar.select v399 v400 v394
  let c1_i32_287 : BitVec 32 := 1#32
  let v402 : BitVec 32 := Scalar.muli v401 c1_i32_287
  let c0_i32_288 : BitVec 32 := 0#32
  let v403 : BitVec 32 := Scalar.addi v402 c0_i32_288
  let v2092 : Index := Scalar.indexCast v403
  let c0_1535 : Index := 0#32
  let c0_1536 : Index := 0#32
  ![v2092.toNat, 0, 0]
def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_280 : BitVec 32 := 12#32
  let v391 : BitVec 32 := Scalar.addi v2 c12_i32_280
  let c16_i32_281 : BitVec 32 := 16#32
  let c0_i32_282 : BitVec 32 := 0#32
  let v392 : BitVec 1 := Scalar.cmpi .eq c16_i32_281 c0_i32_282
  let c1_i32_283 : BitVec 32 := 1#32
  let v393 : BitVec 32 := Scalar.select v392 c1_i32_283 c16_i32_281
  let v394 : BitVec 32 := Scalar.remsi v391 v393
  let c0_i32_285 : BitVec 32 := 0#32
  let v396 : BitVec 1 := Scalar.cmpi .slt v394 c0_i32_285
  let c0_i32_286 : BitVec 32 := 0#32
  let v397 : BitVec 1 := Scalar.cmpi .slt v393 c0_i32_286
  let v398 : BitVec 1 := Scalar.xori v396 v397
  let c0_i32_284 : BitVec 32 := 0#32
  let v395 : BitVec 1 := Scalar.cmpi .ne v394 c0_i32_284
  let v399 : BitVec 1 := Scalar.andi v398 v395
  let v400 : BitVec 32 := Scalar.addi v394 v393
  let v401 : BitVec 32 := Scalar.select v399 v400 v394
  let c1_i32_287 : BitVec 32 := 1#32
  let v402 : BitVec 32 := Scalar.muli v401 c1_i32_287
  let c0_i32_288 : BitVec 32 := 0#32
  let v403 : BitVec 32 := Scalar.addi v402 c0_i32_288
  ![v403.toNat]
def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_280 : BitVec 32 := 12#32
  let v391 : BitVec 32 := Scalar.addi v2 c12_i32_280
  let c16_i32_281 : BitVec 32 := 16#32
  let c0_i32_282 : BitVec 32 := 0#32
  let v392 : BitVec 1 := Scalar.cmpi .eq c16_i32_281 c0_i32_282
  let c1_i32_283 : BitVec 32 := 1#32
  let v393 : BitVec 32 := Scalar.select v392 c1_i32_283 c16_i32_281
  let v394 : BitVec 32 := Scalar.remsi v391 v393
  let c0_i32_285 : BitVec 32 := 0#32
  let v396 : BitVec 1 := Scalar.cmpi .slt v394 c0_i32_285
  let c0_i32_286 : BitVec 32 := 0#32
  let v397 : BitVec 1 := Scalar.cmpi .slt v393 c0_i32_286
  let v398 : BitVec 1 := Scalar.xori v396 v397
  let c0_i32_284 : BitVec 32 := 0#32
  let v395 : BitVec 1 := Scalar.cmpi .ne v394 c0_i32_284
  let v399 : BitVec 1 := Scalar.andi v398 v395
  let v400 : BitVec 32 := Scalar.addi v394 v393
  let v401 : BitVec 32 := Scalar.select v399 v400 v394
  let c1_i32_287 : BitVec 32 := 1#32
  let v402 : BitVec 32 := Scalar.muli v401 c1_i32_287
  let c0_i32_288 : BitVec 32 := 0#32
  let v403 : BitVec 32 := Scalar.addi v402 c0_i32_288
  let c0_i32_1541 : BitVec 32 := 0#32
  let c0_i32_1542 : BitVec 32 := 0#32
  ![v403.toNat, 0, 0]
def k0_dev16 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_280 : BitVec 32 := 12#32
  let v391 : BitVec 32 := Scalar.addi v2 c12_i32_280
  let c16_i32_281 : BitVec 32 := 16#32
  let c0_i32_282 : BitVec 32 := 0#32
  let v392 : BitVec 1 := Scalar.cmpi .eq c16_i32_281 c0_i32_282
  let c1_i32_283 : BitVec 32 := 1#32
  let v393 : BitVec 32 := Scalar.select v392 c1_i32_283 c16_i32_281
  let v394 : BitVec 32 := Scalar.remsi v391 v393
  let c0_i32_285 : BitVec 32 := 0#32
  let v396 : BitVec 1 := Scalar.cmpi .slt v394 c0_i32_285
  let c0_i32_286 : BitVec 32 := 0#32
  let v397 : BitVec 1 := Scalar.cmpi .slt v393 c0_i32_286
  let v398 : BitVec 1 := Scalar.xori v396 v397
  let c0_i32_284 : BitVec 32 := 0#32
  let v395 : BitVec 1 := Scalar.cmpi .ne v394 c0_i32_284
  let v399 : BitVec 1 := Scalar.andi v398 v395
  let v400 : BitVec 32 := Scalar.addi v394 v393
  let v401 : BitVec 32 := Scalar.select v399 v400 v394
  let c1_i32_287 : BitVec 32 := 1#32
  let v402 : BitVec 32 := Scalar.muli v401 c1_i32_287
  let c0_i32_288 : BitVec 32 := 0#32
  let v403 : BitVec 32 := Scalar.addi v402 c0_i32_288
  let c1_i32_1538 : BitVec 32 := 1#32
  let v2097 : BitVec 32 := Scalar.muli v403 c1_i32_1538
  let v2098 : BitVec 32 := Scalar.addi c0_i32_1539 v2097
  v2098.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v457 : BitVec 32 := Scalar.addi v2 c13_i32_327
  let c16_i32_328 : BitVec 32 := 16#32
  let c0_i32_329 : BitVec 32 := 0#32
  let v458 : BitVec 1 := Scalar.cmpi .eq c16_i32_328 c0_i32_329
  let c1_i32_330 : BitVec 32 := 1#32
  let v459 : BitVec 32 := Scalar.select v458 c1_i32_330 c16_i32_328
  let v460 : BitVec 32 := Scalar.remsi v457 v459
  let c0_i32_332 : BitVec 32 := 0#32
  let v462 : BitVec 1 := Scalar.cmpi .slt v460 c0_i32_332
  let c0_i32_333 : BitVec 32 := 0#32
  let v463 : BitVec 1 := Scalar.cmpi .slt v459 c0_i32_333
  let v464 : BitVec 1 := Scalar.xori v462 v463
  let c0_i32_331 : BitVec 32 := 0#32
  let v461 : BitVec 1 := Scalar.cmpi .ne v460 c0_i32_331
  let v465 : BitVec 1 := Scalar.andi v464 v461
  let v466 : BitVec 32 := Scalar.addi v460 v459
  let v467 : BitVec 32 := Scalar.select v465 v466 v460
  let c1_i32_334 : BitVec 32 := 1#32
  let v468 : BitVec 32 := Scalar.muli v467 c1_i32_334
  let c0_i32_335 : BitVec 32 := 0#32
  let v469 : BitVec 32 := Scalar.addi v468 c0_i32_335
  let v470 : BitVec 1 := Scalar.cmpi .eq v469 v2
  let v471 : BitVec 32 := Scalar.extui v470
  let c0_i32_336 : BitVec 32 := 0#32
  let v472 : BitVec 1 := Scalar.cmpi .ne v471 c0_i32_336
  v472

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v457 : BitVec 32 := Scalar.addi v2 c13_i32_327
  let c16_i32_328 : BitVec 32 := 16#32
  let c0_i32_329 : BitVec 32 := 0#32
  let v458 : BitVec 1 := Scalar.cmpi .eq c16_i32_328 c0_i32_329
  let c1_i32_330 : BitVec 32 := 1#32
  let v459 : BitVec 32 := Scalar.select v458 c1_i32_330 c16_i32_328
  let v460 : BitVec 32 := Scalar.remsi v457 v459
  let c0_i32_332 : BitVec 32 := 0#32
  let v462 : BitVec 1 := Scalar.cmpi .slt v460 c0_i32_332
  let c0_i32_333 : BitVec 32 := 0#32
  let v463 : BitVec 1 := Scalar.cmpi .slt v459 c0_i32_333
  let v464 : BitVec 1 := Scalar.xori v462 v463
  let c0_i32_331 : BitVec 32 := 0#32
  let v461 : BitVec 1 := Scalar.cmpi .ne v460 c0_i32_331
  let v465 : BitVec 1 := Scalar.andi v464 v461
  let v466 : BitVec 32 := Scalar.addi v460 v459
  let v467 : BitVec 32 := Scalar.select v465 v466 v460
  let c1_i32_334 : BitVec 32 := 1#32
  let v468 : BitVec 32 := Scalar.muli v467 c1_i32_334
  let c0_i32_335 : BitVec 32 := 0#32
  let v469 : BitVec 32 := Scalar.addi v468 c0_i32_335
  let v473 : BitVec 1 := Scalar.cmpi .ne v469 v2
  let v474 : BitVec 32 := Scalar.extui v473
  let c0_i32_337 : BitVec 32 := 0#32
  let v475 : BitVec 1 := Scalar.cmpi .ne v474 c0_i32_337
  v475

def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v457 : BitVec 32 := Scalar.addi v2 c13_i32_327
  let c16_i32_328 : BitVec 32 := 16#32
  let c0_i32_329 : BitVec 32 := 0#32
  let v458 : BitVec 1 := Scalar.cmpi .eq c16_i32_328 c0_i32_329
  let c1_i32_330 : BitVec 32 := 1#32
  let v459 : BitVec 32 := Scalar.select v458 c1_i32_330 c16_i32_328
  let v460 : BitVec 32 := Scalar.remsi v457 v459
  let c0_i32_332 : BitVec 32 := 0#32
  let v462 : BitVec 1 := Scalar.cmpi .slt v460 c0_i32_332
  let c0_i32_333 : BitVec 32 := 0#32
  let v463 : BitVec 1 := Scalar.cmpi .slt v459 c0_i32_333
  let v464 : BitVec 1 := Scalar.xori v462 v463
  let c0_i32_331 : BitVec 32 := 0#32
  let v461 : BitVec 1 := Scalar.cmpi .ne v460 c0_i32_331
  let v465 : BitVec 1 := Scalar.andi v464 v461
  let v466 : BitVec 32 := Scalar.addi v460 v459
  let v467 : BitVec 32 := Scalar.select v465 v466 v460
  let c1_i32_334 : BitVec 32 := 1#32
  let v468 : BitVec 32 := Scalar.muli v467 c1_i32_334
  let c0_i32_335 : BitVec 32 := 0#32
  let v469 : BitVec 32 := Scalar.addi v468 c0_i32_335
  let v2092 : Index := Scalar.indexCast v469
  let c0_1535 : Index := 0#32
  let c0_1536 : Index := 0#32
  ![v2092.toNat, 0, 0]
def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v457 : BitVec 32 := Scalar.addi v2 c13_i32_327
  let c16_i32_328 : BitVec 32 := 16#32
  let c0_i32_329 : BitVec 32 := 0#32
  let v458 : BitVec 1 := Scalar.cmpi .eq c16_i32_328 c0_i32_329
  let c1_i32_330 : BitVec 32 := 1#32
  let v459 : BitVec 32 := Scalar.select v458 c1_i32_330 c16_i32_328
  let v460 : BitVec 32 := Scalar.remsi v457 v459
  let c0_i32_332 : BitVec 32 := 0#32
  let v462 : BitVec 1 := Scalar.cmpi .slt v460 c0_i32_332
  let c0_i32_333 : BitVec 32 := 0#32
  let v463 : BitVec 1 := Scalar.cmpi .slt v459 c0_i32_333
  let v464 : BitVec 1 := Scalar.xori v462 v463
  let c0_i32_331 : BitVec 32 := 0#32
  let v461 : BitVec 1 := Scalar.cmpi .ne v460 c0_i32_331
  let v465 : BitVec 1 := Scalar.andi v464 v461
  let v466 : BitVec 32 := Scalar.addi v460 v459
  let v467 : BitVec 32 := Scalar.select v465 v466 v460
  let c1_i32_334 : BitVec 32 := 1#32
  let v468 : BitVec 32 := Scalar.muli v467 c1_i32_334
  let c0_i32_335 : BitVec 32 := 0#32
  let v469 : BitVec 32 := Scalar.addi v468 c0_i32_335
  ![v469.toNat]
def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v457 : BitVec 32 := Scalar.addi v2 c13_i32_327
  let c16_i32_328 : BitVec 32 := 16#32
  let c0_i32_329 : BitVec 32 := 0#32
  let v458 : BitVec 1 := Scalar.cmpi .eq c16_i32_328 c0_i32_329
  let c1_i32_330 : BitVec 32 := 1#32
  let v459 : BitVec 32 := Scalar.select v458 c1_i32_330 c16_i32_328
  let v460 : BitVec 32 := Scalar.remsi v457 v459
  let c0_i32_332 : BitVec 32 := 0#32
  let v462 : BitVec 1 := Scalar.cmpi .slt v460 c0_i32_332
  let c0_i32_333 : BitVec 32 := 0#32
  let v463 : BitVec 1 := Scalar.cmpi .slt v459 c0_i32_333
  let v464 : BitVec 1 := Scalar.xori v462 v463
  let c0_i32_331 : BitVec 32 := 0#32
  let v461 : BitVec 1 := Scalar.cmpi .ne v460 c0_i32_331
  let v465 : BitVec 1 := Scalar.andi v464 v461
  let v466 : BitVec 32 := Scalar.addi v460 v459
  let v467 : BitVec 32 := Scalar.select v465 v466 v460
  let c1_i32_334 : BitVec 32 := 1#32
  let v468 : BitVec 32 := Scalar.muli v467 c1_i32_334
  let c0_i32_335 : BitVec 32 := 0#32
  let v469 : BitVec 32 := Scalar.addi v468 c0_i32_335
  let c0_i32_1541 : BitVec 32 := 0#32
  let c0_i32_1542 : BitVec 32 := 0#32
  ![v469.toNat, 0, 0]
def k0_dev17 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_327 : BitVec 32 := 13#32
  let v457 : BitVec 32 := Scalar.addi v2 c13_i32_327
  let c16_i32_328 : BitVec 32 := 16#32
  let c0_i32_329 : BitVec 32 := 0#32
  let v458 : BitVec 1 := Scalar.cmpi .eq c16_i32_328 c0_i32_329
  let c1_i32_330 : BitVec 32 := 1#32
  let v459 : BitVec 32 := Scalar.select v458 c1_i32_330 c16_i32_328
  let v460 : BitVec 32 := Scalar.remsi v457 v459
  let c0_i32_332 : BitVec 32 := 0#32
  let v462 : BitVec 1 := Scalar.cmpi .slt v460 c0_i32_332
  let c0_i32_333 : BitVec 32 := 0#32
  let v463 : BitVec 1 := Scalar.cmpi .slt v459 c0_i32_333
  let v464 : BitVec 1 := Scalar.xori v462 v463
  let c0_i32_331 : BitVec 32 := 0#32
  let v461 : BitVec 1 := Scalar.cmpi .ne v460 c0_i32_331
  let v465 : BitVec 1 := Scalar.andi v464 v461
  let v466 : BitVec 32 := Scalar.addi v460 v459
  let v467 : BitVec 32 := Scalar.select v465 v466 v460
  let c1_i32_334 : BitVec 32 := 1#32
  let v468 : BitVec 32 := Scalar.muli v467 c1_i32_334
  let c0_i32_335 : BitVec 32 := 0#32
  let v469 : BitVec 32 := Scalar.addi v468 c0_i32_335
  let c1_i32_1538 : BitVec 32 := 1#32
  let v2097 : BitVec 32 := Scalar.muli v469 c1_i32_1538
  let v2098 : BitVec 32 := Scalar.addi c0_i32_1539 v2097
  v2098.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_374 : BitVec 32 := 14#32
  let v523 : BitVec 32 := Scalar.addi v2 c14_i32_374
  let c16_i32_375 : BitVec 32 := 16#32
  let c0_i32_376 : BitVec 32 := 0#32
  let v524 : BitVec 1 := Scalar.cmpi .eq c16_i32_375 c0_i32_376
  let c1_i32_377 : BitVec 32 := 1#32
  let v525 : BitVec 32 := Scalar.select v524 c1_i32_377 c16_i32_375
  let v526 : BitVec 32 := Scalar.remsi v523 v525
  let c0_i32_379 : BitVec 32 := 0#32
  let v528 : BitVec 1 := Scalar.cmpi .slt v526 c0_i32_379
  let c0_i32_380 : BitVec 32 := 0#32
  let v529 : BitVec 1 := Scalar.cmpi .slt v525 c0_i32_380
  let v530 : BitVec 1 := Scalar.xori v528 v529
  let c0_i32_378 : BitVec 32 := 0#32
  let v527 : BitVec 1 := Scalar.cmpi .ne v526 c0_i32_378
  let v531 : BitVec 1 := Scalar.andi v530 v527
  let v532 : BitVec 32 := Scalar.addi v526 v525
  let v533 : BitVec 32 := Scalar.select v531 v532 v526
  let c1_i32_381 : BitVec 32 := 1#32
  let v534 : BitVec 32 := Scalar.muli v533 c1_i32_381
  let c0_i32_382 : BitVec 32 := 0#32
  let v535 : BitVec 32 := Scalar.addi v534 c0_i32_382
  let v536 : BitVec 1 := Scalar.cmpi .eq v535 v2
  let v537 : BitVec 32 := Scalar.extui v536
  let c0_i32_383 : BitVec 32 := 0#32
  let v538 : BitVec 1 := Scalar.cmpi .ne v537 c0_i32_383
  v538

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_374 : BitVec 32 := 14#32
  let v523 : BitVec 32 := Scalar.addi v2 c14_i32_374
  let c16_i32_375 : BitVec 32 := 16#32
  let c0_i32_376 : BitVec 32 := 0#32
  let v524 : BitVec 1 := Scalar.cmpi .eq c16_i32_375 c0_i32_376
  let c1_i32_377 : BitVec 32 := 1#32
  let v525 : BitVec 32 := Scalar.select v524 c1_i32_377 c16_i32_375
  let v526 : BitVec 32 := Scalar.remsi v523 v525
  let c0_i32_379 : BitVec 32 := 0#32
  let v528 : BitVec 1 := Scalar.cmpi .slt v526 c0_i32_379
  let c0_i32_380 : BitVec 32 := 0#32
  let v529 : BitVec 1 := Scalar.cmpi .slt v525 c0_i32_380
  let v530 : BitVec 1 := Scalar.xori v528 v529
  let c0_i32_378 : BitVec 32 := 0#32
  let v527 : BitVec 1 := Scalar.cmpi .ne v526 c0_i32_378
  let v531 : BitVec 1 := Scalar.andi v530 v527
  let v532 : BitVec 32 := Scalar.addi v526 v525
  let v533 : BitVec 32 := Scalar.select v531 v532 v526
  let c1_i32_381 : BitVec 32 := 1#32
  let v534 : BitVec 32 := Scalar.muli v533 c1_i32_381
  let c0_i32_382 : BitVec 32 := 0#32
  let v535 : BitVec 32 := Scalar.addi v534 c0_i32_382
  let v539 : BitVec 1 := Scalar.cmpi .ne v535 v2
  let v540 : BitVec 32 := Scalar.extui v539
  let c0_i32_384 : BitVec 32 := 0#32
  let v541 : BitVec 1 := Scalar.cmpi .ne v540 c0_i32_384
  v541

def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_374 : BitVec 32 := 14#32
  let v523 : BitVec 32 := Scalar.addi v2 c14_i32_374
  let c16_i32_375 : BitVec 32 := 16#32
  let c0_i32_376 : BitVec 32 := 0#32
  let v524 : BitVec 1 := Scalar.cmpi .eq c16_i32_375 c0_i32_376
  let c1_i32_377 : BitVec 32 := 1#32
  let v525 : BitVec 32 := Scalar.select v524 c1_i32_377 c16_i32_375
  let v526 : BitVec 32 := Scalar.remsi v523 v525
  let c0_i32_379 : BitVec 32 := 0#32
  let v528 : BitVec 1 := Scalar.cmpi .slt v526 c0_i32_379
  let c0_i32_380 : BitVec 32 := 0#32
  let v529 : BitVec 1 := Scalar.cmpi .slt v525 c0_i32_380
  let v530 : BitVec 1 := Scalar.xori v528 v529
  let c0_i32_378 : BitVec 32 := 0#32
  let v527 : BitVec 1 := Scalar.cmpi .ne v526 c0_i32_378
  let v531 : BitVec 1 := Scalar.andi v530 v527
  let v532 : BitVec 32 := Scalar.addi v526 v525
  let v533 : BitVec 32 := Scalar.select v531 v532 v526
  let c1_i32_381 : BitVec 32 := 1#32
  let v534 : BitVec 32 := Scalar.muli v533 c1_i32_381
  let c0_i32_382 : BitVec 32 := 0#32
  let v535 : BitVec 32 := Scalar.addi v534 c0_i32_382
  let v2092 : Index := Scalar.indexCast v535
  let c0_1535 : Index := 0#32
  let c0_1536 : Index := 0#32
  ![v2092.toNat, 0, 0]
def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_374 : BitVec 32 := 14#32
  let v523 : BitVec 32 := Scalar.addi v2 c14_i32_374
  let c16_i32_375 : BitVec 32 := 16#32
  let c0_i32_376 : BitVec 32 := 0#32
  let v524 : BitVec 1 := Scalar.cmpi .eq c16_i32_375 c0_i32_376
  let c1_i32_377 : BitVec 32 := 1#32
  let v525 : BitVec 32 := Scalar.select v524 c1_i32_377 c16_i32_375
  let v526 : BitVec 32 := Scalar.remsi v523 v525
  let c0_i32_379 : BitVec 32 := 0#32
  let v528 : BitVec 1 := Scalar.cmpi .slt v526 c0_i32_379
  let c0_i32_380 : BitVec 32 := 0#32
  let v529 : BitVec 1 := Scalar.cmpi .slt v525 c0_i32_380
  let v530 : BitVec 1 := Scalar.xori v528 v529
  let c0_i32_378 : BitVec 32 := 0#32
  let v527 : BitVec 1 := Scalar.cmpi .ne v526 c0_i32_378
  let v531 : BitVec 1 := Scalar.andi v530 v527
  let v532 : BitVec 32 := Scalar.addi v526 v525
  let v533 : BitVec 32 := Scalar.select v531 v532 v526
  let c1_i32_381 : BitVec 32 := 1#32
  let v534 : BitVec 32 := Scalar.muli v533 c1_i32_381
  let c0_i32_382 : BitVec 32 := 0#32
  let v535 : BitVec 32 := Scalar.addi v534 c0_i32_382
  ![v535.toNat]
def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_374 : BitVec 32 := 14#32
  let v523 : BitVec 32 := Scalar.addi v2 c14_i32_374
  let c16_i32_375 : BitVec 32 := 16#32
  let c0_i32_376 : BitVec 32 := 0#32
  let v524 : BitVec 1 := Scalar.cmpi .eq c16_i32_375 c0_i32_376
  let c1_i32_377 : BitVec 32 := 1#32
  let v525 : BitVec 32 := Scalar.select v524 c1_i32_377 c16_i32_375
  let v526 : BitVec 32 := Scalar.remsi v523 v525
  let c0_i32_379 : BitVec 32 := 0#32
  let v528 : BitVec 1 := Scalar.cmpi .slt v526 c0_i32_379
  let c0_i32_380 : BitVec 32 := 0#32
  let v529 : BitVec 1 := Scalar.cmpi .slt v525 c0_i32_380
  let v530 : BitVec 1 := Scalar.xori v528 v529
  let c0_i32_378 : BitVec 32 := 0#32
  let v527 : BitVec 1 := Scalar.cmpi .ne v526 c0_i32_378
  let v531 : BitVec 1 := Scalar.andi v530 v527
  let v532 : BitVec 32 := Scalar.addi v526 v525
  let v533 : BitVec 32 := Scalar.select v531 v532 v526
  let c1_i32_381 : BitVec 32 := 1#32
  let v534 : BitVec 32 := Scalar.muli v533 c1_i32_381
  let c0_i32_382 : BitVec 32 := 0#32
  let v535 : BitVec 32 := Scalar.addi v534 c0_i32_382
  let c0_i32_1541 : BitVec 32 := 0#32
  let c0_i32_1542 : BitVec 32 := 0#32
  ![v535.toNat, 0, 0]
def k0_dev18 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_374 : BitVec 32 := 14#32
  let v523 : BitVec 32 := Scalar.addi v2 c14_i32_374
  let c16_i32_375 : BitVec 32 := 16#32
  let c0_i32_376 : BitVec 32 := 0#32
  let v524 : BitVec 1 := Scalar.cmpi .eq c16_i32_375 c0_i32_376
  let c1_i32_377 : BitVec 32 := 1#32
  let v525 : BitVec 32 := Scalar.select v524 c1_i32_377 c16_i32_375
  let v526 : BitVec 32 := Scalar.remsi v523 v525
  let c0_i32_379 : BitVec 32 := 0#32
  let v528 : BitVec 1 := Scalar.cmpi .slt v526 c0_i32_379
  let c0_i32_380 : BitVec 32 := 0#32
  let v529 : BitVec 1 := Scalar.cmpi .slt v525 c0_i32_380
  let v530 : BitVec 1 := Scalar.xori v528 v529
  let c0_i32_378 : BitVec 32 := 0#32
  let v527 : BitVec 1 := Scalar.cmpi .ne v526 c0_i32_378
  let v531 : BitVec 1 := Scalar.andi v530 v527
  let v532 : BitVec 32 := Scalar.addi v526 v525
  let v533 : BitVec 32 := Scalar.select v531 v532 v526
  let c1_i32_381 : BitVec 32 := 1#32
  let v534 : BitVec 32 := Scalar.muli v533 c1_i32_381
  let c0_i32_382 : BitVec 32 := 0#32
  let v535 : BitVec 32 := Scalar.addi v534 c0_i32_382
  let c1_i32_1538 : BitVec 32 := 1#32
  let v2097 : BitVec 32 := Scalar.muli v535 c1_i32_1538
  let v2098 : BitVec 32 := Scalar.addi c0_i32_1539 v2097
  v2098.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_421 : BitVec 32 := 15#32
  let v589 : BitVec 32 := Scalar.addi v2 c15_i32_421
  let c16_i32_422 : BitVec 32 := 16#32
  let c0_i32_423 : BitVec 32 := 0#32
  let v590 : BitVec 1 := Scalar.cmpi .eq c16_i32_422 c0_i32_423
  let c1_i32_424 : BitVec 32 := 1#32
  let v591 : BitVec 32 := Scalar.select v590 c1_i32_424 c16_i32_422
  let v592 : BitVec 32 := Scalar.remsi v589 v591
  let c0_i32_426 : BitVec 32 := 0#32
  let v594 : BitVec 1 := Scalar.cmpi .slt v592 c0_i32_426
  let c0_i32_427 : BitVec 32 := 0#32
  let v595 : BitVec 1 := Scalar.cmpi .slt v591 c0_i32_427
  let v596 : BitVec 1 := Scalar.xori v594 v595
  let c0_i32_425 : BitVec 32 := 0#32
  let v593 : BitVec 1 := Scalar.cmpi .ne v592 c0_i32_425
  let v597 : BitVec 1 := Scalar.andi v596 v593
  let v598 : BitVec 32 := Scalar.addi v592 v591
  let v599 : BitVec 32 := Scalar.select v597 v598 v592
  let c1_i32_428 : BitVec 32 := 1#32
  let v600 : BitVec 32 := Scalar.muli v599 c1_i32_428
  let c0_i32_429 : BitVec 32 := 0#32
  let v601 : BitVec 32 := Scalar.addi v600 c0_i32_429
  let v602 : BitVec 1 := Scalar.cmpi .eq v601 v2
  let v603 : BitVec 32 := Scalar.extui v602
  let c0_i32_430 : BitVec 32 := 0#32
  let v604 : BitVec 1 := Scalar.cmpi .ne v603 c0_i32_430
  v604

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_421 : BitVec 32 := 15#32
  let v589 : BitVec 32 := Scalar.addi v2 c15_i32_421
  let c16_i32_422 : BitVec 32 := 16#32
  let c0_i32_423 : BitVec 32 := 0#32
  let v590 : BitVec 1 := Scalar.cmpi .eq c16_i32_422 c0_i32_423
  let c1_i32_424 : BitVec 32 := 1#32
  let v591 : BitVec 32 := Scalar.select v590 c1_i32_424 c16_i32_422
  let v592 : BitVec 32 := Scalar.remsi v589 v591
  let c0_i32_426 : BitVec 32 := 0#32
  let v594 : BitVec 1 := Scalar.cmpi .slt v592 c0_i32_426
  let c0_i32_427 : BitVec 32 := 0#32
  let v595 : BitVec 1 := Scalar.cmpi .slt v591 c0_i32_427
  let v596 : BitVec 1 := Scalar.xori v594 v595
  let c0_i32_425 : BitVec 32 := 0#32
  let v593 : BitVec 1 := Scalar.cmpi .ne v592 c0_i32_425
  let v597 : BitVec 1 := Scalar.andi v596 v593
  let v598 : BitVec 32 := Scalar.addi v592 v591
  let v599 : BitVec 32 := Scalar.select v597 v598 v592
  let c1_i32_428 : BitVec 32 := 1#32
  let v600 : BitVec 32 := Scalar.muli v599 c1_i32_428
  let c0_i32_429 : BitVec 32 := 0#32
  let v601 : BitVec 32 := Scalar.addi v600 c0_i32_429
  let v605 : BitVec 1 := Scalar.cmpi .ne v601 v2
  let v606 : BitVec 32 := Scalar.extui v605
  let c0_i32_431 : BitVec 32 := 0#32
  let v607 : BitVec 1 := Scalar.cmpi .ne v606 c0_i32_431
  v607

def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_421 : BitVec 32 := 15#32
  let v589 : BitVec 32 := Scalar.addi v2 c15_i32_421
  let c16_i32_422 : BitVec 32 := 16#32
  let c0_i32_423 : BitVec 32 := 0#32
  let v590 : BitVec 1 := Scalar.cmpi .eq c16_i32_422 c0_i32_423
  let c1_i32_424 : BitVec 32 := 1#32
  let v591 : BitVec 32 := Scalar.select v590 c1_i32_424 c16_i32_422
  let v592 : BitVec 32 := Scalar.remsi v589 v591
  let c0_i32_426 : BitVec 32 := 0#32
  let v594 : BitVec 1 := Scalar.cmpi .slt v592 c0_i32_426
  let c0_i32_427 : BitVec 32 := 0#32
  let v595 : BitVec 1 := Scalar.cmpi .slt v591 c0_i32_427
  let v596 : BitVec 1 := Scalar.xori v594 v595
  let c0_i32_425 : BitVec 32 := 0#32
  let v593 : BitVec 1 := Scalar.cmpi .ne v592 c0_i32_425
  let v597 : BitVec 1 := Scalar.andi v596 v593
  let v598 : BitVec 32 := Scalar.addi v592 v591
  let v599 : BitVec 32 := Scalar.select v597 v598 v592
  let c1_i32_428 : BitVec 32 := 1#32
  let v600 : BitVec 32 := Scalar.muli v599 c1_i32_428
  let c0_i32_429 : BitVec 32 := 0#32
  let v601 : BitVec 32 := Scalar.addi v600 c0_i32_429
  let v2092 : Index := Scalar.indexCast v601
  let c0_1535 : Index := 0#32
  let c0_1536 : Index := 0#32
  ![v2092.toNat, 0, 0]
def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_421 : BitVec 32 := 15#32
  let v589 : BitVec 32 := Scalar.addi v2 c15_i32_421
  let c16_i32_422 : BitVec 32 := 16#32
  let c0_i32_423 : BitVec 32 := 0#32
  let v590 : BitVec 1 := Scalar.cmpi .eq c16_i32_422 c0_i32_423
  let c1_i32_424 : BitVec 32 := 1#32
  let v591 : BitVec 32 := Scalar.select v590 c1_i32_424 c16_i32_422
  let v592 : BitVec 32 := Scalar.remsi v589 v591
  let c0_i32_426 : BitVec 32 := 0#32
  let v594 : BitVec 1 := Scalar.cmpi .slt v592 c0_i32_426
  let c0_i32_427 : BitVec 32 := 0#32
  let v595 : BitVec 1 := Scalar.cmpi .slt v591 c0_i32_427
  let v596 : BitVec 1 := Scalar.xori v594 v595
  let c0_i32_425 : BitVec 32 := 0#32
  let v593 : BitVec 1 := Scalar.cmpi .ne v592 c0_i32_425
  let v597 : BitVec 1 := Scalar.andi v596 v593
  let v598 : BitVec 32 := Scalar.addi v592 v591
  let v599 : BitVec 32 := Scalar.select v597 v598 v592
  let c1_i32_428 : BitVec 32 := 1#32
  let v600 : BitVec 32 := Scalar.muli v599 c1_i32_428
  let c0_i32_429 : BitVec 32 := 0#32
  let v601 : BitVec 32 := Scalar.addi v600 c0_i32_429
  ![v601.toNat]
def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_421 : BitVec 32 := 15#32
  let v589 : BitVec 32 := Scalar.addi v2 c15_i32_421
  let c16_i32_422 : BitVec 32 := 16#32
  let c0_i32_423 : BitVec 32 := 0#32
  let v590 : BitVec 1 := Scalar.cmpi .eq c16_i32_422 c0_i32_423
  let c1_i32_424 : BitVec 32 := 1#32
  let v591 : BitVec 32 := Scalar.select v590 c1_i32_424 c16_i32_422
  let v592 : BitVec 32 := Scalar.remsi v589 v591
  let c0_i32_426 : BitVec 32 := 0#32
  let v594 : BitVec 1 := Scalar.cmpi .slt v592 c0_i32_426
  let c0_i32_427 : BitVec 32 := 0#32
  let v595 : BitVec 1 := Scalar.cmpi .slt v591 c0_i32_427
  let v596 : BitVec 1 := Scalar.xori v594 v595
  let c0_i32_425 : BitVec 32 := 0#32
  let v593 : BitVec 1 := Scalar.cmpi .ne v592 c0_i32_425
  let v597 : BitVec 1 := Scalar.andi v596 v593
  let v598 : BitVec 32 := Scalar.addi v592 v591
  let v599 : BitVec 32 := Scalar.select v597 v598 v592
  let c1_i32_428 : BitVec 32 := 1#32
  let v600 : BitVec 32 := Scalar.muli v599 c1_i32_428
  let c0_i32_429 : BitVec 32 := 0#32
  let v601 : BitVec 32 := Scalar.addi v600 c0_i32_429
  let c0_i32_1541 : BitVec 32 := 0#32
  let c0_i32_1542 : BitVec 32 := 0#32
  ![v601.toNat, 0, 0]
def k0_dev19 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_421 : BitVec 32 := 15#32
  let v589 : BitVec 32 := Scalar.addi v2 c15_i32_421
  let c16_i32_422 : BitVec 32 := 16#32
  let c0_i32_423 : BitVec 32 := 0#32
  let v590 : BitVec 1 := Scalar.cmpi .eq c16_i32_422 c0_i32_423
  let c1_i32_424 : BitVec 32 := 1#32
  let v591 : BitVec 32 := Scalar.select v590 c1_i32_424 c16_i32_422
  let v592 : BitVec 32 := Scalar.remsi v589 v591
  let c0_i32_426 : BitVec 32 := 0#32
  let v594 : BitVec 1 := Scalar.cmpi .slt v592 c0_i32_426
  let c0_i32_427 : BitVec 32 := 0#32
  let v595 : BitVec 1 := Scalar.cmpi .slt v591 c0_i32_427
  let v596 : BitVec 1 := Scalar.xori v594 v595
  let c0_i32_425 : BitVec 32 := 0#32
  let v593 : BitVec 1 := Scalar.cmpi .ne v592 c0_i32_425
  let v597 : BitVec 1 := Scalar.andi v596 v593
  let v598 : BitVec 32 := Scalar.addi v592 v591
  let v599 : BitVec 32 := Scalar.select v597 v598 v592
  let c1_i32_428 : BitVec 32 := 1#32
  let v600 : BitVec 32 := Scalar.muli v599 c1_i32_428
  let c0_i32_429 : BitVec 32 := 0#32
  let v601 : BitVec 32 := Scalar.addi v600 c0_i32_429
  let c1_i32_1538 : BitVec 32 := 1#32
  let v2097 : BitVec 32 := Scalar.muli v601 c1_i32_1538
  let v2098 : BitVec 32 := Scalar.addi c0_i32_1539 v2097
  v2098.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_468 : BitVec 32 := 8#32
  let v655 : BitVec 32 := Scalar.addi v2 c8_i32_468
  let c16_i32_469 : BitVec 32 := 16#32
  let c0_i32_470 : BitVec 32 := 0#32
  let v656 : BitVec 1 := Scalar.cmpi .eq c16_i32_469 c0_i32_470
  let c1_i32_471 : BitVec 32 := 1#32
  let v657 : BitVec 32 := Scalar.select v656 c1_i32_471 c16_i32_469
  let v658 : BitVec 32 := Scalar.remsi v655 v657
  let c0_i32_473 : BitVec 32 := 0#32
  let v660 : BitVec 1 := Scalar.cmpi .slt v658 c0_i32_473
  let c0_i32_474 : BitVec 32 := 0#32
  let v661 : BitVec 1 := Scalar.cmpi .slt v657 c0_i32_474
  let v662 : BitVec 1 := Scalar.xori v660 v661
  let c0_i32_472 : BitVec 32 := 0#32
  let v659 : BitVec 1 := Scalar.cmpi .ne v658 c0_i32_472
  let v663 : BitVec 1 := Scalar.andi v662 v659
  let v664 : BitVec 32 := Scalar.addi v658 v657
  let v665 : BitVec 32 := Scalar.select v663 v664 v658
  let c1_i32_475 : BitVec 32 := 1#32
  let v666 : BitVec 32 := Scalar.muli v665 c1_i32_475
  let c0_i32_476 : BitVec 32 := 0#32
  let v667 : BitVec 32 := Scalar.addi v666 c0_i32_476
  let v668 : BitVec 1 := Scalar.cmpi .eq v667 v2
  let v669 : BitVec 32 := Scalar.extui v668
  let c0_i32_477 : BitVec 32 := 0#32
  let v670 : BitVec 1 := Scalar.cmpi .ne v669 c0_i32_477
  v670

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_468 : BitVec 32 := 8#32
  let v655 : BitVec 32 := Scalar.addi v2 c8_i32_468
  let c16_i32_469 : BitVec 32 := 16#32
  let c0_i32_470 : BitVec 32 := 0#32
  let v656 : BitVec 1 := Scalar.cmpi .eq c16_i32_469 c0_i32_470
  let c1_i32_471 : BitVec 32 := 1#32
  let v657 : BitVec 32 := Scalar.select v656 c1_i32_471 c16_i32_469
  let v658 : BitVec 32 := Scalar.remsi v655 v657
  let c0_i32_473 : BitVec 32 := 0#32
  let v660 : BitVec 1 := Scalar.cmpi .slt v658 c0_i32_473
  let c0_i32_474 : BitVec 32 := 0#32
  let v661 : BitVec 1 := Scalar.cmpi .slt v657 c0_i32_474
  let v662 : BitVec 1 := Scalar.xori v660 v661
  let c0_i32_472 : BitVec 32 := 0#32
  let v659 : BitVec 1 := Scalar.cmpi .ne v658 c0_i32_472
  let v663 : BitVec 1 := Scalar.andi v662 v659
  let v664 : BitVec 32 := Scalar.addi v658 v657
  let v665 : BitVec 32 := Scalar.select v663 v664 v658
  let c1_i32_475 : BitVec 32 := 1#32
  let v666 : BitVec 32 := Scalar.muli v665 c1_i32_475
  let c0_i32_476 : BitVec 32 := 0#32
  let v667 : BitVec 32 := Scalar.addi v666 c0_i32_476
  let v671 : BitVec 1 := Scalar.cmpi .ne v667 v2
  let v672 : BitVec 32 := Scalar.extui v671
  let c0_i32_478 : BitVec 32 := 0#32
  let v673 : BitVec 1 := Scalar.cmpi .ne v672 c0_i32_478
  v673

def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_468 : BitVec 32 := 8#32
  let v655 : BitVec 32 := Scalar.addi v2 c8_i32_468
  let c16_i32_469 : BitVec 32 := 16#32
  let c0_i32_470 : BitVec 32 := 0#32
  let v656 : BitVec 1 := Scalar.cmpi .eq c16_i32_469 c0_i32_470
  let c1_i32_471 : BitVec 32 := 1#32
  let v657 : BitVec 32 := Scalar.select v656 c1_i32_471 c16_i32_469
  let v658 : BitVec 32 := Scalar.remsi v655 v657
  let c0_i32_473 : BitVec 32 := 0#32
  let v660 : BitVec 1 := Scalar.cmpi .slt v658 c0_i32_473
  let c0_i32_474 : BitVec 32 := 0#32
  let v661 : BitVec 1 := Scalar.cmpi .slt v657 c0_i32_474
  let v662 : BitVec 1 := Scalar.xori v660 v661
  let c0_i32_472 : BitVec 32 := 0#32
  let v659 : BitVec 1 := Scalar.cmpi .ne v658 c0_i32_472
  let v663 : BitVec 1 := Scalar.andi v662 v659
  let v664 : BitVec 32 := Scalar.addi v658 v657
  let v665 : BitVec 32 := Scalar.select v663 v664 v658
  let c1_i32_475 : BitVec 32 := 1#32
  let v666 : BitVec 32 := Scalar.muli v665 c1_i32_475
  let c0_i32_476 : BitVec 32 := 0#32
  let v667 : BitVec 32 := Scalar.addi v666 c0_i32_476
  let v2092 : Index := Scalar.indexCast v667
  let c0_1535 : Index := 0#32
  let c0_1536 : Index := 0#32
  ![v2092.toNat, 0, 0]
def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_468 : BitVec 32 := 8#32
  let v655 : BitVec 32 := Scalar.addi v2 c8_i32_468
  let c16_i32_469 : BitVec 32 := 16#32
  let c0_i32_470 : BitVec 32 := 0#32
  let v656 : BitVec 1 := Scalar.cmpi .eq c16_i32_469 c0_i32_470
  let c1_i32_471 : BitVec 32 := 1#32
  let v657 : BitVec 32 := Scalar.select v656 c1_i32_471 c16_i32_469
  let v658 : BitVec 32 := Scalar.remsi v655 v657
  let c0_i32_473 : BitVec 32 := 0#32
  let v660 : BitVec 1 := Scalar.cmpi .slt v658 c0_i32_473
  let c0_i32_474 : BitVec 32 := 0#32
  let v661 : BitVec 1 := Scalar.cmpi .slt v657 c0_i32_474
  let v662 : BitVec 1 := Scalar.xori v660 v661
  let c0_i32_472 : BitVec 32 := 0#32
  let v659 : BitVec 1 := Scalar.cmpi .ne v658 c0_i32_472
  let v663 : BitVec 1 := Scalar.andi v662 v659
  let v664 : BitVec 32 := Scalar.addi v658 v657
  let v665 : BitVec 32 := Scalar.select v663 v664 v658
  let c1_i32_475 : BitVec 32 := 1#32
  let v666 : BitVec 32 := Scalar.muli v665 c1_i32_475
  let c0_i32_476 : BitVec 32 := 0#32
  let v667 : BitVec 32 := Scalar.addi v666 c0_i32_476
  ![v667.toNat]
def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_468 : BitVec 32 := 8#32
  let v655 : BitVec 32 := Scalar.addi v2 c8_i32_468
  let c16_i32_469 : BitVec 32 := 16#32
  let c0_i32_470 : BitVec 32 := 0#32
  let v656 : BitVec 1 := Scalar.cmpi .eq c16_i32_469 c0_i32_470
  let c1_i32_471 : BitVec 32 := 1#32
  let v657 : BitVec 32 := Scalar.select v656 c1_i32_471 c16_i32_469
  let v658 : BitVec 32 := Scalar.remsi v655 v657
  let c0_i32_473 : BitVec 32 := 0#32
  let v660 : BitVec 1 := Scalar.cmpi .slt v658 c0_i32_473
  let c0_i32_474 : BitVec 32 := 0#32
  let v661 : BitVec 1 := Scalar.cmpi .slt v657 c0_i32_474
  let v662 : BitVec 1 := Scalar.xori v660 v661
  let c0_i32_472 : BitVec 32 := 0#32
  let v659 : BitVec 1 := Scalar.cmpi .ne v658 c0_i32_472
  let v663 : BitVec 1 := Scalar.andi v662 v659
  let v664 : BitVec 32 := Scalar.addi v658 v657
  let v665 : BitVec 32 := Scalar.select v663 v664 v658
  let c1_i32_475 : BitVec 32 := 1#32
  let v666 : BitVec 32 := Scalar.muli v665 c1_i32_475
  let c0_i32_476 : BitVec 32 := 0#32
  let v667 : BitVec 32 := Scalar.addi v666 c0_i32_476
  let c0_i32_1541 : BitVec 32 := 0#32
  let c0_i32_1542 : BitVec 32 := 0#32
  ![v667.toNat, 0, 0]
def k0_dev20 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_468 : BitVec 32 := 8#32
  let v655 : BitVec 32 := Scalar.addi v2 c8_i32_468
  let c16_i32_469 : BitVec 32 := 16#32
  let c0_i32_470 : BitVec 32 := 0#32
  let v656 : BitVec 1 := Scalar.cmpi .eq c16_i32_469 c0_i32_470
  let c1_i32_471 : BitVec 32 := 1#32
  let v657 : BitVec 32 := Scalar.select v656 c1_i32_471 c16_i32_469
  let v658 : BitVec 32 := Scalar.remsi v655 v657
  let c0_i32_473 : BitVec 32 := 0#32
  let v660 : BitVec 1 := Scalar.cmpi .slt v658 c0_i32_473
  let c0_i32_474 : BitVec 32 := 0#32
  let v661 : BitVec 1 := Scalar.cmpi .slt v657 c0_i32_474
  let v662 : BitVec 1 := Scalar.xori v660 v661
  let c0_i32_472 : BitVec 32 := 0#32
  let v659 : BitVec 1 := Scalar.cmpi .ne v658 c0_i32_472
  let v663 : BitVec 1 := Scalar.andi v662 v659
  let v664 : BitVec 32 := Scalar.addi v658 v657
  let v665 : BitVec 32 := Scalar.select v663 v664 v658
  let c1_i32_475 : BitVec 32 := 1#32
  let v666 : BitVec 32 := Scalar.muli v665 c1_i32_475
  let c0_i32_476 : BitVec 32 := 0#32
  let v667 : BitVec 32 := Scalar.addi v666 c0_i32_476
  let c1_i32_1538 : BitVec 32 := 1#32
  let v2097 : BitVec 32 := Scalar.muli v667 c1_i32_1538
  let v2098 : BitVec 32 := Scalar.addi c0_i32_1539 v2097
  v2098.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v721 : BitVec 32 := Scalar.addi v2 c9_i32_515
  let c16_i32_516 : BitVec 32 := 16#32
  let c0_i32_517 : BitVec 32 := 0#32
  let v722 : BitVec 1 := Scalar.cmpi .eq c16_i32_516 c0_i32_517
  let c1_i32_518 : BitVec 32 := 1#32
  let v723 : BitVec 32 := Scalar.select v722 c1_i32_518 c16_i32_516
  let v724 : BitVec 32 := Scalar.remsi v721 v723
  let c0_i32_520 : BitVec 32 := 0#32
  let v726 : BitVec 1 := Scalar.cmpi .slt v724 c0_i32_520
  let c0_i32_521 : BitVec 32 := 0#32
  let v727 : BitVec 1 := Scalar.cmpi .slt v723 c0_i32_521
  let v728 : BitVec 1 := Scalar.xori v726 v727
  let c0_i32_519 : BitVec 32 := 0#32
  let v725 : BitVec 1 := Scalar.cmpi .ne v724 c0_i32_519
  let v729 : BitVec 1 := Scalar.andi v728 v725
  let v730 : BitVec 32 := Scalar.addi v724 v723
  let v731 : BitVec 32 := Scalar.select v729 v730 v724
  let c1_i32_522 : BitVec 32 := 1#32
  let v732 : BitVec 32 := Scalar.muli v731 c1_i32_522
  let c0_i32_523 : BitVec 32 := 0#32
  let v733 : BitVec 32 := Scalar.addi v732 c0_i32_523
  let v734 : BitVec 1 := Scalar.cmpi .eq v733 v2
  let v735 : BitVec 32 := Scalar.extui v734
  let c0_i32_524 : BitVec 32 := 0#32
  let v736 : BitVec 1 := Scalar.cmpi .ne v735 c0_i32_524
  v736

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v721 : BitVec 32 := Scalar.addi v2 c9_i32_515
  let c16_i32_516 : BitVec 32 := 16#32
  let c0_i32_517 : BitVec 32 := 0#32
  let v722 : BitVec 1 := Scalar.cmpi .eq c16_i32_516 c0_i32_517
  let c1_i32_518 : BitVec 32 := 1#32
  let v723 : BitVec 32 := Scalar.select v722 c1_i32_518 c16_i32_516
  let v724 : BitVec 32 := Scalar.remsi v721 v723
  let c0_i32_520 : BitVec 32 := 0#32
  let v726 : BitVec 1 := Scalar.cmpi .slt v724 c0_i32_520
  let c0_i32_521 : BitVec 32 := 0#32
  let v727 : BitVec 1 := Scalar.cmpi .slt v723 c0_i32_521
  let v728 : BitVec 1 := Scalar.xori v726 v727
  let c0_i32_519 : BitVec 32 := 0#32
  let v725 : BitVec 1 := Scalar.cmpi .ne v724 c0_i32_519
  let v729 : BitVec 1 := Scalar.andi v728 v725
  let v730 : BitVec 32 := Scalar.addi v724 v723
  let v731 : BitVec 32 := Scalar.select v729 v730 v724
  let c1_i32_522 : BitVec 32 := 1#32
  let v732 : BitVec 32 := Scalar.muli v731 c1_i32_522
  let c0_i32_523 : BitVec 32 := 0#32
  let v733 : BitVec 32 := Scalar.addi v732 c0_i32_523
  let v737 : BitVec 1 := Scalar.cmpi .ne v733 v2
  let v738 : BitVec 32 := Scalar.extui v737
  let c0_i32_525 : BitVec 32 := 0#32
  let v739 : BitVec 1 := Scalar.cmpi .ne v738 c0_i32_525
  v739

def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v721 : BitVec 32 := Scalar.addi v2 c9_i32_515
  let c16_i32_516 : BitVec 32 := 16#32
  let c0_i32_517 : BitVec 32 := 0#32
  let v722 : BitVec 1 := Scalar.cmpi .eq c16_i32_516 c0_i32_517
  let c1_i32_518 : BitVec 32 := 1#32
  let v723 : BitVec 32 := Scalar.select v722 c1_i32_518 c16_i32_516
  let v724 : BitVec 32 := Scalar.remsi v721 v723
  let c0_i32_520 : BitVec 32 := 0#32
  let v726 : BitVec 1 := Scalar.cmpi .slt v724 c0_i32_520
  let c0_i32_521 : BitVec 32 := 0#32
  let v727 : BitVec 1 := Scalar.cmpi .slt v723 c0_i32_521
  let v728 : BitVec 1 := Scalar.xori v726 v727
  let c0_i32_519 : BitVec 32 := 0#32
  let v725 : BitVec 1 := Scalar.cmpi .ne v724 c0_i32_519
  let v729 : BitVec 1 := Scalar.andi v728 v725
  let v730 : BitVec 32 := Scalar.addi v724 v723
  let v731 : BitVec 32 := Scalar.select v729 v730 v724
  let c1_i32_522 : BitVec 32 := 1#32
  let v732 : BitVec 32 := Scalar.muli v731 c1_i32_522
  let c0_i32_523 : BitVec 32 := 0#32
  let v733 : BitVec 32 := Scalar.addi v732 c0_i32_523
  let v2092 : Index := Scalar.indexCast v733
  let c0_1535 : Index := 0#32
  let c0_1536 : Index := 0#32
  ![v2092.toNat, 0, 0]
def k0_off34 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v721 : BitVec 32 := Scalar.addi v2 c9_i32_515
  let c16_i32_516 : BitVec 32 := 16#32
  let c0_i32_517 : BitVec 32 := 0#32
  let v722 : BitVec 1 := Scalar.cmpi .eq c16_i32_516 c0_i32_517
  let c1_i32_518 : BitVec 32 := 1#32
  let v723 : BitVec 32 := Scalar.select v722 c1_i32_518 c16_i32_516
  let v724 : BitVec 32 := Scalar.remsi v721 v723
  let c0_i32_520 : BitVec 32 := 0#32
  let v726 : BitVec 1 := Scalar.cmpi .slt v724 c0_i32_520
  let c0_i32_521 : BitVec 32 := 0#32
  let v727 : BitVec 1 := Scalar.cmpi .slt v723 c0_i32_521
  let v728 : BitVec 1 := Scalar.xori v726 v727
  let c0_i32_519 : BitVec 32 := 0#32
  let v725 : BitVec 1 := Scalar.cmpi .ne v724 c0_i32_519
  let v729 : BitVec 1 := Scalar.andi v728 v725
  let v730 : BitVec 32 := Scalar.addi v724 v723
  let v731 : BitVec 32 := Scalar.select v729 v730 v724
  let c1_i32_522 : BitVec 32 := 1#32
  let v732 : BitVec 32 := Scalar.muli v731 c1_i32_522
  let c0_i32_523 : BitVec 32 := 0#32
  let v733 : BitVec 32 := Scalar.addi v732 c0_i32_523
  ![v733.toNat]
def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v721 : BitVec 32 := Scalar.addi v2 c9_i32_515
  let c16_i32_516 : BitVec 32 := 16#32
  let c0_i32_517 : BitVec 32 := 0#32
  let v722 : BitVec 1 := Scalar.cmpi .eq c16_i32_516 c0_i32_517
  let c1_i32_518 : BitVec 32 := 1#32
  let v723 : BitVec 32 := Scalar.select v722 c1_i32_518 c16_i32_516
  let v724 : BitVec 32 := Scalar.remsi v721 v723
  let c0_i32_520 : BitVec 32 := 0#32
  let v726 : BitVec 1 := Scalar.cmpi .slt v724 c0_i32_520
  let c0_i32_521 : BitVec 32 := 0#32
  let v727 : BitVec 1 := Scalar.cmpi .slt v723 c0_i32_521
  let v728 : BitVec 1 := Scalar.xori v726 v727
  let c0_i32_519 : BitVec 32 := 0#32
  let v725 : BitVec 1 := Scalar.cmpi .ne v724 c0_i32_519
  let v729 : BitVec 1 := Scalar.andi v728 v725
  let v730 : BitVec 32 := Scalar.addi v724 v723
  let v731 : BitVec 32 := Scalar.select v729 v730 v724
  let c1_i32_522 : BitVec 32 := 1#32
  let v732 : BitVec 32 := Scalar.muli v731 c1_i32_522
  let c0_i32_523 : BitVec 32 := 0#32
  let v733 : BitVec 32 := Scalar.addi v732 c0_i32_523
  let c0_i32_1541 : BitVec 32 := 0#32
  let c0_i32_1542 : BitVec 32 := 0#32
  ![v733.toNat, 0, 0]
def k0_dev21 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v721 : BitVec 32 := Scalar.addi v2 c9_i32_515
  let c16_i32_516 : BitVec 32 := 16#32
  let c0_i32_517 : BitVec 32 := 0#32
  let v722 : BitVec 1 := Scalar.cmpi .eq c16_i32_516 c0_i32_517
  let c1_i32_518 : BitVec 32 := 1#32
  let v723 : BitVec 32 := Scalar.select v722 c1_i32_518 c16_i32_516
  let v724 : BitVec 32 := Scalar.remsi v721 v723
  let c0_i32_520 : BitVec 32 := 0#32
  let v726 : BitVec 1 := Scalar.cmpi .slt v724 c0_i32_520
  let c0_i32_521 : BitVec 32 := 0#32
  let v727 : BitVec 1 := Scalar.cmpi .slt v723 c0_i32_521
  let v728 : BitVec 1 := Scalar.xori v726 v727
  let c0_i32_519 : BitVec 32 := 0#32
  let v725 : BitVec 1 := Scalar.cmpi .ne v724 c0_i32_519
  let v729 : BitVec 1 := Scalar.andi v728 v725
  let v730 : BitVec 32 := Scalar.addi v724 v723
  let v731 : BitVec 32 := Scalar.select v729 v730 v724
  let c1_i32_522 : BitVec 32 := 1#32
  let v732 : BitVec 32 := Scalar.muli v731 c1_i32_522
  let c0_i32_523 : BitVec 32 := 0#32
  let v733 : BitVec 32 := Scalar.addi v732 c0_i32_523
  let c1_i32_1538 : BitVec 32 := 1#32
  let v2097 : BitVec 32 := Scalar.muli v733 c1_i32_1538
  let v2098 : BitVec 32 := Scalar.addi c0_i32_1539 v2097
  v2098.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_562 : BitVec 32 := 10#32
  let v787 : BitVec 32 := Scalar.addi v2 c10_i32_562
  let c16_i32_563 : BitVec 32 := 16#32
  let c0_i32_564 : BitVec 32 := 0#32
  let v788 : BitVec 1 := Scalar.cmpi .eq c16_i32_563 c0_i32_564
  let c1_i32_565 : BitVec 32 := 1#32
  let v789 : BitVec 32 := Scalar.select v788 c1_i32_565 c16_i32_563
  let v790 : BitVec 32 := Scalar.remsi v787 v789
  let c0_i32_567 : BitVec 32 := 0#32
  let v792 : BitVec 1 := Scalar.cmpi .slt v790 c0_i32_567
  let c0_i32_568 : BitVec 32 := 0#32
  let v793 : BitVec 1 := Scalar.cmpi .slt v789 c0_i32_568
  let v794 : BitVec 1 := Scalar.xori v792 v793
  let c0_i32_566 : BitVec 32 := 0#32
  let v791 : BitVec 1 := Scalar.cmpi .ne v790 c0_i32_566
  let v795 : BitVec 1 := Scalar.andi v794 v791
  let v796 : BitVec 32 := Scalar.addi v790 v789
  let v797 : BitVec 32 := Scalar.select v795 v796 v790
  let c1_i32_569 : BitVec 32 := 1#32
  let v798 : BitVec 32 := Scalar.muli v797 c1_i32_569
  let c0_i32_570 : BitVec 32 := 0#32
  let v799 : BitVec 32 := Scalar.addi v798 c0_i32_570
  let v800 : BitVec 1 := Scalar.cmpi .eq v799 v2
  let v801 : BitVec 32 := Scalar.extui v800
  let c0_i32_571 : BitVec 32 := 0#32
  let v802 : BitVec 1 := Scalar.cmpi .ne v801 c0_i32_571
  v802

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_562 : BitVec 32 := 10#32
  let v787 : BitVec 32 := Scalar.addi v2 c10_i32_562
  let c16_i32_563 : BitVec 32 := 16#32
  let c0_i32_564 : BitVec 32 := 0#32
  let v788 : BitVec 1 := Scalar.cmpi .eq c16_i32_563 c0_i32_564
  let c1_i32_565 : BitVec 32 := 1#32
  let v789 : BitVec 32 := Scalar.select v788 c1_i32_565 c16_i32_563
  let v790 : BitVec 32 := Scalar.remsi v787 v789
  let c0_i32_567 : BitVec 32 := 0#32
  let v792 : BitVec 1 := Scalar.cmpi .slt v790 c0_i32_567
  let c0_i32_568 : BitVec 32 := 0#32
  let v793 : BitVec 1 := Scalar.cmpi .slt v789 c0_i32_568
  let v794 : BitVec 1 := Scalar.xori v792 v793
  let c0_i32_566 : BitVec 32 := 0#32
  let v791 : BitVec 1 := Scalar.cmpi .ne v790 c0_i32_566
  let v795 : BitVec 1 := Scalar.andi v794 v791
  let v796 : BitVec 32 := Scalar.addi v790 v789
  let v797 : BitVec 32 := Scalar.select v795 v796 v790
  let c1_i32_569 : BitVec 32 := 1#32
  let v798 : BitVec 32 := Scalar.muli v797 c1_i32_569
  let c0_i32_570 : BitVec 32 := 0#32
  let v799 : BitVec 32 := Scalar.addi v798 c0_i32_570
  let v803 : BitVec 1 := Scalar.cmpi .ne v799 v2
  let v804 : BitVec 32 := Scalar.extui v803
  let c0_i32_572 : BitVec 32 := 0#32
  let v805 : BitVec 1 := Scalar.cmpi .ne v804 c0_i32_572
  v805

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_562 : BitVec 32 := 10#32
  let v787 : BitVec 32 := Scalar.addi v2 c10_i32_562
  let c16_i32_563 : BitVec 32 := 16#32
  let c0_i32_564 : BitVec 32 := 0#32
  let v788 : BitVec 1 := Scalar.cmpi .eq c16_i32_563 c0_i32_564
  let c1_i32_565 : BitVec 32 := 1#32
  let v789 : BitVec 32 := Scalar.select v788 c1_i32_565 c16_i32_563
  let v790 : BitVec 32 := Scalar.remsi v787 v789
  let c0_i32_567 : BitVec 32 := 0#32
  let v792 : BitVec 1 := Scalar.cmpi .slt v790 c0_i32_567
  let c0_i32_568 : BitVec 32 := 0#32
  let v793 : BitVec 1 := Scalar.cmpi .slt v789 c0_i32_568
  let v794 : BitVec 1 := Scalar.xori v792 v793
  let c0_i32_566 : BitVec 32 := 0#32
  let v791 : BitVec 1 := Scalar.cmpi .ne v790 c0_i32_566
  let v795 : BitVec 1 := Scalar.andi v794 v791
  let v796 : BitVec 32 := Scalar.addi v790 v789
  let v797 : BitVec 32 := Scalar.select v795 v796 v790
  let c1_i32_569 : BitVec 32 := 1#32
  let v798 : BitVec 32 := Scalar.muli v797 c1_i32_569
  let c0_i32_570 : BitVec 32 := 0#32
  let v799 : BitVec 32 := Scalar.addi v798 c0_i32_570
  let v2092 : Index := Scalar.indexCast v799
  let c0_1535 : Index := 0#32
  let c0_1536 : Index := 0#32
  ![v2092.toNat, 0, 0]
def k0_off40 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_562 : BitVec 32 := 10#32
  let v787 : BitVec 32 := Scalar.addi v2 c10_i32_562
  let c16_i32_563 : BitVec 32 := 16#32
  let c0_i32_564 : BitVec 32 := 0#32
  let v788 : BitVec 1 := Scalar.cmpi .eq c16_i32_563 c0_i32_564
  let c1_i32_565 : BitVec 32 := 1#32
  let v789 : BitVec 32 := Scalar.select v788 c1_i32_565 c16_i32_563
  let v790 : BitVec 32 := Scalar.remsi v787 v789
  let c0_i32_567 : BitVec 32 := 0#32
  let v792 : BitVec 1 := Scalar.cmpi .slt v790 c0_i32_567
  let c0_i32_568 : BitVec 32 := 0#32
  let v793 : BitVec 1 := Scalar.cmpi .slt v789 c0_i32_568
  let v794 : BitVec 1 := Scalar.xori v792 v793
  let c0_i32_566 : BitVec 32 := 0#32
  let v791 : BitVec 1 := Scalar.cmpi .ne v790 c0_i32_566
  let v795 : BitVec 1 := Scalar.andi v794 v791
  let v796 : BitVec 32 := Scalar.addi v790 v789
  let v797 : BitVec 32 := Scalar.select v795 v796 v790
  let c1_i32_569 : BitVec 32 := 1#32
  let v798 : BitVec 32 := Scalar.muli v797 c1_i32_569
  let c0_i32_570 : BitVec 32 := 0#32
  let v799 : BitVec 32 := Scalar.addi v798 c0_i32_570
  ![v799.toNat]
def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_562 : BitVec 32 := 10#32
  let v787 : BitVec 32 := Scalar.addi v2 c10_i32_562
  let c16_i32_563 : BitVec 32 := 16#32
  let c0_i32_564 : BitVec 32 := 0#32
  let v788 : BitVec 1 := Scalar.cmpi .eq c16_i32_563 c0_i32_564
  let c1_i32_565 : BitVec 32 := 1#32
  let v789 : BitVec 32 := Scalar.select v788 c1_i32_565 c16_i32_563
  let v790 : BitVec 32 := Scalar.remsi v787 v789
  let c0_i32_567 : BitVec 32 := 0#32
  let v792 : BitVec 1 := Scalar.cmpi .slt v790 c0_i32_567
  let c0_i32_568 : BitVec 32 := 0#32
  let v793 : BitVec 1 := Scalar.cmpi .slt v789 c0_i32_568
  let v794 : BitVec 1 := Scalar.xori v792 v793
  let c0_i32_566 : BitVec 32 := 0#32
  let v791 : BitVec 1 := Scalar.cmpi .ne v790 c0_i32_566
  let v795 : BitVec 1 := Scalar.andi v794 v791
  let v796 : BitVec 32 := Scalar.addi v790 v789
  let v797 : BitVec 32 := Scalar.select v795 v796 v790
  let c1_i32_569 : BitVec 32 := 1#32
  let v798 : BitVec 32 := Scalar.muli v797 c1_i32_569
  let c0_i32_570 : BitVec 32 := 0#32
  let v799 : BitVec 32 := Scalar.addi v798 c0_i32_570
  let c0_i32_1541 : BitVec 32 := 0#32
  let c0_i32_1542 : BitVec 32 := 0#32
  ![v799.toNat, 0, 0]
def k0_dev22 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_562 : BitVec 32 := 10#32
  let v787 : BitVec 32 := Scalar.addi v2 c10_i32_562
  let c16_i32_563 : BitVec 32 := 16#32
  let c0_i32_564 : BitVec 32 := 0#32
  let v788 : BitVec 1 := Scalar.cmpi .eq c16_i32_563 c0_i32_564
  let c1_i32_565 : BitVec 32 := 1#32
  let v789 : BitVec 32 := Scalar.select v788 c1_i32_565 c16_i32_563
  let v790 : BitVec 32 := Scalar.remsi v787 v789
  let c0_i32_567 : BitVec 32 := 0#32
  let v792 : BitVec 1 := Scalar.cmpi .slt v790 c0_i32_567
  let c0_i32_568 : BitVec 32 := 0#32
  let v793 : BitVec 1 := Scalar.cmpi .slt v789 c0_i32_568
  let v794 : BitVec 1 := Scalar.xori v792 v793
  let c0_i32_566 : BitVec 32 := 0#32
  let v791 : BitVec 1 := Scalar.cmpi .ne v790 c0_i32_566
  let v795 : BitVec 1 := Scalar.andi v794 v791
  let v796 : BitVec 32 := Scalar.addi v790 v789
  let v797 : BitVec 32 := Scalar.select v795 v796 v790
  let c1_i32_569 : BitVec 32 := 1#32
  let v798 : BitVec 32 := Scalar.muli v797 c1_i32_569
  let c0_i32_570 : BitVec 32 := 0#32
  let v799 : BitVec 32 := Scalar.addi v798 c0_i32_570
  let c1_i32_1538 : BitVec 32 := 1#32
  let v2097 : BitVec 32 := Scalar.muli v799 c1_i32_1538
  let v2098 : BitVec 32 := Scalar.addi c0_i32_1539 v2097
  v2098.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_609 : BitVec 32 := 11#32
  let v853 : BitVec 32 := Scalar.addi v2 c11_i32_609
  let c16_i32_610 : BitVec 32 := 16#32
  let c0_i32_611 : BitVec 32 := 0#32
  let v854 : BitVec 1 := Scalar.cmpi .eq c16_i32_610 c0_i32_611
  let c1_i32_612 : BitVec 32 := 1#32
  let v855 : BitVec 32 := Scalar.select v854 c1_i32_612 c16_i32_610
  let v856 : BitVec 32 := Scalar.remsi v853 v855
  let c0_i32_614 : BitVec 32 := 0#32
  let v858 : BitVec 1 := Scalar.cmpi .slt v856 c0_i32_614
  let c0_i32_615 : BitVec 32 := 0#32
  let v859 : BitVec 1 := Scalar.cmpi .slt v855 c0_i32_615
  let v860 : BitVec 1 := Scalar.xori v858 v859
  let c0_i32_613 : BitVec 32 := 0#32
  let v857 : BitVec 1 := Scalar.cmpi .ne v856 c0_i32_613
  let v861 : BitVec 1 := Scalar.andi v860 v857
  let v862 : BitVec 32 := Scalar.addi v856 v855
  let v863 : BitVec 32 := Scalar.select v861 v862 v856
  let c1_i32_616 : BitVec 32 := 1#32
  let v864 : BitVec 32 := Scalar.muli v863 c1_i32_616
  let c0_i32_617 : BitVec 32 := 0#32
  let v865 : BitVec 32 := Scalar.addi v864 c0_i32_617
  let v866 : BitVec 1 := Scalar.cmpi .eq v865 v2
  let v867 : BitVec 32 := Scalar.extui v866
  let c0_i32_618 : BitVec 32 := 0#32
  let v868 : BitVec 1 := Scalar.cmpi .ne v867 c0_i32_618
  v868

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_609 : BitVec 32 := 11#32
  let v853 : BitVec 32 := Scalar.addi v2 c11_i32_609
  let c16_i32_610 : BitVec 32 := 16#32
  let c0_i32_611 : BitVec 32 := 0#32
  let v854 : BitVec 1 := Scalar.cmpi .eq c16_i32_610 c0_i32_611
  let c1_i32_612 : BitVec 32 := 1#32
  let v855 : BitVec 32 := Scalar.select v854 c1_i32_612 c16_i32_610
  let v856 : BitVec 32 := Scalar.remsi v853 v855
  let c0_i32_614 : BitVec 32 := 0#32
  let v858 : BitVec 1 := Scalar.cmpi .slt v856 c0_i32_614
  let c0_i32_615 : BitVec 32 := 0#32
  let v859 : BitVec 1 := Scalar.cmpi .slt v855 c0_i32_615
  let v860 : BitVec 1 := Scalar.xori v858 v859
  let c0_i32_613 : BitVec 32 := 0#32
  let v857 : BitVec 1 := Scalar.cmpi .ne v856 c0_i32_613
  let v861 : BitVec 1 := Scalar.andi v860 v857
  let v862 : BitVec 32 := Scalar.addi v856 v855
  let v863 : BitVec 32 := Scalar.select v861 v862 v856
  let c1_i32_616 : BitVec 32 := 1#32
  let v864 : BitVec 32 := Scalar.muli v863 c1_i32_616
  let c0_i32_617 : BitVec 32 := 0#32
  let v865 : BitVec 32 := Scalar.addi v864 c0_i32_617
  let v869 : BitVec 1 := Scalar.cmpi .ne v865 v2
  let v870 : BitVec 32 := Scalar.extui v869
  let c0_i32_619 : BitVec 32 := 0#32
  let v871 : BitVec 1 := Scalar.cmpi .ne v870 c0_i32_619
  v871

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_609 : BitVec 32 := 11#32
  let v853 : BitVec 32 := Scalar.addi v2 c11_i32_609
  let c16_i32_610 : BitVec 32 := 16#32
  let c0_i32_611 : BitVec 32 := 0#32
  let v854 : BitVec 1 := Scalar.cmpi .eq c16_i32_610 c0_i32_611
  let c1_i32_612 : BitVec 32 := 1#32
  let v855 : BitVec 32 := Scalar.select v854 c1_i32_612 c16_i32_610
  let v856 : BitVec 32 := Scalar.remsi v853 v855
  let c0_i32_614 : BitVec 32 := 0#32
  let v858 : BitVec 1 := Scalar.cmpi .slt v856 c0_i32_614
  let c0_i32_615 : BitVec 32 := 0#32
  let v859 : BitVec 1 := Scalar.cmpi .slt v855 c0_i32_615
  let v860 : BitVec 1 := Scalar.xori v858 v859
  let c0_i32_613 : BitVec 32 := 0#32
  let v857 : BitVec 1 := Scalar.cmpi .ne v856 c0_i32_613
  let v861 : BitVec 1 := Scalar.andi v860 v857
  let v862 : BitVec 32 := Scalar.addi v856 v855
  let v863 : BitVec 32 := Scalar.select v861 v862 v856
  let c1_i32_616 : BitVec 32 := 1#32
  let v864 : BitVec 32 := Scalar.muli v863 c1_i32_616
  let c0_i32_617 : BitVec 32 := 0#32
  let v865 : BitVec 32 := Scalar.addi v864 c0_i32_617
  let v2092 : Index := Scalar.indexCast v865
  let c0_1535 : Index := 0#32
  let c0_1536 : Index := 0#32
  ![v2092.toNat, 0, 0]
def k0_off46 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_609 : BitVec 32 := 11#32
  let v853 : BitVec 32 := Scalar.addi v2 c11_i32_609
  let c16_i32_610 : BitVec 32 := 16#32
  let c0_i32_611 : BitVec 32 := 0#32
  let v854 : BitVec 1 := Scalar.cmpi .eq c16_i32_610 c0_i32_611
  let c1_i32_612 : BitVec 32 := 1#32
  let v855 : BitVec 32 := Scalar.select v854 c1_i32_612 c16_i32_610
  let v856 : BitVec 32 := Scalar.remsi v853 v855
  let c0_i32_614 : BitVec 32 := 0#32
  let v858 : BitVec 1 := Scalar.cmpi .slt v856 c0_i32_614
  let c0_i32_615 : BitVec 32 := 0#32
  let v859 : BitVec 1 := Scalar.cmpi .slt v855 c0_i32_615
  let v860 : BitVec 1 := Scalar.xori v858 v859
  let c0_i32_613 : BitVec 32 := 0#32
  let v857 : BitVec 1 := Scalar.cmpi .ne v856 c0_i32_613
  let v861 : BitVec 1 := Scalar.andi v860 v857
  let v862 : BitVec 32 := Scalar.addi v856 v855
  let v863 : BitVec 32 := Scalar.select v861 v862 v856
  let c1_i32_616 : BitVec 32 := 1#32
  let v864 : BitVec 32 := Scalar.muli v863 c1_i32_616
  let c0_i32_617 : BitVec 32 := 0#32
  let v865 : BitVec 32 := Scalar.addi v864 c0_i32_617
  ![v865.toNat]
def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_609 : BitVec 32 := 11#32
  let v853 : BitVec 32 := Scalar.addi v2 c11_i32_609
  let c16_i32_610 : BitVec 32 := 16#32
  let c0_i32_611 : BitVec 32 := 0#32
  let v854 : BitVec 1 := Scalar.cmpi .eq c16_i32_610 c0_i32_611
  let c1_i32_612 : BitVec 32 := 1#32
  let v855 : BitVec 32 := Scalar.select v854 c1_i32_612 c16_i32_610
  let v856 : BitVec 32 := Scalar.remsi v853 v855
  let c0_i32_614 : BitVec 32 := 0#32
  let v858 : BitVec 1 := Scalar.cmpi .slt v856 c0_i32_614
  let c0_i32_615 : BitVec 32 := 0#32
  let v859 : BitVec 1 := Scalar.cmpi .slt v855 c0_i32_615
  let v860 : BitVec 1 := Scalar.xori v858 v859
  let c0_i32_613 : BitVec 32 := 0#32
  let v857 : BitVec 1 := Scalar.cmpi .ne v856 c0_i32_613
  let v861 : BitVec 1 := Scalar.andi v860 v857
  let v862 : BitVec 32 := Scalar.addi v856 v855
  let v863 : BitVec 32 := Scalar.select v861 v862 v856
  let c1_i32_616 : BitVec 32 := 1#32
  let v864 : BitVec 32 := Scalar.muli v863 c1_i32_616
  let c0_i32_617 : BitVec 32 := 0#32
  let v865 : BitVec 32 := Scalar.addi v864 c0_i32_617
  let c0_i32_1541 : BitVec 32 := 0#32
  let c0_i32_1542 : BitVec 32 := 0#32
  ![v865.toNat, 0, 0]
def k0_dev23 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_609 : BitVec 32 := 11#32
  let v853 : BitVec 32 := Scalar.addi v2 c11_i32_609
  let c16_i32_610 : BitVec 32 := 16#32
  let c0_i32_611 : BitVec 32 := 0#32
  let v854 : BitVec 1 := Scalar.cmpi .eq c16_i32_610 c0_i32_611
  let c1_i32_612 : BitVec 32 := 1#32
  let v855 : BitVec 32 := Scalar.select v854 c1_i32_612 c16_i32_610
  let v856 : BitVec 32 := Scalar.remsi v853 v855
  let c0_i32_614 : BitVec 32 := 0#32
  let v858 : BitVec 1 := Scalar.cmpi .slt v856 c0_i32_614
  let c0_i32_615 : BitVec 32 := 0#32
  let v859 : BitVec 1 := Scalar.cmpi .slt v855 c0_i32_615
  let v860 : BitVec 1 := Scalar.xori v858 v859
  let c0_i32_613 : BitVec 32 := 0#32
  let v857 : BitVec 1 := Scalar.cmpi .ne v856 c0_i32_613
  let v861 : BitVec 1 := Scalar.andi v860 v857
  let v862 : BitVec 32 := Scalar.addi v856 v855
  let v863 : BitVec 32 := Scalar.select v861 v862 v856
  let c1_i32_616 : BitVec 32 := 1#32
  let v864 : BitVec 32 := Scalar.muli v863 c1_i32_616
  let c0_i32_617 : BitVec 32 := 0#32
  let v865 : BitVec 32 := Scalar.addi v864 c0_i32_617
  let c1_i32_1538 : BitVec 32 := 1#32
  let v2097 : BitVec 32 := Scalar.muli v865 c1_i32_1538
  let v2098 : BitVec 32 := Scalar.addi c0_i32_1539 v2097
  v2098.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_644 : BitVec 32 := 4#32
  let v902 : BitVec 32 := Scalar.addi v2 c4_i32_644
  let c16_i32_645 : BitVec 32 := 16#32
  let c0_i32_646 : BitVec 32 := 0#32
  let v903 : BitVec 1 := Scalar.cmpi .eq c16_i32_645 c0_i32_646
  let c1_i32_647 : BitVec 32 := 1#32
  let v904 : BitVec 32 := Scalar.select v903 c1_i32_647 c16_i32_645
  let v905 : BitVec 32 := Scalar.remsi v902 v904
  let c0_i32_649 : BitVec 32 := 0#32
  let v907 : BitVec 1 := Scalar.cmpi .slt v905 c0_i32_649
  let c0_i32_650 : BitVec 32 := 0#32
  let v908 : BitVec 1 := Scalar.cmpi .slt v904 c0_i32_650
  let v909 : BitVec 1 := Scalar.xori v907 v908
  let c0_i32_648 : BitVec 32 := 0#32
  let v906 : BitVec 1 := Scalar.cmpi .ne v905 c0_i32_648
  let v910 : BitVec 1 := Scalar.andi v909 v906
  let v911 : BitVec 32 := Scalar.addi v905 v904
  let v912 : BitVec 32 := Scalar.select v910 v911 v905
  let c1_i32_651 : BitVec 32 := 1#32
  let v913 : BitVec 32 := Scalar.muli v912 c1_i32_651
  let c0_i32_652 : BitVec 32 := 0#32
  let v914 : BitVec 32 := Scalar.addi v913 c0_i32_652
  let v915 : BitVec 1 := Scalar.cmpi .eq v914 v2
  let v916 : BitVec 32 := Scalar.extui v915
  let c0_i32_653 : BitVec 32 := 0#32
  let v917 : BitVec 1 := Scalar.cmpi .ne v916 c0_i32_653
  v917

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_644 : BitVec 32 := 4#32
  let v902 : BitVec 32 := Scalar.addi v2 c4_i32_644
  let c16_i32_645 : BitVec 32 := 16#32
  let c0_i32_646 : BitVec 32 := 0#32
  let v903 : BitVec 1 := Scalar.cmpi .eq c16_i32_645 c0_i32_646
  let c1_i32_647 : BitVec 32 := 1#32
  let v904 : BitVec 32 := Scalar.select v903 c1_i32_647 c16_i32_645
  let v905 : BitVec 32 := Scalar.remsi v902 v904
  let c0_i32_649 : BitVec 32 := 0#32
  let v907 : BitVec 1 := Scalar.cmpi .slt v905 c0_i32_649
  let c0_i32_650 : BitVec 32 := 0#32
  let v908 : BitVec 1 := Scalar.cmpi .slt v904 c0_i32_650
  let v909 : BitVec 1 := Scalar.xori v907 v908
  let c0_i32_648 : BitVec 32 := 0#32
  let v906 : BitVec 1 := Scalar.cmpi .ne v905 c0_i32_648
  let v910 : BitVec 1 := Scalar.andi v909 v906
  let v911 : BitVec 32 := Scalar.addi v905 v904
  let v912 : BitVec 32 := Scalar.select v910 v911 v905
  let c1_i32_651 : BitVec 32 := 1#32
  let v913 : BitVec 32 := Scalar.muli v912 c1_i32_651
  let c0_i32_652 : BitVec 32 := 0#32
  let v914 : BitVec 32 := Scalar.addi v913 c0_i32_652
  let v918 : BitVec 1 := Scalar.cmpi .ne v914 v2
  let v919 : BitVec 32 := Scalar.extui v918
  let c0_i32_654 : BitVec 32 := 0#32
  let v920 : BitVec 1 := Scalar.cmpi .ne v919 c0_i32_654
  v920

def k0_off51 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_644 : BitVec 32 := 4#32
  let v902 : BitVec 32 := Scalar.addi v2 c4_i32_644
  let c16_i32_645 : BitVec 32 := 16#32
  let c0_i32_646 : BitVec 32 := 0#32
  let v903 : BitVec 1 := Scalar.cmpi .eq c16_i32_645 c0_i32_646
  let c1_i32_647 : BitVec 32 := 1#32
  let v904 : BitVec 32 := Scalar.select v903 c1_i32_647 c16_i32_645
  let v905 : BitVec 32 := Scalar.remsi v902 v904
  let c0_i32_649 : BitVec 32 := 0#32
  let v907 : BitVec 1 := Scalar.cmpi .slt v905 c0_i32_649
  let c0_i32_650 : BitVec 32 := 0#32
  let v908 : BitVec 1 := Scalar.cmpi .slt v904 c0_i32_650
  let v909 : BitVec 1 := Scalar.xori v907 v908
  let c0_i32_648 : BitVec 32 := 0#32
  let v906 : BitVec 1 := Scalar.cmpi .ne v905 c0_i32_648
  let v910 : BitVec 1 := Scalar.andi v909 v906
  let v911 : BitVec 32 := Scalar.addi v905 v904
  let v912 : BitVec 32 := Scalar.select v910 v911 v905
  let c1_i32_651 : BitVec 32 := 1#32
  let v913 : BitVec 32 := Scalar.muli v912 c1_i32_651
  let c0_i32_652 : BitVec 32 := 0#32
  let v914 : BitVec 32 := Scalar.addi v913 c0_i32_652
  let v2092 : Index := Scalar.indexCast v914
  let c0_1535 : Index := 0#32
  let c0_1536 : Index := 0#32
  ![v2092.toNat, 0, 0]
def k0_off52 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_644 : BitVec 32 := 4#32
  let v902 : BitVec 32 := Scalar.addi v2 c4_i32_644
  let c16_i32_645 : BitVec 32 := 16#32
  let c0_i32_646 : BitVec 32 := 0#32
  let v903 : BitVec 1 := Scalar.cmpi .eq c16_i32_645 c0_i32_646
  let c1_i32_647 : BitVec 32 := 1#32
  let v904 : BitVec 32 := Scalar.select v903 c1_i32_647 c16_i32_645
  let v905 : BitVec 32 := Scalar.remsi v902 v904
  let c0_i32_649 : BitVec 32 := 0#32
  let v907 : BitVec 1 := Scalar.cmpi .slt v905 c0_i32_649
  let c0_i32_650 : BitVec 32 := 0#32
  let v908 : BitVec 1 := Scalar.cmpi .slt v904 c0_i32_650
  let v909 : BitVec 1 := Scalar.xori v907 v908
  let c0_i32_648 : BitVec 32 := 0#32
  let v906 : BitVec 1 := Scalar.cmpi .ne v905 c0_i32_648
  let v910 : BitVec 1 := Scalar.andi v909 v906
  let v911 : BitVec 32 := Scalar.addi v905 v904
  let v912 : BitVec 32 := Scalar.select v910 v911 v905
  let c1_i32_651 : BitVec 32 := 1#32
  let v913 : BitVec 32 := Scalar.muli v912 c1_i32_651
  let c0_i32_652 : BitVec 32 := 0#32
  let v914 : BitVec 32 := Scalar.addi v913 c0_i32_652
  ![v914.toNat]
def k0_off53 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_644 : BitVec 32 := 4#32
  let v902 : BitVec 32 := Scalar.addi v2 c4_i32_644
  let c16_i32_645 : BitVec 32 := 16#32
  let c0_i32_646 : BitVec 32 := 0#32
  let v903 : BitVec 1 := Scalar.cmpi .eq c16_i32_645 c0_i32_646
  let c1_i32_647 : BitVec 32 := 1#32
  let v904 : BitVec 32 := Scalar.select v903 c1_i32_647 c16_i32_645
  let v905 : BitVec 32 := Scalar.remsi v902 v904
  let c0_i32_649 : BitVec 32 := 0#32
  let v907 : BitVec 1 := Scalar.cmpi .slt v905 c0_i32_649
  let c0_i32_650 : BitVec 32 := 0#32
  let v908 : BitVec 1 := Scalar.cmpi .slt v904 c0_i32_650
  let v909 : BitVec 1 := Scalar.xori v907 v908
  let c0_i32_648 : BitVec 32 := 0#32
  let v906 : BitVec 1 := Scalar.cmpi .ne v905 c0_i32_648
  let v910 : BitVec 1 := Scalar.andi v909 v906
  let v911 : BitVec 32 := Scalar.addi v905 v904
  let v912 : BitVec 32 := Scalar.select v910 v911 v905
  let c1_i32_651 : BitVec 32 := 1#32
  let v913 : BitVec 32 := Scalar.muli v912 c1_i32_651
  let c0_i32_652 : BitVec 32 := 0#32
  let v914 : BitVec 32 := Scalar.addi v913 c0_i32_652
  let c0_i32_1541 : BitVec 32 := 0#32
  let c0_i32_1542 : BitVec 32 := 0#32
  ![v914.toNat, 0, 0]
def k0_dev24 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_644 : BitVec 32 := 4#32
  let v902 : BitVec 32 := Scalar.addi v2 c4_i32_644
  let c16_i32_645 : BitVec 32 := 16#32
  let c0_i32_646 : BitVec 32 := 0#32
  let v903 : BitVec 1 := Scalar.cmpi .eq c16_i32_645 c0_i32_646
  let c1_i32_647 : BitVec 32 := 1#32
  let v904 : BitVec 32 := Scalar.select v903 c1_i32_647 c16_i32_645
  let v905 : BitVec 32 := Scalar.remsi v902 v904
  let c0_i32_649 : BitVec 32 := 0#32
  let v907 : BitVec 1 := Scalar.cmpi .slt v905 c0_i32_649
  let c0_i32_650 : BitVec 32 := 0#32
  let v908 : BitVec 1 := Scalar.cmpi .slt v904 c0_i32_650
  let v909 : BitVec 1 := Scalar.xori v907 v908
  let c0_i32_648 : BitVec 32 := 0#32
  let v906 : BitVec 1 := Scalar.cmpi .ne v905 c0_i32_648
  let v910 : BitVec 1 := Scalar.andi v909 v906
  let v911 : BitVec 32 := Scalar.addi v905 v904
  let v912 : BitVec 32 := Scalar.select v910 v911 v905
  let c1_i32_651 : BitVec 32 := 1#32
  let v913 : BitVec 32 := Scalar.muli v912 c1_i32_651
  let c0_i32_652 : BitVec 32 := 0#32
  let v914 : BitVec 32 := Scalar.addi v913 c0_i32_652
  let c1_i32_1538 : BitVec 32 := 1#32
  let v2097 : BitVec 32 := Scalar.muli v914 c1_i32_1538
  let v2098 : BitVec 32 := Scalar.addi c0_i32_1539 v2097
  v2098.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_679 : BitVec 32 := 5#32
  let v951 : BitVec 32 := Scalar.addi v2 c5_i32_679
  let c16_i32_680 : BitVec 32 := 16#32
  let c0_i32_681 : BitVec 32 := 0#32
  let v952 : BitVec 1 := Scalar.cmpi .eq c16_i32_680 c0_i32_681
  let c1_i32_682 : BitVec 32 := 1#32
  let v953 : BitVec 32 := Scalar.select v952 c1_i32_682 c16_i32_680
  let v954 : BitVec 32 := Scalar.remsi v951 v953
  let c0_i32_684 : BitVec 32 := 0#32
  let v956 : BitVec 1 := Scalar.cmpi .slt v954 c0_i32_684
  let c0_i32_685 : BitVec 32 := 0#32
  let v957 : BitVec 1 := Scalar.cmpi .slt v953 c0_i32_685
  let v958 : BitVec 1 := Scalar.xori v956 v957
  let c0_i32_683 : BitVec 32 := 0#32
  let v955 : BitVec 1 := Scalar.cmpi .ne v954 c0_i32_683
  let v959 : BitVec 1 := Scalar.andi v958 v955
  let v960 : BitVec 32 := Scalar.addi v954 v953
  let v961 : BitVec 32 := Scalar.select v959 v960 v954
  let c1_i32_686 : BitVec 32 := 1#32
  let v962 : BitVec 32 := Scalar.muli v961 c1_i32_686
  let c0_i32_687 : BitVec 32 := 0#32
  let v963 : BitVec 32 := Scalar.addi v962 c0_i32_687
  let v964 : BitVec 1 := Scalar.cmpi .eq v963 v2
  let v965 : BitVec 32 := Scalar.extui v964
  let c0_i32_688 : BitVec 32 := 0#32
  let v966 : BitVec 1 := Scalar.cmpi .ne v965 c0_i32_688
  v966

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_679 : BitVec 32 := 5#32
  let v951 : BitVec 32 := Scalar.addi v2 c5_i32_679
  let c16_i32_680 : BitVec 32 := 16#32
  let c0_i32_681 : BitVec 32 := 0#32
  let v952 : BitVec 1 := Scalar.cmpi .eq c16_i32_680 c0_i32_681
  let c1_i32_682 : BitVec 32 := 1#32
  let v953 : BitVec 32 := Scalar.select v952 c1_i32_682 c16_i32_680
  let v954 : BitVec 32 := Scalar.remsi v951 v953
  let c0_i32_684 : BitVec 32 := 0#32
  let v956 : BitVec 1 := Scalar.cmpi .slt v954 c0_i32_684
  let c0_i32_685 : BitVec 32 := 0#32
  let v957 : BitVec 1 := Scalar.cmpi .slt v953 c0_i32_685
  let v958 : BitVec 1 := Scalar.xori v956 v957
  let c0_i32_683 : BitVec 32 := 0#32
  let v955 : BitVec 1 := Scalar.cmpi .ne v954 c0_i32_683
  let v959 : BitVec 1 := Scalar.andi v958 v955
  let v960 : BitVec 32 := Scalar.addi v954 v953
  let v961 : BitVec 32 := Scalar.select v959 v960 v954
  let c1_i32_686 : BitVec 32 := 1#32
  let v962 : BitVec 32 := Scalar.muli v961 c1_i32_686
  let c0_i32_687 : BitVec 32 := 0#32
  let v963 : BitVec 32 := Scalar.addi v962 c0_i32_687
  let v967 : BitVec 1 := Scalar.cmpi .ne v963 v2
  let v968 : BitVec 32 := Scalar.extui v967
  let c0_i32_689 : BitVec 32 := 0#32
  let v969 : BitVec 1 := Scalar.cmpi .ne v968 c0_i32_689
  v969

def k0_off57 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_679 : BitVec 32 := 5#32
  let v951 : BitVec 32 := Scalar.addi v2 c5_i32_679
  let c16_i32_680 : BitVec 32 := 16#32
  let c0_i32_681 : BitVec 32 := 0#32
  let v952 : BitVec 1 := Scalar.cmpi .eq c16_i32_680 c0_i32_681
  let c1_i32_682 : BitVec 32 := 1#32
  let v953 : BitVec 32 := Scalar.select v952 c1_i32_682 c16_i32_680
  let v954 : BitVec 32 := Scalar.remsi v951 v953
  let c0_i32_684 : BitVec 32 := 0#32
  let v956 : BitVec 1 := Scalar.cmpi .slt v954 c0_i32_684
  let c0_i32_685 : BitVec 32 := 0#32
  let v957 : BitVec 1 := Scalar.cmpi .slt v953 c0_i32_685
  let v958 : BitVec 1 := Scalar.xori v956 v957
  let c0_i32_683 : BitVec 32 := 0#32
  let v955 : BitVec 1 := Scalar.cmpi .ne v954 c0_i32_683
  let v959 : BitVec 1 := Scalar.andi v958 v955
  let v960 : BitVec 32 := Scalar.addi v954 v953
  let v961 : BitVec 32 := Scalar.select v959 v960 v954
  let c1_i32_686 : BitVec 32 := 1#32
  let v962 : BitVec 32 := Scalar.muli v961 c1_i32_686
  let c0_i32_687 : BitVec 32 := 0#32
  let v963 : BitVec 32 := Scalar.addi v962 c0_i32_687
  let v2092 : Index := Scalar.indexCast v963
  let c0_1535 : Index := 0#32
  let c0_1536 : Index := 0#32
  ![v2092.toNat, 0, 0]
def k0_off58 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_679 : BitVec 32 := 5#32
  let v951 : BitVec 32 := Scalar.addi v2 c5_i32_679
  let c16_i32_680 : BitVec 32 := 16#32
  let c0_i32_681 : BitVec 32 := 0#32
  let v952 : BitVec 1 := Scalar.cmpi .eq c16_i32_680 c0_i32_681
  let c1_i32_682 : BitVec 32 := 1#32
  let v953 : BitVec 32 := Scalar.select v952 c1_i32_682 c16_i32_680
  let v954 : BitVec 32 := Scalar.remsi v951 v953
  let c0_i32_684 : BitVec 32 := 0#32
  let v956 : BitVec 1 := Scalar.cmpi .slt v954 c0_i32_684
  let c0_i32_685 : BitVec 32 := 0#32
  let v957 : BitVec 1 := Scalar.cmpi .slt v953 c0_i32_685
  let v958 : BitVec 1 := Scalar.xori v956 v957
  let c0_i32_683 : BitVec 32 := 0#32
  let v955 : BitVec 1 := Scalar.cmpi .ne v954 c0_i32_683
  let v959 : BitVec 1 := Scalar.andi v958 v955
  let v960 : BitVec 32 := Scalar.addi v954 v953
  let v961 : BitVec 32 := Scalar.select v959 v960 v954
  let c1_i32_686 : BitVec 32 := 1#32
  let v962 : BitVec 32 := Scalar.muli v961 c1_i32_686
  let c0_i32_687 : BitVec 32 := 0#32
  let v963 : BitVec 32 := Scalar.addi v962 c0_i32_687
  ![v963.toNat]
def k0_off59 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off61 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_679 : BitVec 32 := 5#32
  let v951 : BitVec 32 := Scalar.addi v2 c5_i32_679
  let c16_i32_680 : BitVec 32 := 16#32
  let c0_i32_681 : BitVec 32 := 0#32
  let v952 : BitVec 1 := Scalar.cmpi .eq c16_i32_680 c0_i32_681
  let c1_i32_682 : BitVec 32 := 1#32
  let v953 : BitVec 32 := Scalar.select v952 c1_i32_682 c16_i32_680
  let v954 : BitVec 32 := Scalar.remsi v951 v953
  let c0_i32_684 : BitVec 32 := 0#32
  let v956 : BitVec 1 := Scalar.cmpi .slt v954 c0_i32_684
  let c0_i32_685 : BitVec 32 := 0#32
  let v957 : BitVec 1 := Scalar.cmpi .slt v953 c0_i32_685
  let v958 : BitVec 1 := Scalar.xori v956 v957
  let c0_i32_683 : BitVec 32 := 0#32
  let v955 : BitVec 1 := Scalar.cmpi .ne v954 c0_i32_683
  let v959 : BitVec 1 := Scalar.andi v958 v955
  let v960 : BitVec 32 := Scalar.addi v954 v953
  let v961 : BitVec 32 := Scalar.select v959 v960 v954
  let c1_i32_686 : BitVec 32 := 1#32
  let v962 : BitVec 32 := Scalar.muli v961 c1_i32_686
  let c0_i32_687 : BitVec 32 := 0#32
  let v963 : BitVec 32 := Scalar.addi v962 c0_i32_687
  let c0_i32_1541 : BitVec 32 := 0#32
  let c0_i32_1542 : BitVec 32 := 0#32
  ![v963.toNat, 0, 0]
def k0_dev25 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_679 : BitVec 32 := 5#32
  let v951 : BitVec 32 := Scalar.addi v2 c5_i32_679
  let c16_i32_680 : BitVec 32 := 16#32
  let c0_i32_681 : BitVec 32 := 0#32
  let v952 : BitVec 1 := Scalar.cmpi .eq c16_i32_680 c0_i32_681
  let c1_i32_682 : BitVec 32 := 1#32
  let v953 : BitVec 32 := Scalar.select v952 c1_i32_682 c16_i32_680
  let v954 : BitVec 32 := Scalar.remsi v951 v953
  let c0_i32_684 : BitVec 32 := 0#32
  let v956 : BitVec 1 := Scalar.cmpi .slt v954 c0_i32_684
  let c0_i32_685 : BitVec 32 := 0#32
  let v957 : BitVec 1 := Scalar.cmpi .slt v953 c0_i32_685
  let v958 : BitVec 1 := Scalar.xori v956 v957
  let c0_i32_683 : BitVec 32 := 0#32
  let v955 : BitVec 1 := Scalar.cmpi .ne v954 c0_i32_683
  let v959 : BitVec 1 := Scalar.andi v958 v955
  let v960 : BitVec 32 := Scalar.addi v954 v953
  let v961 : BitVec 32 := Scalar.select v959 v960 v954
  let c1_i32_686 : BitVec 32 := 1#32
  let v962 : BitVec 32 := Scalar.muli v961 c1_i32_686
  let c0_i32_687 : BitVec 32 := 0#32
  let v963 : BitVec 32 := Scalar.addi v962 c0_i32_687
  let c1_i32_1538 : BitVec 32 := 1#32
  let v2097 : BitVec 32 := Scalar.muli v963 c1_i32_1538
  let v2098 : BitVec 32 := Scalar.addi c0_i32_1539 v2097
  v2098.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_714 : BitVec 32 := 6#32
  let v1000 : BitVec 32 := Scalar.addi v2 c6_i32_714
  let c16_i32_715 : BitVec 32 := 16#32
  let c0_i32_716 : BitVec 32 := 0#32
  let v1001 : BitVec 1 := Scalar.cmpi .eq c16_i32_715 c0_i32_716
  let c1_i32_717 : BitVec 32 := 1#32
  let v1002 : BitVec 32 := Scalar.select v1001 c1_i32_717 c16_i32_715
  let v1003 : BitVec 32 := Scalar.remsi v1000 v1002
  let c0_i32_719 : BitVec 32 := 0#32
  let v1005 : BitVec 1 := Scalar.cmpi .slt v1003 c0_i32_719
  let c0_i32_720 : BitVec 32 := 0#32
  let v1006 : BitVec 1 := Scalar.cmpi .slt v1002 c0_i32_720
  let v1007 : BitVec 1 := Scalar.xori v1005 v1006
  let c0_i32_718 : BitVec 32 := 0#32
  let v1004 : BitVec 1 := Scalar.cmpi .ne v1003 c0_i32_718
  let v1008 : BitVec 1 := Scalar.andi v1007 v1004
  let v1009 : BitVec 32 := Scalar.addi v1003 v1002
  let v1010 : BitVec 32 := Scalar.select v1008 v1009 v1003
  let c1_i32_721 : BitVec 32 := 1#32
  let v1011 : BitVec 32 := Scalar.muli v1010 c1_i32_721
  let c0_i32_722 : BitVec 32 := 0#32
  let v1012 : BitVec 32 := Scalar.addi v1011 c0_i32_722
  let v1013 : BitVec 1 := Scalar.cmpi .eq v1012 v2
  let v1014 : BitVec 32 := Scalar.extui v1013
  let c0_i32_723 : BitVec 32 := 0#32
  let v1015 : BitVec 1 := Scalar.cmpi .ne v1014 c0_i32_723
  v1015

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_714 : BitVec 32 := 6#32
  let v1000 : BitVec 32 := Scalar.addi v2 c6_i32_714
  let c16_i32_715 : BitVec 32 := 16#32
  let c0_i32_716 : BitVec 32 := 0#32
  let v1001 : BitVec 1 := Scalar.cmpi .eq c16_i32_715 c0_i32_716
  let c1_i32_717 : BitVec 32 := 1#32
  let v1002 : BitVec 32 := Scalar.select v1001 c1_i32_717 c16_i32_715
  let v1003 : BitVec 32 := Scalar.remsi v1000 v1002
  let c0_i32_719 : BitVec 32 := 0#32
  let v1005 : BitVec 1 := Scalar.cmpi .slt v1003 c0_i32_719
  let c0_i32_720 : BitVec 32 := 0#32
  let v1006 : BitVec 1 := Scalar.cmpi .slt v1002 c0_i32_720
  let v1007 : BitVec 1 := Scalar.xori v1005 v1006
  let c0_i32_718 : BitVec 32 := 0#32
  let v1004 : BitVec 1 := Scalar.cmpi .ne v1003 c0_i32_718
  let v1008 : BitVec 1 := Scalar.andi v1007 v1004
  let v1009 : BitVec 32 := Scalar.addi v1003 v1002
  let v1010 : BitVec 32 := Scalar.select v1008 v1009 v1003
  let c1_i32_721 : BitVec 32 := 1#32
  let v1011 : BitVec 32 := Scalar.muli v1010 c1_i32_721
  let c0_i32_722 : BitVec 32 := 0#32
  let v1012 : BitVec 32 := Scalar.addi v1011 c0_i32_722
  let v1016 : BitVec 1 := Scalar.cmpi .ne v1012 v2
  let v1017 : BitVec 32 := Scalar.extui v1016
  let c0_i32_724 : BitVec 32 := 0#32
  let v1018 : BitVec 1 := Scalar.cmpi .ne v1017 c0_i32_724
  v1018

def k0_off63 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_714 : BitVec 32 := 6#32
  let v1000 : BitVec 32 := Scalar.addi v2 c6_i32_714
  let c16_i32_715 : BitVec 32 := 16#32
  let c0_i32_716 : BitVec 32 := 0#32
  let v1001 : BitVec 1 := Scalar.cmpi .eq c16_i32_715 c0_i32_716
  let c1_i32_717 : BitVec 32 := 1#32
  let v1002 : BitVec 32 := Scalar.select v1001 c1_i32_717 c16_i32_715
  let v1003 : BitVec 32 := Scalar.remsi v1000 v1002
  let c0_i32_719 : BitVec 32 := 0#32
  let v1005 : BitVec 1 := Scalar.cmpi .slt v1003 c0_i32_719
  let c0_i32_720 : BitVec 32 := 0#32
  let v1006 : BitVec 1 := Scalar.cmpi .slt v1002 c0_i32_720
  let v1007 : BitVec 1 := Scalar.xori v1005 v1006
  let c0_i32_718 : BitVec 32 := 0#32
  let v1004 : BitVec 1 := Scalar.cmpi .ne v1003 c0_i32_718
  let v1008 : BitVec 1 := Scalar.andi v1007 v1004
  let v1009 : BitVec 32 := Scalar.addi v1003 v1002
  let v1010 : BitVec 32 := Scalar.select v1008 v1009 v1003
  let c1_i32_721 : BitVec 32 := 1#32
  let v1011 : BitVec 32 := Scalar.muli v1010 c1_i32_721
  let c0_i32_722 : BitVec 32 := 0#32
  let v1012 : BitVec 32 := Scalar.addi v1011 c0_i32_722
  let v2092 : Index := Scalar.indexCast v1012
  let c0_1535 : Index := 0#32
  let c0_1536 : Index := 0#32
  ![v2092.toNat, 0, 0]
def k0_off64 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_714 : BitVec 32 := 6#32
  let v1000 : BitVec 32 := Scalar.addi v2 c6_i32_714
  let c16_i32_715 : BitVec 32 := 16#32
  let c0_i32_716 : BitVec 32 := 0#32
  let v1001 : BitVec 1 := Scalar.cmpi .eq c16_i32_715 c0_i32_716
  let c1_i32_717 : BitVec 32 := 1#32
  let v1002 : BitVec 32 := Scalar.select v1001 c1_i32_717 c16_i32_715
  let v1003 : BitVec 32 := Scalar.remsi v1000 v1002
  let c0_i32_719 : BitVec 32 := 0#32
  let v1005 : BitVec 1 := Scalar.cmpi .slt v1003 c0_i32_719
  let c0_i32_720 : BitVec 32 := 0#32
  let v1006 : BitVec 1 := Scalar.cmpi .slt v1002 c0_i32_720
  let v1007 : BitVec 1 := Scalar.xori v1005 v1006
  let c0_i32_718 : BitVec 32 := 0#32
  let v1004 : BitVec 1 := Scalar.cmpi .ne v1003 c0_i32_718
  let v1008 : BitVec 1 := Scalar.andi v1007 v1004
  let v1009 : BitVec 32 := Scalar.addi v1003 v1002
  let v1010 : BitVec 32 := Scalar.select v1008 v1009 v1003
  let c1_i32_721 : BitVec 32 := 1#32
  let v1011 : BitVec 32 := Scalar.muli v1010 c1_i32_721
  let c0_i32_722 : BitVec 32 := 0#32
  let v1012 : BitVec 32 := Scalar.addi v1011 c0_i32_722
  ![v1012.toNat]
def k0_off65 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off67 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_714 : BitVec 32 := 6#32
  let v1000 : BitVec 32 := Scalar.addi v2 c6_i32_714
  let c16_i32_715 : BitVec 32 := 16#32
  let c0_i32_716 : BitVec 32 := 0#32
  let v1001 : BitVec 1 := Scalar.cmpi .eq c16_i32_715 c0_i32_716
  let c1_i32_717 : BitVec 32 := 1#32
  let v1002 : BitVec 32 := Scalar.select v1001 c1_i32_717 c16_i32_715
  let v1003 : BitVec 32 := Scalar.remsi v1000 v1002
  let c0_i32_719 : BitVec 32 := 0#32
  let v1005 : BitVec 1 := Scalar.cmpi .slt v1003 c0_i32_719
  let c0_i32_720 : BitVec 32 := 0#32
  let v1006 : BitVec 1 := Scalar.cmpi .slt v1002 c0_i32_720
  let v1007 : BitVec 1 := Scalar.xori v1005 v1006
  let c0_i32_718 : BitVec 32 := 0#32
  let v1004 : BitVec 1 := Scalar.cmpi .ne v1003 c0_i32_718
  let v1008 : BitVec 1 := Scalar.andi v1007 v1004
  let v1009 : BitVec 32 := Scalar.addi v1003 v1002
  let v1010 : BitVec 32 := Scalar.select v1008 v1009 v1003
  let c1_i32_721 : BitVec 32 := 1#32
  let v1011 : BitVec 32 := Scalar.muli v1010 c1_i32_721
  let c0_i32_722 : BitVec 32 := 0#32
  let v1012 : BitVec 32 := Scalar.addi v1011 c0_i32_722
  let c0_i32_1541 : BitVec 32 := 0#32
  let c0_i32_1542 : BitVec 32 := 0#32
  ![v1012.toNat, 0, 0]
def k0_dev26 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_714 : BitVec 32 := 6#32
  let v1000 : BitVec 32 := Scalar.addi v2 c6_i32_714
  let c16_i32_715 : BitVec 32 := 16#32
  let c0_i32_716 : BitVec 32 := 0#32
  let v1001 : BitVec 1 := Scalar.cmpi .eq c16_i32_715 c0_i32_716
  let c1_i32_717 : BitVec 32 := 1#32
  let v1002 : BitVec 32 := Scalar.select v1001 c1_i32_717 c16_i32_715
  let v1003 : BitVec 32 := Scalar.remsi v1000 v1002
  let c0_i32_719 : BitVec 32 := 0#32
  let v1005 : BitVec 1 := Scalar.cmpi .slt v1003 c0_i32_719
  let c0_i32_720 : BitVec 32 := 0#32
  let v1006 : BitVec 1 := Scalar.cmpi .slt v1002 c0_i32_720
  let v1007 : BitVec 1 := Scalar.xori v1005 v1006
  let c0_i32_718 : BitVec 32 := 0#32
  let v1004 : BitVec 1 := Scalar.cmpi .ne v1003 c0_i32_718
  let v1008 : BitVec 1 := Scalar.andi v1007 v1004
  let v1009 : BitVec 32 := Scalar.addi v1003 v1002
  let v1010 : BitVec 32 := Scalar.select v1008 v1009 v1003
  let c1_i32_721 : BitVec 32 := 1#32
  let v1011 : BitVec 32 := Scalar.muli v1010 c1_i32_721
  let c0_i32_722 : BitVec 32 := 0#32
  let v1012 : BitVec 32 := Scalar.addi v1011 c0_i32_722
  let c1_i32_1538 : BitVec 32 := 1#32
  let v2097 : BitVec 32 := Scalar.muli v1012 c1_i32_1538
  let v2098 : BitVec 32 := Scalar.addi c0_i32_1539 v2097
  v2098.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_749 : BitVec 32 := 7#32
  let v1049 : BitVec 32 := Scalar.addi v2 c7_i32_749
  let c16_i32_750 : BitVec 32 := 16#32
  let c0_i32_751 : BitVec 32 := 0#32
  let v1050 : BitVec 1 := Scalar.cmpi .eq c16_i32_750 c0_i32_751
  let c1_i32_752 : BitVec 32 := 1#32
  let v1051 : BitVec 32 := Scalar.select v1050 c1_i32_752 c16_i32_750
  let v1052 : BitVec 32 := Scalar.remsi v1049 v1051
  let c0_i32_754 : BitVec 32 := 0#32
  let v1054 : BitVec 1 := Scalar.cmpi .slt v1052 c0_i32_754
  let c0_i32_755 : BitVec 32 := 0#32
  let v1055 : BitVec 1 := Scalar.cmpi .slt v1051 c0_i32_755
  let v1056 : BitVec 1 := Scalar.xori v1054 v1055
  let c0_i32_753 : BitVec 32 := 0#32
  let v1053 : BitVec 1 := Scalar.cmpi .ne v1052 c0_i32_753
  let v1057 : BitVec 1 := Scalar.andi v1056 v1053
  let v1058 : BitVec 32 := Scalar.addi v1052 v1051
  let v1059 : BitVec 32 := Scalar.select v1057 v1058 v1052
  let c1_i32_756 : BitVec 32 := 1#32
  let v1060 : BitVec 32 := Scalar.muli v1059 c1_i32_756
  let c0_i32_757 : BitVec 32 := 0#32
  let v1061 : BitVec 32 := Scalar.addi v1060 c0_i32_757
  let v1062 : BitVec 1 := Scalar.cmpi .eq v1061 v2
  let v1063 : BitVec 32 := Scalar.extui v1062
  let c0_i32_758 : BitVec 32 := 0#32
  let v1064 : BitVec 1 := Scalar.cmpi .ne v1063 c0_i32_758
  v1064

def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_749 : BitVec 32 := 7#32
  let v1049 : BitVec 32 := Scalar.addi v2 c7_i32_749
  let c16_i32_750 : BitVec 32 := 16#32
  let c0_i32_751 : BitVec 32 := 0#32
  let v1050 : BitVec 1 := Scalar.cmpi .eq c16_i32_750 c0_i32_751
  let c1_i32_752 : BitVec 32 := 1#32
  let v1051 : BitVec 32 := Scalar.select v1050 c1_i32_752 c16_i32_750
  let v1052 : BitVec 32 := Scalar.remsi v1049 v1051
  let c0_i32_754 : BitVec 32 := 0#32
  let v1054 : BitVec 1 := Scalar.cmpi .slt v1052 c0_i32_754
  let c0_i32_755 : BitVec 32 := 0#32
  let v1055 : BitVec 1 := Scalar.cmpi .slt v1051 c0_i32_755
  let v1056 : BitVec 1 := Scalar.xori v1054 v1055
  let c0_i32_753 : BitVec 32 := 0#32
  let v1053 : BitVec 1 := Scalar.cmpi .ne v1052 c0_i32_753
  let v1057 : BitVec 1 := Scalar.andi v1056 v1053
  let v1058 : BitVec 32 := Scalar.addi v1052 v1051
  let v1059 : BitVec 32 := Scalar.select v1057 v1058 v1052
  let c1_i32_756 : BitVec 32 := 1#32
  let v1060 : BitVec 32 := Scalar.muli v1059 c1_i32_756
  let c0_i32_757 : BitVec 32 := 0#32
  let v1061 : BitVec 32 := Scalar.addi v1060 c0_i32_757
  let v1065 : BitVec 1 := Scalar.cmpi .ne v1061 v2
  let v1066 : BitVec 32 := Scalar.extui v1065
  let c0_i32_759 : BitVec 32 := 0#32
  let v1067 : BitVec 1 := Scalar.cmpi .ne v1066 c0_i32_759
  v1067

def k0_off69 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_749 : BitVec 32 := 7#32
  let v1049 : BitVec 32 := Scalar.addi v2 c7_i32_749
  let c16_i32_750 : BitVec 32 := 16#32
  let c0_i32_751 : BitVec 32 := 0#32
  let v1050 : BitVec 1 := Scalar.cmpi .eq c16_i32_750 c0_i32_751
  let c1_i32_752 : BitVec 32 := 1#32
  let v1051 : BitVec 32 := Scalar.select v1050 c1_i32_752 c16_i32_750
  let v1052 : BitVec 32 := Scalar.remsi v1049 v1051
  let c0_i32_754 : BitVec 32 := 0#32
  let v1054 : BitVec 1 := Scalar.cmpi .slt v1052 c0_i32_754
  let c0_i32_755 : BitVec 32 := 0#32
  let v1055 : BitVec 1 := Scalar.cmpi .slt v1051 c0_i32_755
  let v1056 : BitVec 1 := Scalar.xori v1054 v1055
  let c0_i32_753 : BitVec 32 := 0#32
  let v1053 : BitVec 1 := Scalar.cmpi .ne v1052 c0_i32_753
  let v1057 : BitVec 1 := Scalar.andi v1056 v1053
  let v1058 : BitVec 32 := Scalar.addi v1052 v1051
  let v1059 : BitVec 32 := Scalar.select v1057 v1058 v1052
  let c1_i32_756 : BitVec 32 := 1#32
  let v1060 : BitVec 32 := Scalar.muli v1059 c1_i32_756
  let c0_i32_757 : BitVec 32 := 0#32
  let v1061 : BitVec 32 := Scalar.addi v1060 c0_i32_757
  let v2092 : Index := Scalar.indexCast v1061
  let c0_1535 : Index := 0#32
  let c0_1536 : Index := 0#32
  ![v2092.toNat, 0, 0]
def k0_off70 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_749 : BitVec 32 := 7#32
  let v1049 : BitVec 32 := Scalar.addi v2 c7_i32_749
  let c16_i32_750 : BitVec 32 := 16#32
  let c0_i32_751 : BitVec 32 := 0#32
  let v1050 : BitVec 1 := Scalar.cmpi .eq c16_i32_750 c0_i32_751
  let c1_i32_752 : BitVec 32 := 1#32
  let v1051 : BitVec 32 := Scalar.select v1050 c1_i32_752 c16_i32_750
  let v1052 : BitVec 32 := Scalar.remsi v1049 v1051
  let c0_i32_754 : BitVec 32 := 0#32
  let v1054 : BitVec 1 := Scalar.cmpi .slt v1052 c0_i32_754
  let c0_i32_755 : BitVec 32 := 0#32
  let v1055 : BitVec 1 := Scalar.cmpi .slt v1051 c0_i32_755
  let v1056 : BitVec 1 := Scalar.xori v1054 v1055
  let c0_i32_753 : BitVec 32 := 0#32
  let v1053 : BitVec 1 := Scalar.cmpi .ne v1052 c0_i32_753
  let v1057 : BitVec 1 := Scalar.andi v1056 v1053
  let v1058 : BitVec 32 := Scalar.addi v1052 v1051
  let v1059 : BitVec 32 := Scalar.select v1057 v1058 v1052
  let c1_i32_756 : BitVec 32 := 1#32
  let v1060 : BitVec 32 := Scalar.muli v1059 c1_i32_756
  let c0_i32_757 : BitVec 32 := 0#32
  let v1061 : BitVec 32 := Scalar.addi v1060 c0_i32_757
  ![v1061.toNat]
def k0_off71 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off73 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_749 : BitVec 32 := 7#32
  let v1049 : BitVec 32 := Scalar.addi v2 c7_i32_749
  let c16_i32_750 : BitVec 32 := 16#32
  let c0_i32_751 : BitVec 32 := 0#32
  let v1050 : BitVec 1 := Scalar.cmpi .eq c16_i32_750 c0_i32_751
  let c1_i32_752 : BitVec 32 := 1#32
  let v1051 : BitVec 32 := Scalar.select v1050 c1_i32_752 c16_i32_750
  let v1052 : BitVec 32 := Scalar.remsi v1049 v1051
  let c0_i32_754 : BitVec 32 := 0#32
  let v1054 : BitVec 1 := Scalar.cmpi .slt v1052 c0_i32_754
  let c0_i32_755 : BitVec 32 := 0#32
  let v1055 : BitVec 1 := Scalar.cmpi .slt v1051 c0_i32_755
  let v1056 : BitVec 1 := Scalar.xori v1054 v1055
  let c0_i32_753 : BitVec 32 := 0#32
  let v1053 : BitVec 1 := Scalar.cmpi .ne v1052 c0_i32_753
  let v1057 : BitVec 1 := Scalar.andi v1056 v1053
  let v1058 : BitVec 32 := Scalar.addi v1052 v1051
  let v1059 : BitVec 32 := Scalar.select v1057 v1058 v1052
  let c1_i32_756 : BitVec 32 := 1#32
  let v1060 : BitVec 32 := Scalar.muli v1059 c1_i32_756
  let c0_i32_757 : BitVec 32 := 0#32
  let v1061 : BitVec 32 := Scalar.addi v1060 c0_i32_757
  let c0_i32_1541 : BitVec 32 := 0#32
  let c0_i32_1542 : BitVec 32 := 0#32
  ![v1061.toNat, 0, 0]
def k0_dev27 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_749 : BitVec 32 := 7#32
  let v1049 : BitVec 32 := Scalar.addi v2 c7_i32_749
  let c16_i32_750 : BitVec 32 := 16#32
  let c0_i32_751 : BitVec 32 := 0#32
  let v1050 : BitVec 1 := Scalar.cmpi .eq c16_i32_750 c0_i32_751
  let c1_i32_752 : BitVec 32 := 1#32
  let v1051 : BitVec 32 := Scalar.select v1050 c1_i32_752 c16_i32_750
  let v1052 : BitVec 32 := Scalar.remsi v1049 v1051
  let c0_i32_754 : BitVec 32 := 0#32
  let v1054 : BitVec 1 := Scalar.cmpi .slt v1052 c0_i32_754
  let c0_i32_755 : BitVec 32 := 0#32
  let v1055 : BitVec 1 := Scalar.cmpi .slt v1051 c0_i32_755
  let v1056 : BitVec 1 := Scalar.xori v1054 v1055
  let c0_i32_753 : BitVec 32 := 0#32
  let v1053 : BitVec 1 := Scalar.cmpi .ne v1052 c0_i32_753
  let v1057 : BitVec 1 := Scalar.andi v1056 v1053
  let v1058 : BitVec 32 := Scalar.addi v1052 v1051
  let v1059 : BitVec 32 := Scalar.select v1057 v1058 v1052
  let c1_i32_756 : BitVec 32 := 1#32
  let v1060 : BitVec 32 := Scalar.muli v1059 c1_i32_756
  let c0_i32_757 : BitVec 32 := 0#32
  let v1061 : BitVec 32 := Scalar.addi v1060 c0_i32_757
  let c1_i32_1538 : BitVec 32 := 1#32
  let v2097 : BitVec 32 := Scalar.muli v1061 c1_i32_1538
  let v2098 : BitVec 32 := Scalar.addi c0_i32_1539 v2097
  v2098.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_784 : BitVec 32 := 1#32
  let v1098 : BitVec 32 := Scalar.addi v2 c1_i32_784
  let c16_i32_785 : BitVec 32 := 16#32
  let c0_i32_786 : BitVec 32 := 0#32
  let v1099 : BitVec 1 := Scalar.cmpi .eq c16_i32_785 c0_i32_786
  let c1_i32_787 : BitVec 32 := 1#32
  let v1100 : BitVec 32 := Scalar.select v1099 c1_i32_787 c16_i32_785
  let v1101 : BitVec 32 := Scalar.remsi v1098 v1100
  let c0_i32_789 : BitVec 32 := 0#32
  let v1103 : BitVec 1 := Scalar.cmpi .slt v1101 c0_i32_789
  let c0_i32_790 : BitVec 32 := 0#32
  let v1104 : BitVec 1 := Scalar.cmpi .slt v1100 c0_i32_790
  let v1105 : BitVec 1 := Scalar.xori v1103 v1104
  let c0_i32_788 : BitVec 32 := 0#32
  let v1102 : BitVec 1 := Scalar.cmpi .ne v1101 c0_i32_788
  let v1106 : BitVec 1 := Scalar.andi v1105 v1102
  let v1107 : BitVec 32 := Scalar.addi v1101 v1100
  let v1108 : BitVec 32 := Scalar.select v1106 v1107 v1101
  let c1_i32_791 : BitVec 32 := 1#32
  let v1109 : BitVec 32 := Scalar.muli v1108 c1_i32_791
  let c0_i32_792 : BitVec 32 := 0#32
  let v1110 : BitVec 32 := Scalar.addi v1109 c0_i32_792
  let v1111 : BitVec 1 := Scalar.cmpi .eq v1110 v2
  let v1112 : BitVec 32 := Scalar.extui v1111
  let c0_i32_793 : BitVec 32 := 0#32
  let v1113 : BitVec 1 := Scalar.cmpi .ne v1112 c0_i32_793
  v1113

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_784 : BitVec 32 := 1#32
  let v1098 : BitVec 32 := Scalar.addi v2 c1_i32_784
  let c16_i32_785 : BitVec 32 := 16#32
  let c0_i32_786 : BitVec 32 := 0#32
  let v1099 : BitVec 1 := Scalar.cmpi .eq c16_i32_785 c0_i32_786
  let c1_i32_787 : BitVec 32 := 1#32
  let v1100 : BitVec 32 := Scalar.select v1099 c1_i32_787 c16_i32_785
  let v1101 : BitVec 32 := Scalar.remsi v1098 v1100
  let c0_i32_789 : BitVec 32 := 0#32
  let v1103 : BitVec 1 := Scalar.cmpi .slt v1101 c0_i32_789
  let c0_i32_790 : BitVec 32 := 0#32
  let v1104 : BitVec 1 := Scalar.cmpi .slt v1100 c0_i32_790
  let v1105 : BitVec 1 := Scalar.xori v1103 v1104
  let c0_i32_788 : BitVec 32 := 0#32
  let v1102 : BitVec 1 := Scalar.cmpi .ne v1101 c0_i32_788
  let v1106 : BitVec 1 := Scalar.andi v1105 v1102
  let v1107 : BitVec 32 := Scalar.addi v1101 v1100
  let v1108 : BitVec 32 := Scalar.select v1106 v1107 v1101
  let c1_i32_791 : BitVec 32 := 1#32
  let v1109 : BitVec 32 := Scalar.muli v1108 c1_i32_791
  let c0_i32_792 : BitVec 32 := 0#32
  let v1110 : BitVec 32 := Scalar.addi v1109 c0_i32_792
  let v1114 : BitVec 1 := Scalar.cmpi .ne v1110 v2
  let v1115 : BitVec 32 := Scalar.extui v1114
  let c0_i32_794 : BitVec 32 := 0#32
  let v1116 : BitVec 1 := Scalar.cmpi .ne v1115 c0_i32_794
  v1116

def k0_off75 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_784 : BitVec 32 := 1#32
  let v1098 : BitVec 32 := Scalar.addi v2 c1_i32_784
  let c16_i32_785 : BitVec 32 := 16#32
  let c0_i32_786 : BitVec 32 := 0#32
  let v1099 : BitVec 1 := Scalar.cmpi .eq c16_i32_785 c0_i32_786
  let c1_i32_787 : BitVec 32 := 1#32
  let v1100 : BitVec 32 := Scalar.select v1099 c1_i32_787 c16_i32_785
  let v1101 : BitVec 32 := Scalar.remsi v1098 v1100
  let c0_i32_789 : BitVec 32 := 0#32
  let v1103 : BitVec 1 := Scalar.cmpi .slt v1101 c0_i32_789
  let c0_i32_790 : BitVec 32 := 0#32
  let v1104 : BitVec 1 := Scalar.cmpi .slt v1100 c0_i32_790
  let v1105 : BitVec 1 := Scalar.xori v1103 v1104
  let c0_i32_788 : BitVec 32 := 0#32
  let v1102 : BitVec 1 := Scalar.cmpi .ne v1101 c0_i32_788
  let v1106 : BitVec 1 := Scalar.andi v1105 v1102
  let v1107 : BitVec 32 := Scalar.addi v1101 v1100
  let v1108 : BitVec 32 := Scalar.select v1106 v1107 v1101
  let c1_i32_791 : BitVec 32 := 1#32
  let v1109 : BitVec 32 := Scalar.muli v1108 c1_i32_791
  let c0_i32_792 : BitVec 32 := 0#32
  let v1110 : BitVec 32 := Scalar.addi v1109 c0_i32_792
  let v2092 : Index := Scalar.indexCast v1110
  let c0_1535 : Index := 0#32
  let c0_1536 : Index := 0#32
  ![v2092.toNat, 0, 0]
def k0_off76 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_784 : BitVec 32 := 1#32
  let v1098 : BitVec 32 := Scalar.addi v2 c1_i32_784
  let c16_i32_785 : BitVec 32 := 16#32
  let c0_i32_786 : BitVec 32 := 0#32
  let v1099 : BitVec 1 := Scalar.cmpi .eq c16_i32_785 c0_i32_786
  let c1_i32_787 : BitVec 32 := 1#32
  let v1100 : BitVec 32 := Scalar.select v1099 c1_i32_787 c16_i32_785
  let v1101 : BitVec 32 := Scalar.remsi v1098 v1100
  let c0_i32_789 : BitVec 32 := 0#32
  let v1103 : BitVec 1 := Scalar.cmpi .slt v1101 c0_i32_789
  let c0_i32_790 : BitVec 32 := 0#32
  let v1104 : BitVec 1 := Scalar.cmpi .slt v1100 c0_i32_790
  let v1105 : BitVec 1 := Scalar.xori v1103 v1104
  let c0_i32_788 : BitVec 32 := 0#32
  let v1102 : BitVec 1 := Scalar.cmpi .ne v1101 c0_i32_788
  let v1106 : BitVec 1 := Scalar.andi v1105 v1102
  let v1107 : BitVec 32 := Scalar.addi v1101 v1100
  let v1108 : BitVec 32 := Scalar.select v1106 v1107 v1101
  let c1_i32_791 : BitVec 32 := 1#32
  let v1109 : BitVec 32 := Scalar.muli v1108 c1_i32_791
  let c0_i32_792 : BitVec 32 := 0#32
  let v1110 : BitVec 32 := Scalar.addi v1109 c0_i32_792
  ![v1110.toNat]
def k0_off77 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off79 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_784 : BitVec 32 := 1#32
  let v1098 : BitVec 32 := Scalar.addi v2 c1_i32_784
  let c16_i32_785 : BitVec 32 := 16#32
  let c0_i32_786 : BitVec 32 := 0#32
  let v1099 : BitVec 1 := Scalar.cmpi .eq c16_i32_785 c0_i32_786
  let c1_i32_787 : BitVec 32 := 1#32
  let v1100 : BitVec 32 := Scalar.select v1099 c1_i32_787 c16_i32_785
  let v1101 : BitVec 32 := Scalar.remsi v1098 v1100
  let c0_i32_789 : BitVec 32 := 0#32
  let v1103 : BitVec 1 := Scalar.cmpi .slt v1101 c0_i32_789
  let c0_i32_790 : BitVec 32 := 0#32
  let v1104 : BitVec 1 := Scalar.cmpi .slt v1100 c0_i32_790
  let v1105 : BitVec 1 := Scalar.xori v1103 v1104
  let c0_i32_788 : BitVec 32 := 0#32
  let v1102 : BitVec 1 := Scalar.cmpi .ne v1101 c0_i32_788
  let v1106 : BitVec 1 := Scalar.andi v1105 v1102
  let v1107 : BitVec 32 := Scalar.addi v1101 v1100
  let v1108 : BitVec 32 := Scalar.select v1106 v1107 v1101
  let c1_i32_791 : BitVec 32 := 1#32
  let v1109 : BitVec 32 := Scalar.muli v1108 c1_i32_791
  let c0_i32_792 : BitVec 32 := 0#32
  let v1110 : BitVec 32 := Scalar.addi v1109 c0_i32_792
  let c0_i32_1541 : BitVec 32 := 0#32
  let c0_i32_1542 : BitVec 32 := 0#32
  ![v1110.toNat, 0, 0]
def k0_dev28 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_784 : BitVec 32 := 1#32
  let v1098 : BitVec 32 := Scalar.addi v2 c1_i32_784
  let c16_i32_785 : BitVec 32 := 16#32
  let c0_i32_786 : BitVec 32 := 0#32
  let v1099 : BitVec 1 := Scalar.cmpi .eq c16_i32_785 c0_i32_786
  let c1_i32_787 : BitVec 32 := 1#32
  let v1100 : BitVec 32 := Scalar.select v1099 c1_i32_787 c16_i32_785
  let v1101 : BitVec 32 := Scalar.remsi v1098 v1100
  let c0_i32_789 : BitVec 32 := 0#32
  let v1103 : BitVec 1 := Scalar.cmpi .slt v1101 c0_i32_789
  let c0_i32_790 : BitVec 32 := 0#32
  let v1104 : BitVec 1 := Scalar.cmpi .slt v1100 c0_i32_790
  let v1105 : BitVec 1 := Scalar.xori v1103 v1104
  let c0_i32_788 : BitVec 32 := 0#32
  let v1102 : BitVec 1 := Scalar.cmpi .ne v1101 c0_i32_788
  let v1106 : BitVec 1 := Scalar.andi v1105 v1102
  let v1107 : BitVec 32 := Scalar.addi v1101 v1100
  let v1108 : BitVec 32 := Scalar.select v1106 v1107 v1101
  let c1_i32_791 : BitVec 32 := 1#32
  let v1109 : BitVec 32 := Scalar.muli v1108 c1_i32_791
  let c0_i32_792 : BitVec 32 := 0#32
  let v1110 : BitVec 32 := Scalar.addi v1109 c0_i32_792
  let c1_i32_1538 : BitVec 32 := 1#32
  let v2097 : BitVec 32 := Scalar.muli v1110 c1_i32_1538
  let v2098 : BitVec 32 := Scalar.addi c0_i32_1539 v2097
  v2098.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_819 : BitVec 32 := 2#32
  let v1147 : BitVec 32 := Scalar.addi v2 c2_i32_819
  let c16_i32_820 : BitVec 32 := 16#32
  let c0_i32_821 : BitVec 32 := 0#32
  let v1148 : BitVec 1 := Scalar.cmpi .eq c16_i32_820 c0_i32_821
  let c1_i32_822 : BitVec 32 := 1#32
  let v1149 : BitVec 32 := Scalar.select v1148 c1_i32_822 c16_i32_820
  let v1150 : BitVec 32 := Scalar.remsi v1147 v1149
  let c0_i32_824 : BitVec 32 := 0#32
  let v1152 : BitVec 1 := Scalar.cmpi .slt v1150 c0_i32_824
  let c0_i32_825 : BitVec 32 := 0#32
  let v1153 : BitVec 1 := Scalar.cmpi .slt v1149 c0_i32_825
  let v1154 : BitVec 1 := Scalar.xori v1152 v1153
  let c0_i32_823 : BitVec 32 := 0#32
  let v1151 : BitVec 1 := Scalar.cmpi .ne v1150 c0_i32_823
  let v1155 : BitVec 1 := Scalar.andi v1154 v1151
  let v1156 : BitVec 32 := Scalar.addi v1150 v1149
  let v1157 : BitVec 32 := Scalar.select v1155 v1156 v1150
  let c1_i32_826 : BitVec 32 := 1#32
  let v1158 : BitVec 32 := Scalar.muli v1157 c1_i32_826
  let c0_i32_827 : BitVec 32 := 0#32
  let v1159 : BitVec 32 := Scalar.addi v1158 c0_i32_827
  let v1160 : BitVec 1 := Scalar.cmpi .eq v1159 v2
  let v1161 : BitVec 32 := Scalar.extui v1160
  let c0_i32_828 : BitVec 32 := 0#32
  let v1162 : BitVec 1 := Scalar.cmpi .ne v1161 c0_i32_828
  v1162

def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_819 : BitVec 32 := 2#32
  let v1147 : BitVec 32 := Scalar.addi v2 c2_i32_819
  let c16_i32_820 : BitVec 32 := 16#32
  let c0_i32_821 : BitVec 32 := 0#32
  let v1148 : BitVec 1 := Scalar.cmpi .eq c16_i32_820 c0_i32_821
  let c1_i32_822 : BitVec 32 := 1#32
  let v1149 : BitVec 32 := Scalar.select v1148 c1_i32_822 c16_i32_820
  let v1150 : BitVec 32 := Scalar.remsi v1147 v1149
  let c0_i32_824 : BitVec 32 := 0#32
  let v1152 : BitVec 1 := Scalar.cmpi .slt v1150 c0_i32_824
  let c0_i32_825 : BitVec 32 := 0#32
  let v1153 : BitVec 1 := Scalar.cmpi .slt v1149 c0_i32_825
  let v1154 : BitVec 1 := Scalar.xori v1152 v1153
  let c0_i32_823 : BitVec 32 := 0#32
  let v1151 : BitVec 1 := Scalar.cmpi .ne v1150 c0_i32_823
  let v1155 : BitVec 1 := Scalar.andi v1154 v1151
  let v1156 : BitVec 32 := Scalar.addi v1150 v1149
  let v1157 : BitVec 32 := Scalar.select v1155 v1156 v1150
  let c1_i32_826 : BitVec 32 := 1#32
  let v1158 : BitVec 32 := Scalar.muli v1157 c1_i32_826
  let c0_i32_827 : BitVec 32 := 0#32
  let v1159 : BitVec 32 := Scalar.addi v1158 c0_i32_827
  let v1163 : BitVec 1 := Scalar.cmpi .ne v1159 v2
  let v1164 : BitVec 32 := Scalar.extui v1163
  let c0_i32_829 : BitVec 32 := 0#32
  let v1165 : BitVec 1 := Scalar.cmpi .ne v1164 c0_i32_829
  v1165

def k0_off81 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_819 : BitVec 32 := 2#32
  let v1147 : BitVec 32 := Scalar.addi v2 c2_i32_819
  let c16_i32_820 : BitVec 32 := 16#32
  let c0_i32_821 : BitVec 32 := 0#32
  let v1148 : BitVec 1 := Scalar.cmpi .eq c16_i32_820 c0_i32_821
  let c1_i32_822 : BitVec 32 := 1#32
  let v1149 : BitVec 32 := Scalar.select v1148 c1_i32_822 c16_i32_820
  let v1150 : BitVec 32 := Scalar.remsi v1147 v1149
  let c0_i32_824 : BitVec 32 := 0#32
  let v1152 : BitVec 1 := Scalar.cmpi .slt v1150 c0_i32_824
  let c0_i32_825 : BitVec 32 := 0#32
  let v1153 : BitVec 1 := Scalar.cmpi .slt v1149 c0_i32_825
  let v1154 : BitVec 1 := Scalar.xori v1152 v1153
  let c0_i32_823 : BitVec 32 := 0#32
  let v1151 : BitVec 1 := Scalar.cmpi .ne v1150 c0_i32_823
  let v1155 : BitVec 1 := Scalar.andi v1154 v1151
  let v1156 : BitVec 32 := Scalar.addi v1150 v1149
  let v1157 : BitVec 32 := Scalar.select v1155 v1156 v1150
  let c1_i32_826 : BitVec 32 := 1#32
  let v1158 : BitVec 32 := Scalar.muli v1157 c1_i32_826
  let c0_i32_827 : BitVec 32 := 0#32
  let v1159 : BitVec 32 := Scalar.addi v1158 c0_i32_827
  let v2092 : Index := Scalar.indexCast v1159
  let c0_1535 : Index := 0#32
  let c0_1536 : Index := 0#32
  ![v2092.toNat, 0, 0]
def k0_off82 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_819 : BitVec 32 := 2#32
  let v1147 : BitVec 32 := Scalar.addi v2 c2_i32_819
  let c16_i32_820 : BitVec 32 := 16#32
  let c0_i32_821 : BitVec 32 := 0#32
  let v1148 : BitVec 1 := Scalar.cmpi .eq c16_i32_820 c0_i32_821
  let c1_i32_822 : BitVec 32 := 1#32
  let v1149 : BitVec 32 := Scalar.select v1148 c1_i32_822 c16_i32_820
  let v1150 : BitVec 32 := Scalar.remsi v1147 v1149
  let c0_i32_824 : BitVec 32 := 0#32
  let v1152 : BitVec 1 := Scalar.cmpi .slt v1150 c0_i32_824
  let c0_i32_825 : BitVec 32 := 0#32
  let v1153 : BitVec 1 := Scalar.cmpi .slt v1149 c0_i32_825
  let v1154 : BitVec 1 := Scalar.xori v1152 v1153
  let c0_i32_823 : BitVec 32 := 0#32
  let v1151 : BitVec 1 := Scalar.cmpi .ne v1150 c0_i32_823
  let v1155 : BitVec 1 := Scalar.andi v1154 v1151
  let v1156 : BitVec 32 := Scalar.addi v1150 v1149
  let v1157 : BitVec 32 := Scalar.select v1155 v1156 v1150
  let c1_i32_826 : BitVec 32 := 1#32
  let v1158 : BitVec 32 := Scalar.muli v1157 c1_i32_826
  let c0_i32_827 : BitVec 32 := 0#32
  let v1159 : BitVec 32 := Scalar.addi v1158 c0_i32_827
  ![v1159.toNat]
def k0_off83 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off85 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_819 : BitVec 32 := 2#32
  let v1147 : BitVec 32 := Scalar.addi v2 c2_i32_819
  let c16_i32_820 : BitVec 32 := 16#32
  let c0_i32_821 : BitVec 32 := 0#32
  let v1148 : BitVec 1 := Scalar.cmpi .eq c16_i32_820 c0_i32_821
  let c1_i32_822 : BitVec 32 := 1#32
  let v1149 : BitVec 32 := Scalar.select v1148 c1_i32_822 c16_i32_820
  let v1150 : BitVec 32 := Scalar.remsi v1147 v1149
  let c0_i32_824 : BitVec 32 := 0#32
  let v1152 : BitVec 1 := Scalar.cmpi .slt v1150 c0_i32_824
  let c0_i32_825 : BitVec 32 := 0#32
  let v1153 : BitVec 1 := Scalar.cmpi .slt v1149 c0_i32_825
  let v1154 : BitVec 1 := Scalar.xori v1152 v1153
  let c0_i32_823 : BitVec 32 := 0#32
  let v1151 : BitVec 1 := Scalar.cmpi .ne v1150 c0_i32_823
  let v1155 : BitVec 1 := Scalar.andi v1154 v1151
  let v1156 : BitVec 32 := Scalar.addi v1150 v1149
  let v1157 : BitVec 32 := Scalar.select v1155 v1156 v1150
  let c1_i32_826 : BitVec 32 := 1#32
  let v1158 : BitVec 32 := Scalar.muli v1157 c1_i32_826
  let c0_i32_827 : BitVec 32 := 0#32
  let v1159 : BitVec 32 := Scalar.addi v1158 c0_i32_827
  let c0_i32_1541 : BitVec 32 := 0#32
  let c0_i32_1542 : BitVec 32 := 0#32
  ![v1159.toNat, 0, 0]
def k0_dev29 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_819 : BitVec 32 := 2#32
  let v1147 : BitVec 32 := Scalar.addi v2 c2_i32_819
  let c16_i32_820 : BitVec 32 := 16#32
  let c0_i32_821 : BitVec 32 := 0#32
  let v1148 : BitVec 1 := Scalar.cmpi .eq c16_i32_820 c0_i32_821
  let c1_i32_822 : BitVec 32 := 1#32
  let v1149 : BitVec 32 := Scalar.select v1148 c1_i32_822 c16_i32_820
  let v1150 : BitVec 32 := Scalar.remsi v1147 v1149
  let c0_i32_824 : BitVec 32 := 0#32
  let v1152 : BitVec 1 := Scalar.cmpi .slt v1150 c0_i32_824
  let c0_i32_825 : BitVec 32 := 0#32
  let v1153 : BitVec 1 := Scalar.cmpi .slt v1149 c0_i32_825
  let v1154 : BitVec 1 := Scalar.xori v1152 v1153
  let c0_i32_823 : BitVec 32 := 0#32
  let v1151 : BitVec 1 := Scalar.cmpi .ne v1150 c0_i32_823
  let v1155 : BitVec 1 := Scalar.andi v1154 v1151
  let v1156 : BitVec 32 := Scalar.addi v1150 v1149
  let v1157 : BitVec 32 := Scalar.select v1155 v1156 v1150
  let c1_i32_826 : BitVec 32 := 1#32
  let v1158 : BitVec 32 := Scalar.muli v1157 c1_i32_826
  let c0_i32_827 : BitVec 32 := 0#32
  let v1159 : BitVec 32 := Scalar.addi v1158 c0_i32_827
  let c1_i32_1538 : BitVec 32 := 1#32
  let v2097 : BitVec 32 := Scalar.muli v1159 c1_i32_1538
  let v2098 : BitVec 32 := Scalar.addi c0_i32_1539 v2097
  v2098.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v1196 : BitVec 32 := Scalar.addi v2 c3_i32_854
  let c16_i32_855 : BitVec 32 := 16#32
  let c0_i32_856 : BitVec 32 := 0#32
  let v1197 : BitVec 1 := Scalar.cmpi .eq c16_i32_855 c0_i32_856
  let c1_i32_857 : BitVec 32 := 1#32
  let v1198 : BitVec 32 := Scalar.select v1197 c1_i32_857 c16_i32_855
  let v1199 : BitVec 32 := Scalar.remsi v1196 v1198
  let c0_i32_859 : BitVec 32 := 0#32
  let v1201 : BitVec 1 := Scalar.cmpi .slt v1199 c0_i32_859
  let c0_i32_860 : BitVec 32 := 0#32
  let v1202 : BitVec 1 := Scalar.cmpi .slt v1198 c0_i32_860
  let v1203 : BitVec 1 := Scalar.xori v1201 v1202
  let c0_i32_858 : BitVec 32 := 0#32
  let v1200 : BitVec 1 := Scalar.cmpi .ne v1199 c0_i32_858
  let v1204 : BitVec 1 := Scalar.andi v1203 v1200
  let v1205 : BitVec 32 := Scalar.addi v1199 v1198
  let v1206 : BitVec 32 := Scalar.select v1204 v1205 v1199
  let c1_i32_861 : BitVec 32 := 1#32
  let v1207 : BitVec 32 := Scalar.muli v1206 c1_i32_861
  let c0_i32_862 : BitVec 32 := 0#32
  let v1208 : BitVec 32 := Scalar.addi v1207 c0_i32_862
  let v1209 : BitVec 1 := Scalar.cmpi .eq v1208 v2
  let v1210 : BitVec 32 := Scalar.extui v1209
  let c0_i32_863 : BitVec 32 := 0#32
  let v1211 : BitVec 1 := Scalar.cmpi .ne v1210 c0_i32_863
  v1211

def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v1196 : BitVec 32 := Scalar.addi v2 c3_i32_854
  let c16_i32_855 : BitVec 32 := 16#32
  let c0_i32_856 : BitVec 32 := 0#32
  let v1197 : BitVec 1 := Scalar.cmpi .eq c16_i32_855 c0_i32_856
  let c1_i32_857 : BitVec 32 := 1#32
  let v1198 : BitVec 32 := Scalar.select v1197 c1_i32_857 c16_i32_855
  let v1199 : BitVec 32 := Scalar.remsi v1196 v1198
  let c0_i32_859 : BitVec 32 := 0#32
  let v1201 : BitVec 1 := Scalar.cmpi .slt v1199 c0_i32_859
  let c0_i32_860 : BitVec 32 := 0#32
  let v1202 : BitVec 1 := Scalar.cmpi .slt v1198 c0_i32_860
  let v1203 : BitVec 1 := Scalar.xori v1201 v1202
  let c0_i32_858 : BitVec 32 := 0#32
  let v1200 : BitVec 1 := Scalar.cmpi .ne v1199 c0_i32_858
  let v1204 : BitVec 1 := Scalar.andi v1203 v1200
  let v1205 : BitVec 32 := Scalar.addi v1199 v1198
  let v1206 : BitVec 32 := Scalar.select v1204 v1205 v1199
  let c1_i32_861 : BitVec 32 := 1#32
  let v1207 : BitVec 32 := Scalar.muli v1206 c1_i32_861
  let c0_i32_862 : BitVec 32 := 0#32
  let v1208 : BitVec 32 := Scalar.addi v1207 c0_i32_862
  let v1212 : BitVec 1 := Scalar.cmpi .ne v1208 v2
  let v1213 : BitVec 32 := Scalar.extui v1212
  let c0_i32_864 : BitVec 32 := 0#32
  let v1214 : BitVec 1 := Scalar.cmpi .ne v1213 c0_i32_864
  v1214

def k0_off87 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v1196 : BitVec 32 := Scalar.addi v2 c3_i32_854
  let c16_i32_855 : BitVec 32 := 16#32
  let c0_i32_856 : BitVec 32 := 0#32
  let v1197 : BitVec 1 := Scalar.cmpi .eq c16_i32_855 c0_i32_856
  let c1_i32_857 : BitVec 32 := 1#32
  let v1198 : BitVec 32 := Scalar.select v1197 c1_i32_857 c16_i32_855
  let v1199 : BitVec 32 := Scalar.remsi v1196 v1198
  let c0_i32_859 : BitVec 32 := 0#32
  let v1201 : BitVec 1 := Scalar.cmpi .slt v1199 c0_i32_859
  let c0_i32_860 : BitVec 32 := 0#32
  let v1202 : BitVec 1 := Scalar.cmpi .slt v1198 c0_i32_860
  let v1203 : BitVec 1 := Scalar.xori v1201 v1202
  let c0_i32_858 : BitVec 32 := 0#32
  let v1200 : BitVec 1 := Scalar.cmpi .ne v1199 c0_i32_858
  let v1204 : BitVec 1 := Scalar.andi v1203 v1200
  let v1205 : BitVec 32 := Scalar.addi v1199 v1198
  let v1206 : BitVec 32 := Scalar.select v1204 v1205 v1199
  let c1_i32_861 : BitVec 32 := 1#32
  let v1207 : BitVec 32 := Scalar.muli v1206 c1_i32_861
  let c0_i32_862 : BitVec 32 := 0#32
  let v1208 : BitVec 32 := Scalar.addi v1207 c0_i32_862
  let v2092 : Index := Scalar.indexCast v1208
  let c0_1535 : Index := 0#32
  let c0_1536 : Index := 0#32
  ![v2092.toNat, 0, 0]
def k0_off88 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v1196 : BitVec 32 := Scalar.addi v2 c3_i32_854
  let c16_i32_855 : BitVec 32 := 16#32
  let c0_i32_856 : BitVec 32 := 0#32
  let v1197 : BitVec 1 := Scalar.cmpi .eq c16_i32_855 c0_i32_856
  let c1_i32_857 : BitVec 32 := 1#32
  let v1198 : BitVec 32 := Scalar.select v1197 c1_i32_857 c16_i32_855
  let v1199 : BitVec 32 := Scalar.remsi v1196 v1198
  let c0_i32_859 : BitVec 32 := 0#32
  let v1201 : BitVec 1 := Scalar.cmpi .slt v1199 c0_i32_859
  let c0_i32_860 : BitVec 32 := 0#32
  let v1202 : BitVec 1 := Scalar.cmpi .slt v1198 c0_i32_860
  let v1203 : BitVec 1 := Scalar.xori v1201 v1202
  let c0_i32_858 : BitVec 32 := 0#32
  let v1200 : BitVec 1 := Scalar.cmpi .ne v1199 c0_i32_858
  let v1204 : BitVec 1 := Scalar.andi v1203 v1200
  let v1205 : BitVec 32 := Scalar.addi v1199 v1198
  let v1206 : BitVec 32 := Scalar.select v1204 v1205 v1199
  let c1_i32_861 : BitVec 32 := 1#32
  let v1207 : BitVec 32 := Scalar.muli v1206 c1_i32_861
  let c0_i32_862 : BitVec 32 := 0#32
  let v1208 : BitVec 32 := Scalar.addi v1207 c0_i32_862
  ![v1208.toNat]
def k0_off89 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off90 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off91 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v1196 : BitVec 32 := Scalar.addi v2 c3_i32_854
  let c16_i32_855 : BitVec 32 := 16#32
  let c0_i32_856 : BitVec 32 := 0#32
  let v1197 : BitVec 1 := Scalar.cmpi .eq c16_i32_855 c0_i32_856
  let c1_i32_857 : BitVec 32 := 1#32
  let v1198 : BitVec 32 := Scalar.select v1197 c1_i32_857 c16_i32_855
  let v1199 : BitVec 32 := Scalar.remsi v1196 v1198
  let c0_i32_859 : BitVec 32 := 0#32
  let v1201 : BitVec 1 := Scalar.cmpi .slt v1199 c0_i32_859
  let c0_i32_860 : BitVec 32 := 0#32
  let v1202 : BitVec 1 := Scalar.cmpi .slt v1198 c0_i32_860
  let v1203 : BitVec 1 := Scalar.xori v1201 v1202
  let c0_i32_858 : BitVec 32 := 0#32
  let v1200 : BitVec 1 := Scalar.cmpi .ne v1199 c0_i32_858
  let v1204 : BitVec 1 := Scalar.andi v1203 v1200
  let v1205 : BitVec 32 := Scalar.addi v1199 v1198
  let v1206 : BitVec 32 := Scalar.select v1204 v1205 v1199
  let c1_i32_861 : BitVec 32 := 1#32
  let v1207 : BitVec 32 := Scalar.muli v1206 c1_i32_861
  let c0_i32_862 : BitVec 32 := 0#32
  let v1208 : BitVec 32 := Scalar.addi v1207 c0_i32_862
  let c0_i32_1541 : BitVec 32 := 0#32
  let c0_i32_1542 : BitVec 32 := 0#32
  ![v1208.toNat, 0, 0]
def k0_dev30 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_854 : BitVec 32 := 3#32
  let v1196 : BitVec 32 := Scalar.addi v2 c3_i32_854
  let c16_i32_855 : BitVec 32 := 16#32
  let c0_i32_856 : BitVec 32 := 0#32
  let v1197 : BitVec 1 := Scalar.cmpi .eq c16_i32_855 c0_i32_856
  let c1_i32_857 : BitVec 32 := 1#32
  let v1198 : BitVec 32 := Scalar.select v1197 c1_i32_857 c16_i32_855
  let v1199 : BitVec 32 := Scalar.remsi v1196 v1198
  let c0_i32_859 : BitVec 32 := 0#32
  let v1201 : BitVec 1 := Scalar.cmpi .slt v1199 c0_i32_859
  let c0_i32_860 : BitVec 32 := 0#32
  let v1202 : BitVec 1 := Scalar.cmpi .slt v1198 c0_i32_860
  let v1203 : BitVec 1 := Scalar.xori v1201 v1202
  let c0_i32_858 : BitVec 32 := 0#32
  let v1200 : BitVec 1 := Scalar.cmpi .ne v1199 c0_i32_858
  let v1204 : BitVec 1 := Scalar.andi v1203 v1200
  let v1205 : BitVec 32 := Scalar.addi v1199 v1198
  let v1206 : BitVec 32 := Scalar.select v1204 v1205 v1199
  let c1_i32_861 : BitVec 32 := 1#32
  let v1207 : BitVec 32 := Scalar.muli v1206 c1_i32_861
  let c0_i32_862 : BitVec 32 := 0#32
  let v1208 : BitVec 32 := Scalar.addi v1207 c0_i32_862
  let c1_i32_1538 : BitVec 32 := 1#32
  let v2097 : BitVec 32 := Scalar.muli v1208 c1_i32_1538
  let v2098 : BitVec 32 := Scalar.addi c0_i32_1539 v2097
  v2098.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let v1245 : BitVec 32 := Scalar.addi v2 c0_i32_889
  let c16_i32_890 : BitVec 32 := 16#32
  let c0_i32_891 : BitVec 32 := 0#32
  let v1246 : BitVec 1 := Scalar.cmpi .eq c16_i32_890 c0_i32_891
  let c1_i32_892 : BitVec 32 := 1#32
  let v1247 : BitVec 32 := Scalar.select v1246 c1_i32_892 c16_i32_890
  let v1248 : BitVec 32 := Scalar.remsi v1245 v1247
  let c0_i32_894 : BitVec 32 := 0#32
  let v1250 : BitVec 1 := Scalar.cmpi .slt v1248 c0_i32_894
  let c0_i32_895 : BitVec 32 := 0#32
  let v1251 : BitVec 1 := Scalar.cmpi .slt v1247 c0_i32_895
  let v1252 : BitVec 1 := Scalar.xori v1250 v1251
  let c0_i32_893 : BitVec 32 := 0#32
  let v1249 : BitVec 1 := Scalar.cmpi .ne v1248 c0_i32_893
  let v1253 : BitVec 1 := Scalar.andi v1252 v1249
  let v1254 : BitVec 32 := Scalar.addi v1248 v1247
  let v1255 : BitVec 32 := Scalar.select v1253 v1254 v1248
  let c1_i32_896 : BitVec 32 := 1#32
  let v1256 : BitVec 32 := Scalar.muli v1255 c1_i32_896
  let c0_i32_897 : BitVec 32 := 0#32
  let v1257 : BitVec 32 := Scalar.addi v1256 c0_i32_897
  let v1258 : BitVec 1 := Scalar.cmpi .eq v1257 v2
  let v1259 : BitVec 32 := Scalar.extui v1258
  let c0_i32_898 : BitVec 32 := 0#32
  let v1260 : BitVec 1 := Scalar.cmpi .ne v1259 c0_i32_898
  v1260

def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1538 : BitVec 32 := 256#32
  let v2094 : BitVec 32 := Scalar.muli v2 c256_i32_1538
  let c0_i32_1541 : BitVec 32 := 0#32
  ![v2094.toNat, 0]
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let v1245 : BitVec 32 := Scalar.addi v2 c0_i32_889
  let c16_i32_890 : BitVec 32 := 16#32
  let c0_i32_891 : BitVec 32 := 0#32
  let v1246 : BitVec 1 := Scalar.cmpi .eq c16_i32_890 c0_i32_891
  let c1_i32_892 : BitVec 32 := 1#32
  let v1247 : BitVec 32 := Scalar.select v1246 c1_i32_892 c16_i32_890
  let v1248 : BitVec 32 := Scalar.remsi v1245 v1247
  let c0_i32_894 : BitVec 32 := 0#32
  let v1250 : BitVec 1 := Scalar.cmpi .slt v1248 c0_i32_894
  let c0_i32_895 : BitVec 32 := 0#32
  let v1251 : BitVec 1 := Scalar.cmpi .slt v1247 c0_i32_895
  let v1252 : BitVec 1 := Scalar.xori v1250 v1251
  let c0_i32_893 : BitVec 32 := 0#32
  let v1249 : BitVec 1 := Scalar.cmpi .ne v1248 c0_i32_893
  let v1253 : BitVec 1 := Scalar.andi v1252 v1249
  let v1254 : BitVec 32 := Scalar.addi v1248 v1247
  let v1255 : BitVec 32 := Scalar.select v1253 v1254 v1248
  let c1_i32_896 : BitVec 32 := 1#32
  let v1256 : BitVec 32 := Scalar.muli v1255 c1_i32_896
  let c0_i32_897 : BitVec 32 := 0#32
  let v1257 : BitVec 32 := Scalar.addi v1256 c0_i32_897
  let v1261 : BitVec 1 := Scalar.cmpi .ne v1257 v2
  let v1262 : BitVec 32 := Scalar.extui v1261
  let c0_i32_899 : BitVec 32 := 0#32
  let v1263 : BitVec 1 := Scalar.cmpi .ne v1262 c0_i32_899
  v1263

def k0_off93 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let v1245 : BitVec 32 := Scalar.addi v2 c0_i32_889
  let c16_i32_890 : BitVec 32 := 16#32
  let c0_i32_891 : BitVec 32 := 0#32
  let v1246 : BitVec 1 := Scalar.cmpi .eq c16_i32_890 c0_i32_891
  let c1_i32_892 : BitVec 32 := 1#32
  let v1247 : BitVec 32 := Scalar.select v1246 c1_i32_892 c16_i32_890
  let v1248 : BitVec 32 := Scalar.remsi v1245 v1247
  let c0_i32_894 : BitVec 32 := 0#32
  let v1250 : BitVec 1 := Scalar.cmpi .slt v1248 c0_i32_894
  let c0_i32_895 : BitVec 32 := 0#32
  let v1251 : BitVec 1 := Scalar.cmpi .slt v1247 c0_i32_895
  let v1252 : BitVec 1 := Scalar.xori v1250 v1251
  let c0_i32_893 : BitVec 32 := 0#32
  let v1249 : BitVec 1 := Scalar.cmpi .ne v1248 c0_i32_893
  let v1253 : BitVec 1 := Scalar.andi v1252 v1249
  let v1254 : BitVec 32 := Scalar.addi v1248 v1247
  let v1255 : BitVec 32 := Scalar.select v1253 v1254 v1248
  let c1_i32_896 : BitVec 32 := 1#32
  let v1256 : BitVec 32 := Scalar.muli v1255 c1_i32_896
  let c0_i32_897 : BitVec 32 := 0#32
  let v1257 : BitVec 32 := Scalar.addi v1256 c0_i32_897
  let v2092 : Index := Scalar.indexCast v1257
  let c0_1535 : Index := 0#32
  let c0_1536 : Index := 0#32
  ![v2092.toNat, 0, 0]
def k0_off94 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let v1245 : BitVec 32 := Scalar.addi v2 c0_i32_889
  let c16_i32_890 : BitVec 32 := 16#32
  let c0_i32_891 : BitVec 32 := 0#32
  let v1246 : BitVec 1 := Scalar.cmpi .eq c16_i32_890 c0_i32_891
  let c1_i32_892 : BitVec 32 := 1#32
  let v1247 : BitVec 32 := Scalar.select v1246 c1_i32_892 c16_i32_890
  let v1248 : BitVec 32 := Scalar.remsi v1245 v1247
  let c0_i32_894 : BitVec 32 := 0#32
  let v1250 : BitVec 1 := Scalar.cmpi .slt v1248 c0_i32_894
  let c0_i32_895 : BitVec 32 := 0#32
  let v1251 : BitVec 1 := Scalar.cmpi .slt v1247 c0_i32_895
  let v1252 : BitVec 1 := Scalar.xori v1250 v1251
  let c0_i32_893 : BitVec 32 := 0#32
  let v1249 : BitVec 1 := Scalar.cmpi .ne v1248 c0_i32_893
  let v1253 : BitVec 1 := Scalar.andi v1252 v1249
  let v1254 : BitVec 32 := Scalar.addi v1248 v1247
  let v1255 : BitVec 32 := Scalar.select v1253 v1254 v1248
  let c1_i32_896 : BitVec 32 := 1#32
  let v1256 : BitVec 32 := Scalar.muli v1255 c1_i32_896
  let c0_i32_897 : BitVec 32 := 0#32
  let v1257 : BitVec 32 := Scalar.addi v1256 c0_i32_897
  ![v1257.toNat]
def k0_off95 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off96 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1537 : BitVec 32 := 256#32
  let v2096 : BitVec 32 := Scalar.muli v2 c256_i32_1537
  let c0_i32_1540 : BitVec 32 := 0#32
  ![v2096.toNat, 0]
def k0_off97 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let v1245 : BitVec 32 := Scalar.addi v2 c0_i32_889
  let c16_i32_890 : BitVec 32 := 16#32
  let c0_i32_891 : BitVec 32 := 0#32
  let v1246 : BitVec 1 := Scalar.cmpi .eq c16_i32_890 c0_i32_891
  let c1_i32_892 : BitVec 32 := 1#32
  let v1247 : BitVec 32 := Scalar.select v1246 c1_i32_892 c16_i32_890
  let v1248 : BitVec 32 := Scalar.remsi v1245 v1247
  let c0_i32_894 : BitVec 32 := 0#32
  let v1250 : BitVec 1 := Scalar.cmpi .slt v1248 c0_i32_894
  let c0_i32_895 : BitVec 32 := 0#32
  let v1251 : BitVec 1 := Scalar.cmpi .slt v1247 c0_i32_895
  let v1252 : BitVec 1 := Scalar.xori v1250 v1251
  let c0_i32_893 : BitVec 32 := 0#32
  let v1249 : BitVec 1 := Scalar.cmpi .ne v1248 c0_i32_893
  let v1253 : BitVec 1 := Scalar.andi v1252 v1249
  let v1254 : BitVec 32 := Scalar.addi v1248 v1247
  let v1255 : BitVec 32 := Scalar.select v1253 v1254 v1248
  let c1_i32_896 : BitVec 32 := 1#32
  let v1256 : BitVec 32 := Scalar.muli v1255 c1_i32_896
  let c0_i32_897 : BitVec 32 := 0#32
  let v1257 : BitVec 32 := Scalar.addi v1256 c0_i32_897
  let c0_i32_1541 : BitVec 32 := 0#32
  let c0_i32_1542 : BitVec 32 := 0#32
  ![v1257.toNat, 0, 0]
def k0_dev31 (d0 : Dev nD) : Nat :=
  let c0_i32_1539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_889 : BitVec 32 := 0#32
  let v1245 : BitVec 32 := Scalar.addi v2 c0_i32_889
  let c16_i32_890 : BitVec 32 := 16#32
  let c0_i32_891 : BitVec 32 := 0#32
  let v1246 : BitVec 1 := Scalar.cmpi .eq c16_i32_890 c0_i32_891
  let c1_i32_892 : BitVec 32 := 1#32
  let v1247 : BitVec 32 := Scalar.select v1246 c1_i32_892 c16_i32_890
  let v1248 : BitVec 32 := Scalar.remsi v1245 v1247
  let c0_i32_894 : BitVec 32 := 0#32
  let v1250 : BitVec 1 := Scalar.cmpi .slt v1248 c0_i32_894
  let c0_i32_895 : BitVec 32 := 0#32
  let v1251 : BitVec 1 := Scalar.cmpi .slt v1247 c0_i32_895
  let v1252 : BitVec 1 := Scalar.xori v1250 v1251
  let c0_i32_893 : BitVec 32 := 0#32
  let v1249 : BitVec 1 := Scalar.cmpi .ne v1248 c0_i32_893
  let v1253 : BitVec 1 := Scalar.andi v1252 v1249
  let v1254 : BitVec 32 := Scalar.addi v1248 v1247
  let v1255 : BitVec 32 := Scalar.select v1253 v1254 v1248
  let c1_i32_896 : BitVec 32 := 1#32
  let v1256 : BitVec 32 := Scalar.muli v1255 c1_i32_896
  let c0_i32_897 : BitVec 32 := 0#32
  let v1257 : BitVec 32 := Scalar.addi v1256 c0_i32_897
  let c1_i32_1538 : BitVec 32 := 1#32
  let v2097 : BitVec 32 := Scalar.muli v1257 c1_i32_1538
  let v2098 : BitVec 32 := Scalar.addi c0_i32_1539 v2097
  v2098.toNat
def k0_off98 (d0 : Dev nD) (c1_i32_900 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1264 : BitVec 32 := Scalar.addi v2 c1_i32_900
  let c16_i32_901 : BitVec 32 := 16#32
  let c0_i32_902 : BitVec 32 := 0#32
  let v1265 : BitVec 1 := Scalar.cmpi .eq c16_i32_901 c0_i32_902
  let c1_i32_903 : BitVec 32 := 1#32
  let v1266 : BitVec 32 := Scalar.select v1265 c1_i32_903 c16_i32_901
  let v1267 : BitVec 32 := Scalar.remsi v1264 v1266
  let c0_i32_905 : BitVec 32 := 0#32
  let v1269 : BitVec 1 := Scalar.cmpi .slt v1267 c0_i32_905
  let c0_i32_906 : BitVec 32 := 0#32
  let v1270 : BitVec 1 := Scalar.cmpi .slt v1266 c0_i32_906
  let v1271 : BitVec 1 := Scalar.xori v1269 v1270
  let c0_i32_904 : BitVec 32 := 0#32
  let v1268 : BitVec 1 := Scalar.cmpi .ne v1267 c0_i32_904
  let v1272 : BitVec 1 := Scalar.andi v1271 v1268
  let v1273 : BitVec 32 := Scalar.addi v1267 v1266
  let v1274 : BitVec 32 := Scalar.select v1272 v1273 v1267
  ![v1274.toNat]
def k0_off99 (d0 : Dev nD) (c1_i32_900 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1264 : BitVec 32 := Scalar.addi v2 c1_i32_900
  let c16_i32_901 : BitVec 32 := 16#32
  let c0_i32_902 : BitVec 32 := 0#32
  let v1265 : BitVec 1 := Scalar.cmpi .eq c16_i32_901 c0_i32_902
  let c1_i32_903 : BitVec 32 := 1#32
  let v1266 : BitVec 32 := Scalar.select v1265 c1_i32_903 c16_i32_901
  let v1267 : BitVec 32 := Scalar.remsi v1264 v1266
  let c0_i32_905 : BitVec 32 := 0#32
  let v1269 : BitVec 1 := Scalar.cmpi .slt v1267 c0_i32_905
  let c0_i32_906 : BitVec 32 := 0#32
  let v1270 : BitVec 1 := Scalar.cmpi .slt v1266 c0_i32_906
  let v1271 : BitVec 1 := Scalar.xori v1269 v1270
  let c0_i32_904 : BitVec 32 := 0#32
  let v1268 : BitVec 1 := Scalar.cmpi .ne v1267 c0_i32_904
  let v1272 : BitVec 1 := Scalar.andi v1271 v1268
  let v1273 : BitVec 32 := Scalar.addi v1267 v1266
  let v1274 : BitVec 32 := Scalar.select v1272 v1273 v1267
  let c256_i32 : BitVec 32 := 256#32
  let v1275 : BitVec 32 := Scalar.muli v1274 c256_i32
  let c0_i32_909 : BitVec 32 := 0#32
  ![v1275.toNat, 0]
def k0_off100 (d0 : Dev nD) (c1_i32_900 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1264 : BitVec 32 := Scalar.addi v2 c1_i32_900
  let c16_i32_901 : BitVec 32 := 16#32
  let c0_i32_902 : BitVec 32 := 0#32
  let v1265 : BitVec 1 := Scalar.cmpi .eq c16_i32_901 c0_i32_902
  let c1_i32_903 : BitVec 32 := 1#32
  let v1266 : BitVec 32 := Scalar.select v1265 c1_i32_903 c16_i32_901
  let v1267 : BitVec 32 := Scalar.remsi v1264 v1266
  let c0_i32_905 : BitVec 32 := 0#32
  let v1269 : BitVec 1 := Scalar.cmpi .slt v1267 c0_i32_905
  let c0_i32_906 : BitVec 32 := 0#32
  let v1270 : BitVec 1 := Scalar.cmpi .slt v1266 c0_i32_906
  let v1271 : BitVec 1 := Scalar.xori v1269 v1270
  let c0_i32_904 : BitVec 32 := 0#32
  let v1268 : BitVec 1 := Scalar.cmpi .ne v1267 c0_i32_904
  let v1272 : BitVec 1 := Scalar.andi v1271 v1268
  let v1273 : BitVec 32 := Scalar.addi v1267 v1266
  let v1274 : BitVec 32 := Scalar.select v1272 v1273 v1267
  let c0_i32_910 : BitVec 32 := 0#32
  let c0_i32_911 : BitVec 32 := 0#32
  ![v1274.toNat, 0, 0]
def k0_off101 (d0 : Dev nD) (c1_i32_900 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1264 : BitVec 32 := Scalar.addi v2 c1_i32_900
  let c16_i32_901 : BitVec 32 := 16#32
  let c0_i32_902 : BitVec 32 := 0#32
  let v1265 : BitVec 1 := Scalar.cmpi .eq c16_i32_901 c0_i32_902
  let c1_i32_903 : BitVec 32 := 1#32
  let v1266 : BitVec 32 := Scalar.select v1265 c1_i32_903 c16_i32_901
  let v1267 : BitVec 32 := Scalar.remsi v1264 v1266
  let c0_i32_905 : BitVec 32 := 0#32
  let v1269 : BitVec 1 := Scalar.cmpi .slt v1267 c0_i32_905
  let c0_i32_906 : BitVec 32 := 0#32
  let v1270 : BitVec 1 := Scalar.cmpi .slt v1266 c0_i32_906
  let v1271 : BitVec 1 := Scalar.xori v1269 v1270
  let c0_i32_904 : BitVec 32 := 0#32
  let v1268 : BitVec 1 := Scalar.cmpi .ne v1267 c0_i32_904
  let v1272 : BitVec 1 := Scalar.andi v1271 v1268
  let v1273 : BitVec 32 := Scalar.addi v1267 v1266
  let v1274 : BitVec 32 := Scalar.select v1272 v1273 v1267
  let c256_i32_912 : BitVec 32 := 256#32
  let v1283 : BitVec 32 := Scalar.muli v1274 c256_i32_912
  let v1284 : Index := Scalar.indexCast v1283
  let c0_913 : Index := 0#32
  ![v1284.toNat, 0]
def k0_off102 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_1362 : BitVec 32 := 256#32
  let v1847 : BitVec 32 := Scalar.muli v2 c256_i32_1362
  let c0_i32_1366 : BitVec 32 := 0#32
  ![v1847.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Text.lean ====
module

public import proofs.«01_k».proof.Proof.Gen.KernelIdeal.Skeleton

@[expose] public section

noncomputable section

/-! # The kernel's body as a sequence of segments

The printed body is cut every sixty statements. Here it is written again as the segments the algorithm consists of: signals,
fetches of column blocks, tiles of the product, receipts and drains. `body_eq` states that the two are one program. -/

namespace Cert.KernelIdeal.Run

open Idealize.ShloMosaic Idealize.SL.Sem
open Cert.KernelIdeal.Gen

variable {F : FTy → Type} [FloatOps F]

/-! ## Places on the ring -/

/-- The device's own index, as the kernel computes it. -/
def meW (d : Dev nD) : BitVec 32 := Scalar.remsi (Scalar.divsi (Dev.word d) 1#32) 16#32

/-- The index `p` places after the device's own, modulo 16, as the kernel computes it. -/
def placeW (d : Dev nD) (p : BitVec 32) : BitVec 32 :=
  let n := Scalar.select (Scalar.cmpi .eq 16#32 0#32) 1#32 16#32
  let r := Scalar.remsi (Scalar.addi (meW d) p) n
  Scalar.select (Scalar.andi (Scalar.xori (Scalar.cmpi .slt r 0#32) (Scalar.cmpi .slt n 0#32)) (Scalar.cmpi .ne r 0#32)) (Scalar.addi r n) r

/-- The index `p` places after device `d`'s. -/
def place (d : Dev nD) (p : Fin 16) : Dev nD := ⟨(d.val + p.val) % 16, Nat.mod_lt _ (by decide)⟩

/-- The device's own index, as the kernel computes it, is its index. -/
theorem meW_eq : ∀ d : Dev nD, (meW d).toNat = d.val := by decide +kernel
/-- The place after a device, as the kernel computes it, is that place. -/
theorem placeW_eq : ∀ (d : Dev nD) (p : Fin 16), (placeW d (BitVec.ofNat 32 p.val)).toNat = (place d p).val := by decide +kernel

/-! ## Views -/

/-- The slots of the window lie in their buffer. -/
theorem inbW : ∀ k : Fin 8, ∀ a, (![k.val, 0, 0] : Fin 3 → Nat) a + S1x4096x128.size a ≤ S8x4096x128.size a := by decide
/-- The staging slots lie in their buffer. -/
theorem inbG : ∀ k : Fin 4, ∀ a, (![k.val, 0, 0] : Fin 3 → Nat) a + S1x256x128.size a ≤ S4x256x128.size a := by decide
/-- The window's semaphores lie in their array. -/
theorem inbS8 : ∀ k : Fin 8, ∀ a, (![k.val] : Fin 1 → Nat) a + S1.size a ≤ S8.size a := by decide
/-- The staging semaphores lie in their array. -/
theorem inbS4 : ∀ k : Fin 4, ∀ a, (![k.val] : Fin 1 → Nat) a + S1.size a ≤ S4.size a := by decide
/-- The send and receive semaphores lie in their arrays. -/
theorem inbS16 : ∀ k : Dev nD, ∀ a, (![k.val] : Fin 1 → Nat) a + S1.size a ≤ S16.size a := by decide
/-- The column blocks lie in the second operand. -/
theorem inbC : ∀ b : Dev nD, ∀ a, (![0, 128 * b.val] : Fin 2 → Nat) a + S4096x128.size a ≤ S4096x2048.size a := by decide
/-- The row blocks lie in an array of 4096 rows and 128 columns. -/
theorem inbR : ∀ b : Dev nD, ∀ a, (![256 * b.val, 0] : Fin 2 → Nat) a + S256x128.size a ≤ S4096x128.size a := by decide
/-- The send slots lie in their buffer. -/
theorem inbB : ∀ b : Dev nD, ∀ a, (![b.val, 0, 0] : Fin 3 → Nat) a + S1x256x128.size a ≤ S16x256x128.size a := by decide

/-- A send slot is made of whole packed rows. -/
theorem packedB : ∀ b : Dev nD, (Rect.unit (s := S16x256x128) ![b.val, 0, 0] S1x256x128.size (inbB b)).PackedRows (EltTy.packing .bf16) := by decide +kernel
/-- A send slot is made of whole words. -/
theorem wordsB : ∀ b : Dev nD, (Rect.unit (s := S16x256x128) ![b.val, 0, 0] S1x256x128.size (inbB b)).WholeWords (EltTy.packing .bf16) := by decide +kernel
/-- A row block of the landing buffer is made of whole words. -/
theorem wordsR : ∀ b : Dev nD, (Rect.unit (s := S4096x128) ![256 * b.val, 0] S256x128.size (inbR b)).WholeWords (EltTy.packing .bf16) := by decide +kernel

/-- The same facts where the offsets are given by an equation. -/
theorem inbC' {o : Fin 2 → Nat} {b : Dev nD} (h : o = ![0, 128 * b.val]) : ∀ a, o a + S4096x128.size a ≤ S4096x2048.size a := h ▸ inbC b
/-- The same for row blocks. -/
theorem inbR' {o : Fin 2 → Nat} {b : Dev nD} (h : o = ![256 * b.val, 0]) : ∀ a, o a + S256x128.size a ≤ S4096x128.size a := h ▸ inbR b
/-- The same for send slots. -/
theorem inbB' {o : Fin 3 → Nat} {b : Dev nD} (h : o = ![b.val, 0, 0]) : ∀ a, o a + S1x256x128.size a ≤ S16x256x128.size a := h ▸ inbB b
/-- The same for send and receive semaphores. -/
theorem inbS16' {o : Fin 1 → Nat} {b : Dev nD} (h : o = ![b.val]) : ∀ a, o a + S1.size a ≤ S16.size a := h ▸ inbS16 b
/-- The same for the packed rows of a send slot. -/
theorem packedB' {o : Fin 3 → Nat} {b : Dev nD} (h : o = ![b.val, 0, 0]) : (Rect.unit (s := S16x256x128) o S1x256x128.size (inbB' h)).PackedRows (EltTy.packing .bf16) := by subst h; exact packedB b
/-- The same for the words of a send slot. -/
theorem wordsB' {o : Fin 3 → Nat} {b : Dev nD} (h : o = ![b.val, 0, 0]) : (Rect.unit (s := S16x256x128) o S1x256x128.size (inbB' h)).WholeWords (EltTy.packing .bf16) := by subst h; exact wordsB b
/-- The same for the words of a landing row block. -/
theorem wordsR' {o : Fin 2 → Nat} {b : Dev nD} (h : o = ![256 * b.val, 0]) : (Rect.unit (s := S4096x128) o S256x128.size (inbR' h)).WholeWords (EltTy.packing .bf16) := by subst h; exact wordsR b

/-- The staged rows of `x`. -/
abbrev xM : Memref sig .tc .vmem S256x4096 .f32 := Memref.whole cc0_stg0_0
/-- The array of `w_mat`. -/
abbrev wM : Memref sig .tc .hbm S4096x2048 .f32 := Memref.whole main_arg1
/-- The array of the result. -/
abbrev oM : Memref sig .tc .hbm S4096x128 .f32 := Memref.whole main_v1
/-- The buffer for the rows of `x`, cast. -/
abbrev xbM : Memref sig .tc .vmem S256x4096 .fp8e4m3 := Memref.whole cc0_scratch0
/-- The window of column blocks. -/
abbrev wtM : Memref sig .tc .vmem S8x4096x128 .f32 := Memref.whole cc0_scratch1
/-- The buffer for a column block, cast. -/
abbrev wbM : Memref sig .tc .vmem S4096x128 .fp8e4m3 := Memref.whole cc0_scratch2
/-- The send buffer. -/
abbrev sbM : Memref sig .tc .vmem S16x256x128 .bf16 := Memref.whole cc0_scratch3
/-- The landing buffer. -/
abbrev rbM : Memref sig .tc .vmem S4096x128 .bf16 := Memref.whole cc0_scratch4
/-- The staging buffer of results. -/
abbrev sgM : Memref sig .tc .vmem S4x256x128 .f32 := Memref.whole cc0_scratch5
/-- The staged scale of `x`. -/
abbrev sxM : Memref sig .tc .smem S1 .f32 := Memref.whole cc0_stg1_0
/-- The staged scale of `w_mat`. -/
abbrev swM : Memref sig .tc .smem S1 .f32 := Memref.whole cc0_stg2_0

/-- Slot `k` of the column blocks' buffer. -/
abbrev rW (k : Fin 8) : Rect S8x4096x128 := Rect.unit (s := S8x4096x128) ![k.val, 0, 0] S1x4096x128.size (inbW k)
/-- Slot `k` of the staging buffer of results. -/
abbrev rG (k : Fin 4) : Rect S4x256x128 := Rect.unit (s := S4x256x128) ![k.val, 0, 0] S1x256x128.size (inbG k)
/-- All of the cast rows. -/
abbrev rX : Rect S256x4096 := Rect.unit (s := S256x4096) ![0, 0] S256x4096.size inb_S256x4096_S256x4096_0_0
/-- All of the cast column block. -/
abbrev rWb : Rect S4096x128 := Rect.unit (s := S4096x128) ![0, 0] S4096x128.size inb_S4096x128_S4096x128_0_0
/-- Column block `b` of the second operand, at an offset given by an equation. -/
abbrev rC' (o : Fin 2 → Nat) {b : Dev nD} (h : o = ![0, 128 * b.val]) : Rect S4096x2048 := Rect.unit (s := S4096x2048) o S4096x128.size (inbC' h)
/-- Row block `b`, at an offset given by an equation. -/
abbrev rR' (o : Fin 2 → Nat) {b : Dev nD} (h : o = ![256 * b.val, 0]) : Rect S4096x128 := Rect.unit (s := S4096x128) o S256x128.size (inbR' h)
/-- Send slot `b`, at an offset given by an equation. -/
abbrev rB' (o : Fin 3 → Nat) {b : Dev nD} (h : o = ![b.val, 0, 0]) : Rect S16x256x128 := Rect.unit (s := S16x256x128) o S1x256x128.size (inbB' h)

/-- Slot `k` of the window, as a view. -/
abbrev wtV (k : Fin 8) : Memref sig .tc .vmem S4096x128 .f32 := (wtM.slice (rW k) (fun _ => rfl)).squeeze S4096x128 squeezes_S1x4096x128_S4096x128
/-- Staging slot `k`, as a view. -/
abbrev sgV (k : Fin 4) : Memref sig .tc .vmem S256x128 .f32 := (sgM.slice (rG k) (fun _ => rfl)).squeeze S256x128 squeezes_S1x256x128_S256x128
/-- Column block `b` of the second operand, as a view. -/
abbrev wV' (o : Fin 2 → Nat) {b : Dev nD} (h : o = ![0, 128 * b.val]) : Memref sig .tc .hbm S4096x128 .f32 := wM.slice (rC' o h) (fun _ => rfl)
/-- Row block `b` of the result, as a view. -/
abbrev oV' (o : Fin 2 → Nat) {b : Dev nD} (h : o = ![256 * b.val, 0]) : Memref sig .tc .hbm S256x128 .f32 := oM.slice (rR' o h) (fun _ => rfl)
/-- Row block `b` of the landing buffer, as a view. -/
abbrev rbV' (o : Fin 2 → Nat) {b : Dev nD} (h : o = ![256 * b.val, 0]) : Memref sig .tc .vmem S256x128 .bf16 := rbM.slice (rR' o h) (fun _ => rfl)
/-- Send slot `b`, as a view. -/
abbrev sbV' (o : Fin 3 → Nat) {b : Dev nD} (h : o = ![b.val, 0, 0]) : Memref sig .tc .vmem S256x128 .bf16 :=
  (sbM.slice (rB' o h) (fun _ => rfl)).squeeze S256x128 squeezes_S1x256x128_S256x128

/-- The semaphore of slot `k` of the window. -/
abbrev cpS (k : Fin 8) : DmaSem sig := (((cc0_scratch6).slice (Rect.unit (s := S8) ![k.val] S1.size (inbS8 k))).squeeze S_ squeezes_S1_S_).sem
/-- The semaphore of staging slot `k`. -/
abbrev sgS (k : Fin 4) : DmaSem sig := (((cc0_scratch9).slice (Rect.unit (s := S4) ![k.val] S1.size (inbS4 k))).squeeze S_ squeezes_S1_S_).sem
/-- The send semaphore for device `b`. -/
abbrev snS' (o : Fin 1 → Nat) {b : Dev nD} (h : o = ![b.val]) : DmaSem sig := (((cc0_scratch7).slice (Rect.unit (s := S16) o S1.size (inbS16' h))).squeeze S_ squeezes_S1_S_).sem
/-- The receive semaphore for device `b`. -/
abbrev rcS' (o : Fin 1 → Nat) {b : Dev nD} (h : o = ![b.val]) : DmaSem sig := (((cc0_scratch8).slice (Rect.unit (s := S16) o S1.size (inbS16' h))).squeeze S_ squeezes_S1_S_).sem

/-- The barrier semaphore. -/
abbrev barS : Sem sig := (SemArray.scalar (sig.barrier 0 rfl) : Sems sig S_).sem

/-! ## Segments -/

/-- A program of the kernel's core. -/
abbrev TP (F : FTy → Type) [FloatOps F] (α : Type) := Prog (TpuEff nD τ sig (Elt F) Λ₀ .tc) α

/-- One unit on device `p`'s barrier semaphore. -/
def sigTo (p : Dev nD) : TP F PUnit := semSignalWord p barS 1#32

/-- Start the copy of a column block into slot `k`. -/
def fetch (k : Fin 8) (o : Fin 2 → Nat) {b : Dev nD} (h : o = ![0, 128 * b.val]) : TP F PUnit :=
  Prog.lift (.enqueueDma (wV' o h) (.here (wtV k)) (.dma (cpS k)) (View.wordExact_bits rfl) ((View.wordExact_bits rfl).reshape _ _) ⟨Or.inl rfl, trivial⟩)

/-- Wait for the copy of a column block into slot `k`. -/
def fetched (k : Fin 8) (o : Fin 2 → Nat) {b : Dev nD} (h : o = ![0, 128 * b.val]) : TP F PUnit :=
  Prog.lift (.waitDma2 (cpS k) (wV' o h) (wtV k) (View.wordExact_bits rfl) ((View.wordExact_bits rfl).reshape _ _))

/-- Copy the staged rows of the left operand into the kernel's buffer. -/
def keepX : TP F PUnit := do
  let v ← Prog.lift (.load xM rX.toLoadRect (View.loadsAt_vmem h_S256x4096))
  let _ ← Prog.lift (.load xbM rX.toLoadRect (View.loadsAt_vmem h_S256x4096))
  Prog.lift (.store xbM rX (k0_pay1 v) Finset.univ (View.stores_vmem h_S256x4096 ((Memref.isWhole_whole _ : xbM.IsWhole).storeExact_slice rfl _ packedfp8e4m3_S256x4096_S256x4096_0_0) (fun _ => rfl)) (.inl rfl))

/-- The product of the two scales. -/
def scale : TP F (F .f32) := do
  let a ← smemLoad sxM (Rect.unit (s := S1) ![0] S1.size inb_S1_S1_0) numel1_S1 rfl
  let b ← smemLoad swM (Rect.unit (s := S1) ![0] S1.size inb_S1_S1_0) numel1_S1 rfl
  pure (k0_pay2 a b)

/-- Round slot `k`'s column block into the right operand's buffer. -/
def castW (k : Fin 8) : TP F PUnit := do
  let v ← Prog.lift (.load wtM (rW k).toLoadRect (View.loadsAt_vmem h_S1x4096x128))
  let _ ← Prog.lift (.load wbM rWb.toLoadRect (View.loadsAt_vmem h_S4096x128))
  Prog.lift (.store wbM rWb (k0_pay3 v) Finset.univ (View.stores_vmem h_S4096x128 ((Memref.isWhole_whole _ : wbM.IsWhole).storeExact_slice rfl _ packedfp8e4m3_S4096x128_S4096x128_0_0) (fun _ => rfl)) (.inl rfl))

/-- The tile of the product, scaled and clamped at zero. -/
def dotW (sc : F .f32) : TP F (FVec F S256x128 .f32) := do
  let x ← Prog.lift (.load xbM rX.toLoadRect (View.loadsAt_vmem h_S256x4096))
  let w ← Prog.lift (.load wbM rWb.toLoadRect (View.loadsAt_vmem h_S4096x128))
  pure (k0_pay10 sc x w)

/-- Start the copy of slot `k` of the staged results out. -/
def putOut (k : Fin 4) (o : Fin 2 → Nat) {b : Dev nD} (h : o = ![256 * b.val, 0]) : TP F PUnit :=
  Prog.lift (.enqueueDma (sgV k) (.here (oV' o h)) (.dma (sgS k)) ((View.wordExact_bits rfl).reshape _ _) (View.wordExact_bits rfl) ⟨Or.inl rfl, trivial⟩)

/-- Wait for the copy of slot `k` of the staged results out. -/
def putDone (k : Fin 4) (o : Fin 2 → Nat) {b : Dev nD} (h : o = ![256 * b.val, 0]) : TP F PUnit :=
  Prog.lift (.waitDma2 (sgS k) (sgV k) (oV' o h) ((View.wordExact_bits rfl).reshape _ _) (View.wordExact_bits rfl))

/-- Put a result into slot `k` of the staged results. -/
def stage (k : Fin 4) (v : FVec F S1x256x128 .f32) : TP F PUnit := do
  let _ ← Prog.lift (.load sgM (rG k).toLoadRect (View.loadsAt_vmem h_S1x256x128))
  Prog.lift (.store sgM (rG k) v Finset.univ (View.stores_vmem_bits_univ h_S1x256x128 rfl) (.inl rfl))

/-- Send a tile to device `b`, into the rows of device `m` there. -/
def send (q : Dev nD) (o3 o7 : Fin 3 → Nat) (o4 o5 : Fin 1 → Nat) (o6 : Fin 2 → Nat) {b m : Dev nD} (h3 : o3 = ![b.val, 0, 0]) (h7 : o7 = ![b.val, 0, 0])
    (h4 : o4 = ![b.val]) (h5 : o5 = ![m.val]) (h6 : o6 = ![256 * m.val, 0]) (v : FVec F S256x128 .f32) : TP F PUnit := do
  let _ ← Prog.lift (.load sbM (rB' o3 h3).toLoadRect (View.loadsAt_vmem h_S1x256x128))
  Prog.lift (.store sbM (rB' o3 h3) (k0_pay12 v) Finset.univ (View.stores_vmem h_S1x256x128 ((Memref.isWhole_whole _ : sbM.IsWhole).storeExact_slice rfl _ (packedB' h3)) (fun _ => rfl)) (.inl rfl))
  Prog.lift (.enqueueDma (sbV' o7 h7) (.remote (Dev.tc q) (rbV' o6 h6) (.dma (snS' o4 h4))) (.dma (rcS' o5 h5)) (((Memref.isWhole_whole _ : sbM.IsWhole).wordExact_slice rfl _ (wordsB' h7)).reshape _ _) ((Memref.isWhole_whole _ : rbM.IsWhole).wordExact_slice rfl _ (wordsR' h6)) ⟨⟨rfl, Or.inl rfl⟩, trivial⟩)

/-- Wait for device `b`'s tile. -/
def arrived (o1 : Fin 1 → Nat) (o2 : Fin 2 → Nat) (o3 : Fin 3 → Nat) {b : Dev nD} (h1 : o1 = ![b.val]) (h2 : o2 = ![256 * b.val, 0]) (h3 : o3 = ![b.val, 0, 0]) : TP F PUnit :=
  Prog.lift (.waitDma2 (rcS' o1 h1) (sbV' o3 h3) (rbV' o2 h2) (((Memref.isWhole_whole _ : sbM.IsWhole).wordExact_slice rfl _ (wordsB' h3)).reshape _ _) ((Memref.isWhole_whole _ : rbM.IsWhole).wordExact_slice rfl _ (wordsR' h2)))

/-- Widen device `b`'s tile into slot `k` of the staged results. -/
def widen (k : Fin 4) (o2 : Fin 2 → Nat) {b : Dev nD} (h2 : o2 = ![256 * b.val, 0]) : TP F PUnit := do
  let v ← Prog.lift (.load rbM (rR' o2 h2).toLoadRect (View.loadsAt_vmem h_S256x128))
  stage k (k0_pay70 v)

/-- Wait until the tile sent to device `b` has left. -/
def sent (o1 : Fin 1 → Nat) (o2 : Fin 2 → Nat) (o3 : Fin 3 → Nat) {b m : Dev nD} (h1 : o1 = ![b.val]) (h2 : o2 = ![256 * m.val, 0]) (h3 : o3 = ![b.val, 0, 0]) : TP F PUnit :=
  Prog.lift (.waitDma2 (snS' o1 h1) (rbV' o2 h2) (sbV' o3 h3) ((Memref.isWhole_whole _ : rbM.IsWhole).wordExact_slice rfl _ (wordsR' h2)) (((Memref.isWhole_whole _ : sbM.IsWhole).wordExact_slice rfl _ (wordsB' h3)).reshape _ _))

end Cert.KernelIdeal.Run

end
-- ==== Proof.Prog.lean ====
module

public import proofs.«01_k».proof.Proof.Text
public import Idealize.ShloMosaic.Lib.Exec

@[expose] public section

noncomputable section

/-! # The body in order, and that it is the printed one -/

namespace Cert.KernelIdeal.Run

open Idealize.ShloMosaic Idealize.SL.Sem
open Cert.KernelIdeal.Gen

variable {F : FTy → Type} [FloatOps F]

/-! ## Offsets as the kernel computes them -/

/-- A tile's column index: the place `p` after the device's own. -/
def tileW (d : Dev nD) (p : BitVec 32) : BitVec 32 := Scalar.addi (Scalar.muli (placeW d p) 1#32) 0#32

/-- A place as a 32-bit word. -/
abbrev w32 (p : Fin 16) : BitVec 32 := BitVec.ofNat 32 p.val

/-- The tile's column index is the place after the device. -/
theorem tileW_eq : ∀ (d : Dev nD) (p : Fin 16), (tileW d (w32 p)).toNat = (place d p).val := by decide +kernel
/-- The first row of the place after the device is 256 times its index. -/
theorem rowW_eq : ∀ (d : Dev nD) (p : Fin 16), (Scalar.muli (placeW d (w32 p)) 256#32).toNat = 256 * (place d p).val := by decide +kernel
/-- The device's own first row is 256 times its index. -/
theorem meRow_eq : ∀ d : Dev nD, (Scalar.muli (meW d) 256#32).toNat = 256 * d.val := by decide +kernel
/-- The column block fetched begins at 128 times the index of the place after the device. -/
theorem colW_eq : ∀ (d : Dev nD) (p : Fin 16), k0_off1 d (w32 p) = ![0, 128 * (place d p).val] := by decide +kernel
/-- The device that a signal names is the place after the device. -/
theorem peerW_eq : ∀ (d : Dev nD) (p : Fin 16), (Scalar.addi 0#32 (Scalar.muli (placeW d (w32 p)) 1#32)).toNat = (place d p).val := by decide +kernel
/-- The device that a copy names is the place after the device. -/
theorem destW_eq : ∀ (d : Dev nD) (p : Fin 16), (Scalar.addi 0#32 (Scalar.muli (tileW d (w32 p)) 1#32)).toNat = (place d p).val := by decide +kernel

/-- The device `p` places after, as a signal names it. -/
def peer (d : Dev nD) (p : Fin 16) : Dev nD := ⟨(Scalar.addi 0#32 (Scalar.muli (placeW d (w32 p)) 1#32)).toNat, by rw [peerW_eq]; exact (place d p).isLt⟩
/-- The device `p` places after, as a copy names it. -/
def dest (d : Dev nD) (p : Fin 16) : Dev nD := ⟨(Scalar.addi 0#32 (Scalar.muli (tileW d (w32 p)) 1#32)).toNat, by rw [destW_eq]; exact (place d p).isLt⟩
/-- A signal goes to the place after the device. -/
theorem peer_eq (d : Dev nD) (p : Fin 16) : peer d p = place d p := Fin.ext (peerW_eq d p)
/-- A copy goes to the place after the device. -/
theorem dest_eq (d : Dev nD) (p : Fin 16) : dest d p = place d p := Fin.ext (destW_eq d p)

/-- Equal numbers give equal offsets in one dimension. -/
theorem v1_eq {a b : Nat} (h : a = b) : (![a] : Fin 1 → Nat) = ![b] := by rw [h]
/-- Equal numbers give equal offsets in two dimensions. -/
theorem v2_eq {a b : Nat} (h : a = b) : (![a, 0] : Fin 2 → Nat) = ![b, 0] := by rw [h]
/-- Equal numbers give equal offsets in three dimensions. -/
theorem v3_eq {a b : Nat} (h : a = b) : (![a, 0, 0] : Fin 3 → Nat) = ![b, 0, 0] := by rw [h]

/-! ## The segments at a device -/

/-- Fetch the column block `p` places after into slot `k`. -/
def fetchAt (d : Dev nD) (k : Fin 8) (p : Fin 16) : TP F PUnit := fetch k (k0_off1 d (w32 p)) (colW_eq d p)
/-- Wait for the column block `p` places after in slot `k`. -/
def fetchedAt (d : Dev nD) (k : Fin 8) (p : Fin 16) : TP F PUnit := fetched k (k0_off1 d (w32 p)) (colW_eq d p)

/-- Send the tile `p` places after. -/
def sendAt (d : Dev nD) (p : Fin 16) (v : FVec F S256x128 .f32) : TP F PUnit :=
  send (dest d p) ![(tileW d (w32 p)).toNat, 0, 0] ![(tileW d (w32 p)).toNat, 0, 0] ![(tileW d (w32 p)).toNat] ![(meW d).toNat] ![(Scalar.muli (meW d) 256#32).toNat, 0]
    (b := place d p) (m := d) (v3_eq (tileW_eq d p)) (v3_eq (tileW_eq d p)) (v1_eq (tileW_eq d p)) (v1_eq (meW_eq d)) (v2_eq (meRow_eq d)) v

/-- Write the device's own tile out. -/
def ownAt (d : Dev nD) (v : FVec F S256x128 .f32) : TP F PUnit := do
  stage 0 (k0_pay11 v)
  putOut 0 ![(Scalar.muli (meW d) 256#32).toNat, 0] (v2_eq (meRow_eq d))

/-- Tile: the column block `p` places after, in slot `k`; its slot is refilled with the block `r` places after, if there is one. -/
def tileAt (d : Dev nD) (sc : F .f32) (k : Fin 8) (p : Fin 16) (r : Option (Fin 16)) : TP F PUnit := do
  fetchedAt d k p
  castW k
  match r with
  | some r => fetchAt d k r
  | none => pure ⟨⟩
  let v ← dotW sc
  match p with
  | 0 => ownAt d v
  | _ => sendAt d p v

/-- Receipt of the tile of the device `p` places after, through slot `k`, which has been used before when `again`. -/
def receiveAt (d : Dev nD) (p : Fin 16) (k : Fin 4) (again : Bool) : TP F PUnit := do
  arrived ![(placeW d (w32 p)).toNat] ![(Scalar.muli (placeW d (w32 p)) 256#32).toNat, 0] ![(placeW d (w32 p)).toNat, 0, 0] (b := place d p) (v1_eq (placeW_eq d p)) (v2_eq (rowW_eq d p)) (v3_eq (placeW_eq d p))
  match again with
  | true => putDone k ![(Scalar.muli (placeW d (w32 p)) 256#32).toNat, 0] (v2_eq (rowW_eq d p))
  | false => pure ⟨⟩
  widen k ![(Scalar.muli (placeW d (w32 p)) 256#32).toNat, 0] (v2_eq (rowW_eq d p))
  putOut k ![(Scalar.muli (placeW d (w32 p)) 256#32).toNat, 0] (v2_eq (rowW_eq d p))

/-- Drain of the tile sent `p` places after. -/
def sentAt (d : Dev nD) (p : Fin 16) : TP F PUnit :=
  sent ![(placeW d (w32 p)).toNat] ![(Scalar.muli (meW d) 256#32).toNat, 0] ![(placeW d (w32 p)).toNat, 0, 0] (b := place d p) (m := d) (v1_eq (placeW_eq d p)) (v2_eq (meRow_eq d)) (v3_eq (placeW_eq d p))

/-- A segment for each member of a list, in order. -/
def each {α : Type} (f : α → TP F PUnit) : List α → TP F PUnit
  | [] => pure ⟨⟩
  | a :: l => f a >>= fun _ => each f l

/-- The places after, in order. -/
abbrev offs : List (Fin 16) := [1, 2, 3, 4, 5, 6, 7, 8, 9, 10, 11, 12, 13, 14, 15]

/-- The first fetches after slot 0's: slot and place. -/
abbrev early : List (Fin 8 × Fin 16) := [(1, 13), (2, 14), (3, 15), (4, 8), (5, 9), (6, 10), (7, 11)]

/-- The tiles in order: slot, place, and the place its slot is refilled from. -/
abbrev tiles : List (Fin 8 × Fin 16 × Option (Fin 16)) :=
  [(0, 12, some 4), (1, 13, some 5), (2, 14, some 6), (3, 15, some 7), (4, 8, some 1), (5, 9, some 2), (6, 10, some 3), (7, 11, some 0),
   (0, 4, none), (1, 5, none), (2, 6, none), (3, 7, none), (4, 1, none), (5, 2, none), (6, 3, none), (7, 0, none)]

/-- The receipts in order: place, slot, and whether the slot has been used before. -/
abbrev receipts : List (Fin 16 × Fin 4 × Bool) :=
  [(1, 1, false), (2, 2, false), (3, 3, false), (4, 1, true), (5, 2, true), (6, 3, true), (7, 1, true), (8, 2, true), (9, 3, true),
   (10, 1, true), (11, 2, true), (12, 3, true), (13, 1, true), (14, 2, true), (15, 3, true)]

/-- The body of the kernel. -/
def prog : TP F PUnit := do
  let d ← Prog.lift .deviceId
  each (fun p => sigTo (peer d p)) offs
  fetchAt d 0 12
  keepX
  each (fun a => fetchAt d a.1 a.2) early
  let sc ← scale
  semWaitWord barS 15#32
  each (fun a => tileAt d sc a.1 a.2.1 a.2.2) tiles
  each (fun a => receiveAt d a.1 a.2.1 a.2.2) receipts
  each (fun k => putDone k ![0, 0] (b := (0 : Dev nD)) rfl) [0, 1, 2, 3]
  each (fun p => sentAt d p) offs

/-! ## Which tile is the device's own -/

/-- The tile of step 0 is not the device's own. -/
theorem own0 : ∀ d : Dev nD, (k0_cond1 d = 1#1) = False := by simp only [eq_iff_iff]; decide +kernel
/-- The tile of step 0 is another device's. -/
theorem other0 : ∀ d : Dev nD, (k0_cond2 d = 1#1) = True := by simp only [eq_iff_iff]; decide +kernel
/-- The tile of step 1 is not the device's own. -/
theorem own1 : ∀ d : Dev nD, (k0_cond3 d = 1#1) = False := by simp only [eq_iff_iff]; decide +kernel
/-- The tile of step 1 is another device's. -/
theorem other1 : ∀ d : Dev nD, (k0_cond4 d = 1#1) = True := by simp only [eq_iff_iff]; decide +kernel
/-- The tile of step 2 is not the device's own. -/
theorem own2 : ∀ d : Dev nD, (k0_cond5 d = 1#1) = False := by simp only [eq_iff_iff]; decide +kernel
/-- The tile of step 2 is another device's. -/
theorem other2 : ∀ d : Dev nD, (k0_cond6 d = 1#1) = True := by simp only [eq_iff_iff]; decide +kernel
/-- The tile of step 3 is not the device's own. -/
theorem own3 : ∀ d : Dev nD, (k0_cond7 d = 1#1) = False := by simp only [eq_iff_iff]; decide +kernel
/-- The tile of step 3 is another device's. -/
theorem other3 : ∀ d : Dev nD, (k0_cond8 d = 1#1) = True := by simp only [eq_iff_iff]; decide +kernel
/-- The tile of step 4 is not the device's own. -/
theorem own4 : ∀ d : Dev nD, (k0_cond9 d = 1#1) = False := by simp only [eq_iff_iff]; decide +kernel
/-- The tile of step 4 is another device's. -/
theorem other4 : ∀ d : Dev nD, (k0_cond10 d = 1#1) = True := by simp only [eq_iff_iff]; decide +kernel
/-- The tile of step 5 is not the device's own. -/
theorem own5 : ∀ d : Dev nD, (k0_cond11 d = 1#1) = False := by simp only [eq_iff_iff]; decide +kernel
/-- The tile of step 5 is another device's. -/
theorem other5 : ∀ d : Dev nD, (k0_cond12 d = 1#1) = True := by simp only [eq_iff_iff]; decide +kernel
/-- The tile of step 6 is not the device's own. -/
theorem own6 : ∀ d : Dev nD, (k0_cond13 d = 1#1) = False := by simp only [eq_iff_iff]; decide +kernel
/-- The tile of step 6 is another device's. -/
theorem other6 : ∀ d : Dev nD, (k0_cond14 d = 1#1) = True := by simp only [eq_iff_iff]; decide +kernel
/-- The tile of step 7 is not the device's own. -/
theorem own7 : ∀ d : Dev nD, (k0_cond15 d = 1#1) = False := by simp only [eq_iff_iff]; decide +kernel
/-- The tile of step 7 is another device's. -/
theorem other7 : ∀ d : Dev nD, (k0_cond16 d = 1#1) = True := by simp only [eq_iff_iff]; decide +kernel
/-- The tile of step 8 is not the device's own. -/
theorem own8 : ∀ d : Dev nD, (k0_cond17 d = 1#1) = False := by simp only [eq_iff_iff]; decide +kernel
/-- The tile of step 8 is another device's. -/
theorem other8 : ∀ d : Dev nD, (k0_cond18 d = 1#1) = True := by simp only [eq_iff_iff]; decide +kernel
/-- The tile of step 9 is not the device's own. -/
theorem own9 : ∀ d : Dev nD, (k0_cond19 d = 1#1) = False := by simp only [eq_iff_iff]; decide +kernel
/-- The tile of step 9 is another device's. -/
theorem other9 : ∀ d : Dev nD, (k0_cond20 d = 1#1) = True := by simp only [eq_iff_iff]; decide +kernel
/-- The tile of step 10 is not the device's own. -/
theorem own10 : ∀ d : Dev nD, (k0_cond21 d = 1#1) = False := by simp only [eq_iff_iff]; decide +kernel
/-- The tile of step 10 is another device's. -/
theorem other10 : ∀ d : Dev nD, (k0_cond22 d = 1#1) = True := by simp only [eq_iff_iff]; decide +kernel
/-- The tile of step 11 is not the device's own. -/
theorem own11 : ∀ d : Dev nD, (k0_cond23 d = 1#1) = False := by simp only [eq_iff_iff]; decide +kernel
/-- The tile of step 11 is another device's. -/
theorem other11 : ∀ d : Dev nD, (k0_cond24 d = 1#1) = True := by simp only [eq_iff_iff]; decide +kernel
/-- The tile of step 12 is not the device's own. -/
theorem own12 : ∀ d : Dev nD, (k0_cond25 d = 1#1) = False := by simp only [eq_iff_iff]; decide +kernel
/-- The tile of step 12 is another device's. -/
theorem other12 : ∀ d : Dev nD, (k0_cond26 d = 1#1) = True := by simp only [eq_iff_iff]; decide +kernel
/-- The tile of step 13 is not the device's own. -/
theorem own13 : ∀ d : Dev nD, (k0_cond27 d = 1#1) = False := by simp only [eq_iff_iff]; decide +kernel
/-- The tile of step 13 is another device's. -/
theorem other13 : ∀ d : Dev nD, (k0_cond28 d = 1#1) = True := by simp only [eq_iff_iff]; decide +kernel
/-- The tile of step 14 is not the device's own. -/
theorem own14 : ∀ d : Dev nD, (k0_cond29 d = 1#1) = False := by simp only [eq_iff_iff]; decide +kernel
/-- The tile of step 14 is another device's. -/
theorem other14 : ∀ d : Dev nD, (k0_cond30 d = 1#1) = True := by simp only [eq_iff_iff]; decide +kernel
/-- The tile of step 15 is the device's own. -/
theorem own15 : ∀ d : Dev nD, (k0_cond31 d = 1#1) = True := by simp only [eq_iff_iff]; decide +kernel
/-- The tile of step 15 is not another device's. -/
theorem other15 : ∀ d : Dev nD, (k0_cond32 d = 1#1) = False := by simp only [eq_iff_iff]; decide +kernel

/-- The printed body on the kernel's buffers. -/
abbrev body0 : TP F PUnit :=
  cc0_body xM (Memref.isWhole_whole _) wM (Memref.isWhole_whole _) sxM (Memref.isWhole_whole _) swM (Memref.isWhole_whole _) oM (Memref.isWhole_whole _) xbM (Memref.isWhole_whole _) wtM (Memref.isWhole_whole _) wbM (Memref.isWhole_whole _) sbM (Memref.isWhole_whole _) rbM (Memref.isWhole_whole _) sgM (Memref.isWhole_whole _) cc0_scratch6 cc0_scratch7 cc0_scratch8 cc0_scratch9

/-- Two programs that begin with the same operation and continue alike are the same. -/
theorem op_congr.{v} {E : Type → Type v} {X α : Type} {e e' : E X} {k k' : X → Prog E α} (h : e = e') (hk : ∀ x, k x = k' x) : Prog.op e k = Prog.op e' k' := by
  subst h; exact congrArg _ (funext hk)

set_option maxRecDepth 100000 in
set_option maxHeartbeats 0 in
/-- The printed body is the segments in order. -/
theorem body_eq : body0 (F := F) = prog := by
  unfold body0
  simp only [cc0_body_eq_skeleton, cc0_body_skel, k0_part64_eq_skeleton, k0_part64_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, own0, other0, own1, other1, own2, other2, own3, other3, own4, other4, own5, other5, own6, other6, own7, other7, own8, other8, own9, other9, own10, other10, own11, other11, own12, other12, own13, other13, own14, other14, own15, other15, ↓reduceDIte,
    prog, each, fetchAt, fetchedAt, keepX, scale, tileAt, castW, dotW, ownAt, sendAt, send, receiveAt, sentAt, sigTo, fetch, fetched, putOut, putDone, stage, arrived, widen, sent, semSignalWord, semWaitWord, smemLoad,
    Prog.bind_op, Prog.bind_ret, Prog.lift, Prog.pure_eq_ret]
  iterate 40 (refine op_congr rfl (fun _ => ?_))
  all_goals rfl

end Cert.KernelIdeal.Run

end
-- ==== Proof.Base.lean ====
module

public import proofs.«01_k».proof.Proof.Prog
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Transfers
public import Idealize.ShloMosaic.Lib.Tactic

@[expose] public section

noncomputable section

/-! # Resources of the run: the algebra, buffers held piece by piece, and the steps at pieces -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds of the kernel's own cells; a duty is named by the device that pays it. -/
abbrev UB : Type := URounds (GSem nD τ sig) (Dev nD)
/-- The launch's cells, the kernel's cells, and the counters of local copies. -/
abbrev UU : Type := UR sig nD τ × (UB × Counters)

local notation "𝕄" => MT nD τ sig Unit (Elt F) ℕ UU ℕ

/-- The place of the launch's own cells in the resources of a run. -/
abbrev EP : Emb (UR sig nD τ) (MT nD τ sig Unit (Elt F) ℕ UU ℕ) := embL
/-- The place of the rounds of the kernel's cells in the resources of a run. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The rounds of the kernel's cells are user resources, so an invariant may hold them. -/
instance ER_landsIn : (ER : Emb UB 𝕄).LandsIn (upEmb : UEmb _ 𝕄) := by unfold ER; infer_instance
/-- The place of the counters of local copies in the resources of a run. -/
abbrev EC : UEmb Counters (MT nD τ sig Unit (Elt F) ℕ UU ℕ) := countersEmb

/-- No loop variants: the kernel has no unbounded loop. -/
abbrev 𝒱₀ : Variants := Variants.none

/-- A device's core runs `p` to `Q`. -/
abbrev runs {α : Type} (c : Dev nD) (p : TP F α) (Q : α → sProp 𝕄) : sProp 𝕄 :=
  wp frame (wpE (defs₀ (F := F)) 𝒱₀ (c : Thread nD τ) none) Set.univ p Q

/-! ## Sequences -/

/-- The separating conjunction over a list. -/
def all {α : Type} (Φ : α → sProp 𝕄) : List α → sProp 𝕄
  | [] => iprop(emp)
  | a :: l => iprop(Φ a ∗ all Φ l)

omit [FloatOps F] in
/-- The conjunction over a list that begins with `a` is the one at `a` and the one over the rest. -/
theorem all_cons {α : Type} (Φ : α → sProp 𝕄) (a : α) (l : List α) : all Φ (a :: l) = iprop(Φ a ∗ all Φ l) := rfl
omit [FloatOps F] in
/-- The conjunction over the empty list is empty. -/
theorem all_nil {α : Type} (Φ : α → sProp 𝕄) : all Φ [] = iprop(emp) := rfl

omit [FloatOps F] in
/-- A conjunction over a finite set is the one over any list of its members. -/
theorem bigSep_all {α : Type} [DecidableEq α] (Φ : α → sProp 𝕄) : ∀ (l : List α) (S : Finset α), l.Nodup → l.toFinset = S → bigSep S Φ = all Φ l
  | [], S, _, h => by subst h; exact bigSep_empty
  | a :: l, S, hn, h => by
    subst h
    rw [List.toFinset_cons, bigSep_insert (by rw [List.mem_toFinset]; exact (List.nodup_cons.mp hn).1), bigSep_all Φ l _ (List.nodup_cons.mp hn).2 rfl]
    rfl

omit [FloatOps F] in
/-- A conjunction over a list follows from the one whose every member implies its own. -/
theorem all_mono {α : Type} {Φ Ψ : α → sProp 𝕄} (h : ∀ a, Φ a ⊢ Ψ a) : ∀ l : List α, all Φ l ⊢ all Ψ l
  | [] => BI.Entails.refl _
  | a :: l => BI.sep_mono (h a) (all_mono h l)

omit [FloatOps F] in
/-- A list of pairs of resources splits into two lists. -/
theorem all_sep {α : Type} (Φ Ψ : α → sProp 𝕄) : ∀ l : List α, all (fun a => iprop(Φ a ∗ Ψ a)) l ⊢ iprop(all Φ l ∗ all Ψ l)
  | [] => by
    simp only [all_nil]; iintro -; isplitl <;> iempintro
  | a :: l => by
    simp only [all_cons]
    iintro ⟨⟨H1, H2⟩, H⟩
    ihave H' := (all_sep Φ Ψ l) $$ H
    icases H' with ⟨H3, H4⟩
    isplitl [H1 H3]
    · isplitl [H1] <;> iassumption
    · isplitl [H2] <;> iassumption

omit [FloatOps F] in
/-- Two conjunctions over one list make one of pairs. -/
theorem all_zip {α : Type} (Φ Ψ : α → sProp 𝕄) : ∀ l : List α, iprop(all Φ l ∗ all Ψ l) ⊢ all (fun a => iprop(Φ a ∗ Ψ a)) l
  | [] => by
    simp only [all_nil]; iintro -; iempintro
  | a :: l => by
    simp only [all_cons]
    iintro ⟨⟨H1, H3⟩, H2, H4⟩
    isplitl [H1 H2]
    · isplitl [H1] <;> iassumption
    · iapply (all_zip Φ Ψ l); isplitl [H3] <;> iassumption

omit [FloatOps F] in
/-- A conjunction over the image of a list is one over the list. -/
theorem all_map {α β : Type} (Φ : β → sProp 𝕄) (f : α → β) : ∀ l : List α, all Φ (l.map f) = all (fun a => Φ (f a)) l
  | [] => rfl
  | a :: l => by rw [List.map_cons, all_cons, all_cons, all_map Φ f l]

omit [FloatOps F] in
/-- Assertions that imply each other are equal. -/
theorem both {P Q : sProp 𝕄} (h : P ⊢ Q) (h' : Q ⊢ P) : P = Q := BI.equiv_iff.mp ⟨h, h'⟩

/-- A program run after another. -/
theorem runs_bind {α β : Type} (c : Dev nD) (p : TP F α) (k : α → TP F β) (Q : β → sProp 𝕄) :
    runs c p (fun x => runs c (k x) Q) ⊢ runs c (p >>= k) Q :=
  Entails.of_eq (wp_bind ..).symm

/-- A program that only returns runs to what holds of its value. -/
theorem runs_ret {α : Type} (c : Dev nD) (x : α) (Q : α → sProp 𝕄) : Q x ⊢ runs c (.ret x) Q := by
  show Q x ⊢ wp frame _ _ (Prog.ret x) Q
  rw [wp_ret]; iintro H; imodintro; iexact H

/-- The same for a value returned as a pure program. -/
theorem runs_pure {α : Type} (c : Dev nD) (x : α) (Q : α → sProp 𝕄) : Q x ⊢ runs c (pure x) Q := runs_ret c x Q

/-- A segment for each member of a list: each takes its member's resources and the state before it to those after. -/
theorem each_run {α : Type} (c : Dev nD) (f : α → TP F PUnit) (I : List α → sProp 𝕄) (A B : α → sProp 𝕄)
    (h : ∀ a l Q, iprop(I (a :: l) ∗ A a) ⊢ iprop((iprop(I l ∗ B a) -∗ Q) -∗ runs c (f a) (fun _ => Q))) :
    ∀ (l l' : List α) (Q : sProp 𝕄), iprop(I (l ++ l') ∗ all A l) ⊢ iprop((iprop(I l' ∗ all B l) -∗ Q) -∗ runs c (each f l) (fun _ => Q))
  | [], l', Q => by
    unfold each; rw [all_nil, all_nil, List.nil_append]
    iintro ⟨HI, -⟩ HQ
    iapply (runs_pure c PUnit.unit)
    iapply HQ
    isplitl [HI]; · iexact HI
    iempintro
  | a :: l, l', Q => by
    unfold each; rw [all_cons, all_cons, List.cons_append]
    iintro ⟨HI, HA, HAl⟩ HQ
    iapply (runs_bind c)
    iapply (h a (l ++ l') _) $$ [HI HA]
    · isplitl [HI]; · iexact HI
      iexact HA
    iintro ⟨HI, HB⟩
    iapply (each_run c f I A B h l l' Q) $$ [HI HAl]
    · isplitl [HI]; · iexact HI
      iexact HAl
    iintro ⟨HI, HBl⟩
    iapply HQ
    isplitl [HI]; · iexact HI
    isplitl [HB] <;> iassumption

/-- The steps for one list and then for another are those for the two lists joined. -/
theorem each_append {α : Type} (f : α → TP F PUnit) : ∀ l l' : List α, each f (l ++ l') = each f l >>= fun _ => each f l'
  | [], l' => rfl
  | a :: l, l' => by
    show (f a >>= fun _ => each f (l ++ l')) = (f a >>= fun _ => each f l) >>= fun _ => each f l'
    rw [each_append f l l']; exact (bind_assoc _ _ _).symm

/-! ## Pieces of buffers -/

/-- The device's core holds `m`'s elements, at the contents `X`. -/
abbrev has (c : Dev nD) {sp : Space} {s : Shape} {e : EltTy} (m : Memref sig .tc sp s e) (X : s.Idx → Elt F e) : sProp 𝕄 :=
  owns (c : Thread nD τ) (m : Memref sig (c : Thread nD τ).2.kind sp s e) fullShare X

/-- The device's core holds `m`'s elements, at some contents. -/
def free (c : Dev nD) {sp : Space} {s : Shape} {e : EltTy} (m : Memref sig .tc sp s e) : sProp 𝕄 := iprop(∃ X, has c m X)

/-- A free piece may be held by an invariant. -/
instance free_storable (c : Dev nD) {sp : Space} {s : Shape} {e : EltTy} (m : Memref sig .tc sp s e) : BI.Storable (upEmb : UEmb _ 𝕄) (free (F := F) c m) := by
  unfold free; infer_instance

/-- A piece at known contents is free. -/
theorem has_free (c : Dev nD) {sp : Space} {s : Shape} {e : EltTy} (m : Memref sig .tc sp s e) (X : s.Idx → Elt F e) : has c m X ⊢ (free c m : sProp 𝕄) := by
  unfold free; iintro H; iexists X; iexact H

section Steps

variable (c : Dev nD) {s : Shape} {e : EltTy}

/-- A load of a piece held. -/
theorem run_load {cs : CoreSpace} {m : Memref sig .tc cs s e} {r : Rect s} (hr : ∀ a, r.stride a = 1) {hl : m.view.LoadsAt r.toLoadRect} (X : r.shape.Idx → Elt F e)
    (Q : (r.shape.Idx → Elt F e) → sProp 𝕄) :
    has c (m.slice r hr) X ⊢ iprop((has c (m.slice r hr) X -∗ Q X) -∗ runs c (Prog.lift (.load m r.toLoadRect hl)) Q) := by
  unfold has owns
  iintro ⟨%f, %hf, H⟩ HQ
  iapply (wp_load 𝒱₀ (c : Thread nD τ) none Set.univ (m := m) (r := r.toLoadRect) (S := (m.slice r hr).view.set) (q := fullShare) (f := f)
    (show m.view.setOn r.set ⊆ (m.view.slice r).set from fun i hi => by rw [View.set_slice]; exact hi)) $$ H
  iintro H
  iapply (runs_ret c)
  have hX : m.view.readAt (Elt F) r.toLoadRect f = X := hf
  rw [hX]
  iapply HQ
  iexists f
  isplitr; · ipureintro; exact hf
  iexact H

/-- A store to a piece held. -/
theorem run_store {cs : CoreSpace} {m : Memref sig .tc cs s e} {r : Rect s} (hr : ∀ a, r.stride a = 1) (w : r.shape.Idx → Elt F e)
    {hx : (m.access r).Stores Finset.univ} {hm : (Finset.univ : Finset r.shape.Idx) = Finset.univ ∨ ∀ a, r.stride a = 1} (Q : PUnit → sProp 𝕄) :
    free c (m.slice r hr) ⊢ iprop((has c (m.slice r hr) w -∗ Q ⟨⟩) -∗ runs c (Prog.lift (.store m r w Finset.univ hx hm)) Q) := by
  unfold free has owns
  iintro ⟨%X, %f, %hf, H⟩ HQ
  iapply (wp_store 𝒱₀ (c : Thread nD τ) none Set.univ (m := m) (r := r) (Mk := Finset.univ) (S := (m.slice r hr).view.set) (f := f)
    (show (m.view.slice r).setOn Finset.univ ⊆ (m.view.slice r).set from Finset.Subset.refl _)) $$ H
  iintro H
  iapply (runs_ret c)
  iapply HQ
  iexists _
  isplitr
  · ipureintro; exact View.read_write_univ f w
  iexact H

/-- What the core owes, whatever it has waited for. -/
def ow (O : CellTallies nD τ sig Unit) : sProp 𝕄 := iprop(∃ W, owes (c : Thread nD τ) O W)

/-- The start of a local copy of a piece held into a piece free. -/
theorem run_copy {sp sp' : Space} {src : Memref sig .tc sp s e} {dst : Memref sig .tc sp' s e} {sm : DmaSem sig}
    {hsrc : src.view.WordExact} {hdst : dst.view.WordExact} {hsem : DmaTarget.Typed (nD := nD) (τ := τ) (p := .tc) sp (.dma sm) (.here dst)}
    (hn : 0 < s.numel) (X : s.Idx → Elt F e) (Q : PUnit → sProp 𝕄) :
    iprop(has c src X ∗ free c dst ∗ semVal ((c : Thread nD τ), .dma sm) 0)
      ⊢ iprop((Transfers.Flight EC (c : Thread nD τ) (.dma sm) () dst.view.dmaCredit iprop(has c dst X ∗ has c src X) -∗ Q ⟨⟩)
        -∗ runs c (Prog.lift (.enqueueDma src (.here dst) (.dma sm) hsrc hdst hsem)) Q) := by
  unfold free has owns
  iintro ⟨⟨%f, %hf, Hs⟩, ⟨%Y, %g, %hg, Hd⟩, Hv⟩ HQ
  iapply (Transfers.wp_dmaLocal EC 𝒱₀ (c : Thread nD τ) none (src := src) (dst := dst) (sm := .dma sm) (q := fullShare) (fs := f) (Sd := dst.view.set) (fd := g)
    () dst.view.dmaCredit rfl (View.dmaCredit_pos _ hn) (Finset.Subset.refl _)) $$ [Hs Hd Hv]
  · isplitl [Hs]; · iexact Hs
    isplitl [Hd] <;> iassumption
  iintro HF
  iapply (runs_ret c)
  iapply HQ
  iapply (Transfers.Flight_mono EC (c : Thread nD τ) ?_) $$ HF
  iintro ⟨Hd, Hs⟩
  isplitl [Hd]
  · iexists _
    isplitr
    · ipureintro; exact (View.read_write_univ g _).trans hf
    iexact Hd
  iexists f
  isplitr; · ipureintro; exact hf
  iexact Hs

/-- The wait for a local copy. -/
theorem run_wait {sp sp' : Space} {s' : Shape} {e' : EltTy} {src : Memref sig .tc sp' s' e'} {dst : Memref sig .tc sp s e} {sm : DmaSem sig}
    {hsrc : src.view.WordExact} {hdst : dst.view.WordExact} {N : ℕ} (hN : dst.view.dmaCredit = N) (D : sProp 𝕄) (O : CellTallies nD τ sig Unit) (Q : PUnit → sProp 𝕄) :
    iprop(Transfers.Flight EC (c : Thread nD τ) (.dma sm) () N D ∗ ow c O ∗ MayWait (c : Thread nD τ) (.dma sm) () O)
      ⊢ iprop((iprop(D ∗ semVal ((c : Thread nD τ), .dma sm) 0 ∗ ow c O) -∗ Q ⟨⟩)
        -∗ runs c (Prog.lift (.waitDma2 sm src dst hsrc hdst)) Q) := by
  unfold ow
  iintro ⟨HF, ⟨%W, HO⟩, HM⟩ HQ
  iapply (Transfers.wp_waitLocalO EC 𝒱₀ (c : Thread nD τ) none () hN (D := D) (O := O) (W := W)) $$ [HF HO HM]
  · isplitl [HF]; · iexact HF
    isplitl [HO] <;> iassumption
  iintro ⟨HD, Hv, HO⟩
  iapply (runs_ret c)
  iapply HQ
  isplitl [HD]; · iexact HD
  isplitl [Hv]; · iexact Hv
  iexists _; iexact HO

end Steps

/-- A squeezed piece holds the piece's contents, shape-cast. -/
theorem has_squeeze (c : Dev nD) {sp : Space} {s s' : Shape} {e : EltTy} (m : Memref sig .tc sp s e) (hq : s.Squeezes s') (h : s.ShapeCasts s') (h' : s'.ShapeCasts s)
    (X : s.Idx → Elt F e) : (has c (m.squeeze s' hq) (shapeCast s' X h) : sProp 𝕄) = has c m X := by
  unfold has owns
  have hr : ∀ f : m.view.ty.Contents (Elt F), (m.squeeze s' hq).view.read (Elt F) f = shapeCast s' (m.view.read (Elt F) f) h := fun _ => rfl
  have hi : ∀ Y : s.Idx → Elt F e, shapeCast s' Y h = shapeCast s' X h ↔ Y = X := fun Y =>
    ⟨fun e => by rw [← shapeCast_shapeCast Y h h', e, shapeCast_shapeCast X h h'], fun e => by rw [e]⟩
  have hs : (m.squeeze s' hq).view.set = m.view.set := View.set_reshape (v := m.view) hq.numel_eq
  refine both ?_ ?_
  · iintro ⟨%f, %hf, H⟩
    iexists f
    isplitr; · ipureintro; exact (hi _).mp ((hr f).symm.trans hf)
    iapply (Entails.of_eq (congrArg (fun S => (m.view.loc (c : Thread nD τ) ↦[S]{fullShare} f : sProp 𝕄)) hs)) $$ H
  · iintro ⟨%f, %hf, H⟩
    iexists f
    isplitr; · ipureintro; exact (hr f).trans ((hi _).mpr hf)
    iapply (Entails.of_eq (congrArg (fun S => (m.view.loc (c : Thread nD τ) ↦[S]{fullShare} f : sProp 𝕄)) hs.symm)) $$ H

/-- A piece holds the squeezed piece's contents, shape-cast. -/
theorem has_unsqueeze (c : Dev nD) {sp : Space} {s s' : Shape} {e : EltTy} (m : Memref sig .tc sp s e) (hq : s.Squeezes s') (h : s.ShapeCasts s') (h' : s'.ShapeCasts s)
    (X : s'.Idx → Elt F e) : (has c (m.squeeze s' hq) X : sProp 𝕄) = has c m (shapeCast s X h') := by
  rw [← has_squeeze c m hq h h', shapeCast_shapeCast]

/-- Dropping a dimension of size one leaves a free piece the same. -/
theorem free_squeeze (c : Dev nD) {sp : Space} {s s' : Shape} {e : EltTy} (m : Memref sig .tc sp s e) (hq : s.Squeezes s') (h : s.ShapeCasts s') (h' : s'.ShapeCasts s) :
    (free (F := F) c (m.squeeze s' hq) : sProp 𝕄) = free c m := by
  unfold free
  refine both ?_ ?_
  · iintro ⟨%X, H⟩
    iexists _
    iapply (Entails.of_eq (has_unsqueeze c m hq h h' X)) $$ H
  · iintro ⟨%X, H⟩
    iexists _
    iapply (Entails.of_eq (has_squeeze c m hq h h' X).symm) $$ H

/-- A buffer held whole, as a piece. -/
theorem has_whole (c : Dev nD) (b : Ref sig .tc) (f : b.ty.Contents (Elt F)) :
    (has c (Memref.whole b) f : sProp 𝕄) = (((c : Thread nD τ).loc b) ↦{fullShare} (f : Buf (Elt F) ((c : Thread nD τ).loc b))) := by
  unfold has owns; simp only [Memref.view_whole, View.read_whole, View.set_whole]
  refine both ?_ ?_
  · iintro ⟨%g, %hg, H⟩; subst hg; iexact H
  · iintro H; iexists f; isplitr; · (ipureintro; rfl)
    iexact H

section Split

variable (c : Dev nD) {sp : Space} {sh : Shape} {e : EltTy} (m : Memref sig .tc sp sh e)
  {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A buffer at known contents splits into pieces that cover it without overlap, each at its part of the contents. -/
theorem has_split (X : sh.Idx → Elt F e) : (has c m X : sProp 𝕄) ⊢ bigSep Finset.univ fun t => has c (m.slice (r t) (hr t)) (fun j => X ((r t).emb j)) :=
  owns_rects (c : Thread nD τ) m fullShare r hr hd hcov X

/-- The pieces of a buffer, each at its part of some contents, join to the buffer at those contents. -/
theorem has_join (X : sh.Idx → Elt F e) : (bigSep Finset.univ fun t => has c (m.slice (r t) (hr t)) (fun j => X ((r t).emb j))) ⊢ (has c m X : sProp 𝕄) :=
  owns_of_rects (c : Thread nD τ) m fullShare r hr hd hcov X

/-- A free buffer splits into free pieces. -/
theorem free_split : (free (F := F) c m : sProp 𝕄) ⊢ bigSep Finset.univ fun t => free c (m.slice (r t) (hr t)) := by
  unfold free
  iintro ⟨%X, H⟩
  iapply ((has_split c m r hr hd hcov X).trans (bigSep_mono fun t _ => has_free c _ _)) $$ H

/-- Pieces at contents of their own join to the buffer at contents that agree with each on its piece. -/
theorem has_glue (Y : (t : T) → (r t).shape.Idx → Elt F e) :
    (bigSep Finset.univ fun t => has c (m.slice (r t) (hr t)) (Y t)) ⊢ (iprop(∃ X, ⌜∀ t j, X ((r t).emb j) = Y t j⌝ ∗ has c m X) : sProp 𝕄) := by
  classical
  have hpick : ∀ i : sh.Idx, ∃ x : (t : T) × (r t).shape.Idx, (r x.1).emb x.2 = i := fun i => by
    obtain ⟨t, -, hx⟩ := Finset.mem_biUnion.mp (hcov.symm ▸ Finset.mem_univ i)
    rw [← Rect.map_emb_univ, Finset.mem_map] at hx
    obtain ⟨j, -, hj⟩ := hx
    exact ⟨⟨t, j⟩, hj⟩
  choose pick hp using hpick
  have hX : ∀ t j, Y (pick ((r t).emb j)).1 (pick ((r t).emb j)).2 = Y t j := fun t j => by
    have h1 := hp ((r t).emb j)
    generalize pick ((r t).emb j) = x at h1 ⊢
    obtain ⟨t', j'⟩ := x
    have ht : t' = t := by
      by_contra hne
      have ha : (r t').emb j' ∈ (r t').set := by rw [← Rect.map_emb_univ]; exact Finset.mem_map_of_mem _ (Finset.mem_univ _)
      have hb : (r t').emb j' ∈ (r t).set := by
        dsimp only at h1; rw [h1, ← Rect.map_emb_univ]; exact Finset.mem_map_of_mem _ (Finset.mem_univ _)
      exact Finset.disjoint_left.mp (hd t' t hne) ha hb
    subst ht
    have : j' = j := (r t').emb.injective h1
    subst this; rfl
  iintro H
  iexists fun i => Y (pick i).1 (pick i).2
  isplitr; · ipureintro; exact hX
  iapply (has_join c m r hr hd hcov _)
  iapply (Entails.of_eq (bigSep_congr fun t _ => ?_)) $$ H
  exact congrArg (has c (m.slice (r t) (hr t))) (funext fun j => (hX t j).symm)

/-- Free pieces that cover a buffer without overlap join to the free buffer. -/
theorem free_join (h : ∀ t, Nonempty ((r t).shape.Idx → Elt F e)) : (bigSep Finset.univ fun t => free c (m.slice (r t) (hr t))) ⊢ (free (F := F) c m : sProp 𝕄) := by
  unfold free
  refine (BI.bigSep_exists_pi Finset.univ (fun t (X : (r t).shape.Idx → Elt F e) => (has c (m.slice (r t) (hr t)) X : sProp 𝕄))).trans ?_
  iintro ⟨%Y, H⟩
  ihave H' := (has_glue c m r hr hd hcov Y) $$ H
  icases H' with ⟨%X, -, H⟩
  iexists X; iexact H

end Split

end Cert.KernelIdeal.Run

end
-- ==== Proof.Sched.lean ====
module

public import proofs.«01_k».proof.Proof.Base
public import proofs.«01_k».proof.Proof.Gen.KernelIdeal.Launch
public import proofs.«01_k».proof.Proof.Gen.KernelIdeal.Points

@[expose] public section

noncomputable section

/-! # The protocol of the exchange

For every semaphore: who waits, who pays, how much and what is handed over.

* The barrier semaphore of device `x`: waited for once, fifteen units; every other device `c` pays one, and with it hands `x` the
  rows of `c`'s receive buffer that `x` is to fill, and that `c` stands at the first round of the semaphore of that receipt.
* Send semaphore `b` of device `c`: paid by the copy of `c`'s tile to `b`, with the piece of the send buffer it was copied from.
* Receive semaphore `s` of device `c`: paid by the copy of `s`'s tile to `c`, with the rows of the receive buffer, holding the tile
  of `s` for `c` as it was sent.
* The semaphores of copies within a device are paid and waited for by the device alone. -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Pieces and cells -/

/-- Column block `b` of the second operand, as a view. -/
abbrev wV (b : Dev nD) := wV' (b := b) ![0, 128 * b.val] rfl
/-- The result's rows from device `b`, as a view. -/
abbrev oV (b : Dev nD) := oV' (b := b) ![256 * b.val, 0] rfl
/-- The landing rows for device `b`'s tile, as a view. -/
abbrev rbV (b : Dev nD) := rbV' (b := b) ![256 * b.val, 0] rfl
/-- The send slot for device `b`, as a view. -/
abbrev sbV (b : Dev nD) := sbV' (b := b) ![b.val, 0, 0] rfl
/-- The semaphore that counts the send to device `b`. -/
abbrev snS (b : Dev nD) : DmaSem sig := snS' (b := b) ![b.val] rfl
/-- The semaphore that counts what comes from device `b`. -/
abbrev rcS (b : Dev nD) : DmaSem sig := rcS' (b := b) ![b.val] rfl

/-- The barrier semaphore of device `c`. -/
abbrev barCell (c : Dev nD) : GSem nD τ sig := ((c : Thread nD τ), .reg barS)
/-- The semaphore of device `c` for its send to device `b`. -/
abbrev sendCell (c b : Dev nD) : GSem nD τ sig := ((c : Thread nD τ), .dma (snS b))
/-- The semaphore of device `c` for the tile from device `s`. -/
abbrev recvCell (c s : Dev nD) : GSem nD τ sig := ((c : Thread nD τ), .dma (rcS s))

/-- What a semaphore serves. -/
inductive Role where
  | bar | send (b : Dev nD) | recv (s : Dev nD) | none

/-- What each semaphore serves, by its number. -/
def role : SemLoc sig → Role
  | .reg _ => .bar
  | .dma q => if h : 11 ≤ q.val ∧ q.val < 27 then .send ⟨q.val - 11, by have := h.2; show q.val - 11 < 16; omega⟩
      else if h : 27 ≤ q.val ∧ q.val < 43 then .recv ⟨q.val - 27, by have := h.2; show q.val - 27 < 16; omega⟩ else .none

/-- The barrier semaphore serves the barrier. -/
theorem role_bar : role (.reg barS) = .bar := rfl
/-- The send semaphores are numbered from 11. -/
theorem snS_val : ∀ b : Dev nD, (snS b).val = 11 + b.val := by decide +kernel
/-- The receive semaphores are numbered from 27. -/
theorem rcS_val : ∀ b : Dev nD, (rcS b).val = 27 + b.val := by decide +kernel
/-- The window's semaphores are numbered from 3. -/
theorem cpS_val : ∀ k : Fin 8, (cpS k).val = 3 + k.val := by decide +kernel
/-- The staging semaphores are numbered from 43. -/
theorem sgS_val : ∀ k : Fin 4, (sgS k).val = 43 + k.val := by decide +kernel
/-- A send semaphore serves its send. -/
theorem role_send (b : Dev nD) : role (.dma (snS b)) = .send b := by
  have hb : b.val < 16 := b.isLt
  have h := snS_val b
  unfold role; dsimp only
  rw [dif_pos ⟨by omega, by omega⟩]; exact congrArg Role.send (Fin.ext (by dsimp only; omega))
/-- A receive semaphore serves its receipt. -/
theorem role_recv (b : Dev nD) : role (.dma (rcS b)) = .recv b := by
  have hb : b.val < 16 := b.isLt
  have h := rcS_val b
  unfold role; dsimp only
  rw [dif_neg (fun h => by omega), dif_pos ⟨by omega, by omega⟩]; exact congrArg Role.recv (Fin.ext (by dsimp only; omega))
/-- A semaphore with a number below 11 or from 43 on serves copies within the device. -/
theorem role_low (q : DmaSem sig) (hq : q.val < 11 ∨ 43 ≤ q.val) : role (.dma q) = .none := by
  unfold role; dsimp only
  rw [dif_neg (fun h => by omega), dif_neg (fun h => by omega)]

/-- The credit of a tile's copy. -/
abbrev N : ℕ := (rbV 0).view.dmaCredit
/-- A tile's copy credits its landing rows' receive semaphore by `N`. -/
theorem N_recv (b : Dev nD) : (rbV b).view.dmaCredit = N := rfl
/-- A tile's copy credits the send semaphore by `N`. -/
theorem N_send (b : Dev nD) : (sbV b).view.dmaCredit = N := rfl
/-- The credit is positive. -/
theorem N_pos : 0 < N := View.dmaCredit_pos _ (by decide)

/-! ## Contents -/

/-- The rows of the left operand on device `c`. -/
def xAt (c : Dev nD) : (cc0_stg0_0 : Ref sig .tc).ty.Contents (Elt F) := (win0_0.blk (0 : Fin 1)).view.read (Elt F) ((s₀ m ρ).mem ((c : Thread nD τ).loc main_arg0))
/-- The left operand's scale on device `c`. -/
def sxAt (c : Dev nD) : (cc0_stg1_0 : Ref sig .tc).ty.Contents (Elt F) := (win0_1.blk (0 : Fin 1)).view.read (Elt F) ((s₀ m ρ).mem ((c : Thread nD τ).loc main_arg2))
/-- The right operand's scale on device `c`. -/
def swAt (c : Dev nD) : (cc0_stg2_0 : Ref sig .tc).ty.Contents (Elt F) := (win0_2.blk (0 : Fin 1)).view.read (Elt F) ((s₀ m ρ).mem ((c : Thread nD τ).loc main_arg3))
/-- Column block `b` of the right operand, on device `c`. -/
def wAt (c b : Dev nD) : S4096x128.Idx → Elt F .f32 := (wV b).view.read (Elt F) ((s₀ m ρ).mem ((c : Thread nD τ).loc main_arg1))
/-- The column block as the product takes it. -/
def wbAt (c b : Dev nD) : FVec F S4096x128 .fp8e4m3 := k0_pay3 (shapeCast S1x4096x128 (wAt m ρ c b) (by decide))
/-- The product of the two scales on device `c`. -/
def scAt (c : Dev nD) : F .f32 :=
  k0_pay2 ((sxAt m ρ c : S1.Idx → Elt F .f32) (Shape.Idx.first (by decide))) ((swAt m ρ c : S1.Idx → Elt F .f32) (Shape.Idx.first (by decide)))
/-- The tile of device `s` for device `b`: its rows, `b`'s columns. -/
def tile (s b : Dev nD) : FVec F S256x128 .f32 := k0_pay10 (scAt m ρ s) (k0_pay1 (xAt m ρ s)) (wbAt m ρ s b)
/-- The tile as it is sent. -/
def wire (s b : Dev nD) : S256x128.Idx → Elt F .bf16 := shapeCast S256x128 (k0_pay12 (tile m ρ s b)) (by decide)
/-- Rows `s` of device `c`'s result. -/
def res (c s : Dev nD) : S256x128.Idx → Elt F .f32 :=
  shapeCast S256x128 (if s = c then k0_pay11 (tile m ρ c c) else k0_pay70 (wire m ρ s c)) (by decide)

/-! ## The schedule -/

/-- What device `x`'s unit on device `c`'s barrier semaphore hands over. -/
def barPay (c x : Dev nD) : sProp 𝕄 := iprop(free x (rbV c) ∗ reached ER (recvCell x c) 0)
/-- What the copy from device `s` hands device `c`. -/
def recvPay (c s : Dev nD) : sProp 𝕄 := has c (rbV s) (wire m ρ s c)
/-- What the copy to device `b` hands back to device `c`. -/
def sendPay (c b : Dev nD) : sProp 𝕄 := free c (sbV b)

/-- The schedule: a barrier cell has a unit from every other device, a send or receive cell for another device has one copy's credit, all in the first round, each with what it hands over. -/
def rd : Rounds.Schedule (GSem nD τ sig) (Dev nD) 𝕄 where
  duties g r := if r = 0 ∧ g.1.2 = .tc then
      match role g.2 with
      | .bar => Finset.univ.erase g.1.1
      | .send b => if b = g.1.1 then ∅ else {0}
      | .recv s => if s = g.1.1 then ∅ else {0}
      | .none => ∅
    else ∅
  unitless _ := False
  amount g _ _ := match role g.2 with
    | .bar => 1
    | _ => N
  payload g _ d := match role g.2 with
    | .bar => barPay g.1.1 d
    | .send b => sendPay g.1.1 b
    | .recv s => recvPay m ρ g.1.1 s
    | .none => iprop(emp)
  amount_pos g _ _ _ := by
    cases role g.2
    · exact Nat.one_pos
    all_goals exact N_pos

/-- What a duty hands over may be held by an invariant. -/
instance rd_storable (g : GSem nD τ sig) (r : ℕ) (d : Dev nD) : BI.Storable (upEmb : UEmb _ 𝕄) ((rd (F := F) m ρ).payload g r d) := by
  show BI.Storable upEmb (match role g.2 with
    | .bar => barPay g.1.1 d
    | .send b => sendPay g.1.1 b
    | .recv s => recvPay m ρ g.1.1 s
    | .none => iprop(emp))
  cases role g.2 <;> dsimp only <;> (try unfold barPay) <;> (try unfold sendPay) <;> (try unfold recvPay) <;> infer_instance

section Sched
variable (c b : Dev nD)

/-- The barrier's duties are those of all other devices. -/
theorem duties_bar : (rd (F := F) m ρ).duties (barCell c) 0 = Finset.univ.erase c := rfl
/-- A send cell for another device has one duty. -/
theorem duties_send (h : b ≠ c) : (rd (F := F) m ρ).duties (sendCell c b) 0 = {0} := by
  dsimp only [rd]; rw [if_pos ⟨rfl, rfl⟩, role_send]; exact if_neg h
/-- A receive cell for another device has one duty. -/
theorem duties_recv (h : b ≠ c) : (rd (F := F) m ρ).duties (recvCell c b) 0 = {0} := by
  dsimp only [rd]; rw [if_pos ⟨rfl, rfl⟩, role_recv]; exact if_neg h
/-- There are no duties after the first round. -/
theorem duties_later (g : GSem nD τ sig) : ∀ r, 1 ≤ r → (rd (F := F) m ρ).duties g r = ∅ :=
  fun r hr => by dsimp only [rd]; rw [if_neg fun h => by omega]
/-- A device's send cell for itself has no duties. -/
theorem duties_own_send : ∀ r, 0 ≤ r → (rd (F := F) m ρ).duties (sendCell c c) r = ∅ := fun r _ => by
  dsimp only [rd]; split
  · rw [role_send]; exact if_pos rfl
  · rfl
/-- A device's receive cell for itself has no duties. -/
theorem duties_own_recv : ∀ r, 0 ≤ r → (rd (F := F) m ρ).duties (recvCell c c) r = ∅ := fun r _ => by
  dsimp only [rd]; split
  · rw [role_recv]; exact if_pos rfl
  · rfl

/-- A signal pays one unit. -/
theorem amount_bar (d : Dev nD) : (rd (F := F) m ρ).amount (barCell c) 0 d = 1 := rfl
/-- A copy pays its send cell `N`. -/
theorem amount_send (d : Dev nD) : (rd (F := F) m ρ).amount (sendCell c b) 0 d = N := by dsimp only [rd]; rw [role_send]
/-- A copy pays its receive cell `N`. -/
theorem amount_recv (d : Dev nD) : (rd (F := F) m ρ).amount (recvCell c b) 0 d = N := by dsimp only [rd]; rw [role_recv]

/-- The barrier's round has fifteen units. -/
theorem expect_bar : (rd (F := F) m ρ).expect (barCell c) 0 = 15 := by
  unfold Schedule.expect Schedule.amountOf
  rw [duties_bar, Finset.sum_congr rfl fun d _ => amount_bar m ρ c d, Finset.sum_const, Finset.card_erase_of_mem (Finset.mem_univ _), Finset.card_univ]
  rfl
/-- A send cell's round has `N` units. -/
theorem expect_send (h : b ≠ c) : (rd (F := F) m ρ).expect (sendCell c b) 0 = N := by
  unfold Schedule.expect Schedule.amountOf; rw [duties_send m ρ c b h, Finset.sum_singleton, amount_send]
/-- A receive cell's round has `N` units. -/
theorem expect_recv (h : b ≠ c) : (rd (F := F) m ρ).expect (recvCell c b) 0 = N := by
  unfold Schedule.expect Schedule.amountOf; rw [duties_recv m ρ c b h, Finset.sum_singleton, amount_recv]

/-- A signal hands over the landing rows for the signalled device. -/
theorem payload_bar (d : Dev nD) : (rd (F := F) m ρ).payload (barCell c) 0 d = barPay c d := rfl
/-- A finished send hands back the send slot. -/
theorem payload_send (d : Dev nD) : (rd (F := F) m ρ).payload (sendCell c b) 0 d = sendPay c b := by dsimp only [rd]; rw [role_send]
/-- A copy that comes in hands over the landing rows at the sender's tile. -/
theorem payload_recv (d : Dev nD) : (rd (F := F) m ρ).payload (recvCell c b) 0 d = recvPay m ρ c b := by dsimp only [rd]; rw [role_recv]

/-- Together the signals hand over what every other device gives. -/
theorem rest_bar : bigSep ((rd (F := F) m ρ).duties (barCell c) 0 \ ∅) (fun d => (rd (F := F) m ρ).payload (barCell c) 0 d) = bigSep (Finset.univ.erase c) (barPay c) := by
  rw [Finset.sdiff_empty, duties_bar]; rfl
/-- The send cell's round hands back the send slot. -/
theorem rest_send (h : b ≠ c) : bigSep ((rd (F := F) m ρ).duties (sendCell c b) 0 \ ∅) (fun d => (rd (F := F) m ρ).payload (sendCell c b) 0 d) = sendPay c b := by
  rw [Finset.sdiff_empty, duties_send m ρ c b h, bigSep_singleton, payload_send]
/-- The receive cell's round hands over the landing rows at the sender's tile. -/
theorem rest_recv (h : b ≠ c) : bigSep ((rd (F := F) m ρ).duties (recvCell c b) 0 \ ∅) (fun d => (rd (F := F) m ρ).payload (recvCell c b) 0 d) = recvPay m ρ c b := by
  rw [Finset.sdiff_empty, duties_recv m ρ c b h, bigSep_singleton, payload_recv]

end Sched

/-! ## Debts and levels -/

/-- What remains owed when the tiles for the places `l` are still to be sent. -/
def owR (c : Dev nD) : List (Fin 16) → CellTallies nD τ sig Unit
  | [] => 0
  | p :: l => owR c l + tallyAt (recvCell (place c p) c) () N

/-- The order in which the tiles are sent. -/
abbrev sends : List (Fin 16) := [12, 13, 14, 15, 8, 9, 10, 11, 4, 5, 6, 7, 1, 2, 3]

/-- What remains owed when the signals to the places `l` are still to be given. -/
def owA (c : Dev nD) : List (Fin 16) → CellTallies nD τ sig Unit
  | [] => owR c sends
  | p :: l => owA c l + tallyAt (barCell (place c p)) () 1

/-- What device `c` owes at launch. -/
def O₀ (c : Dev nD) : CellTallies nD τ sig Unit := owA c offs

/-- Every cell of a core has one index; other cells have none. -/
def L (g : GSem nD τ sig) : Finset Unit := if g.1.2 = .tc then {()} else ∅
/-- Barrier cells at 1, receive cells at 2, all others at 0. -/
def lv (g : GSem nD τ sig) (_ : Unit) : ℕ := match role g.2 with
  | .bar => 1
  | .recv _ => 2
  | _ => 0

/-- A cell that is not a core's has no index. -/
theorem L_of_ne (g : GSem nD τ sig) (h : g.1.2 ≠ .tc) : L g = ∅ := if_neg h
/-- Barrier cells are at level 1. -/
theorem lv_bar (c : Dev nD) : lv (barCell c) () = 1 := rfl
/-- Receive cells are at level 2. -/
theorem lv_recv (c s : Dev nD) : lv (recvCell c s) () = 2 := by unfold lv; rw [role_recv]

/-- Every cell at which `O` owes lies on a core, at level above `n`. -/
def Above (n : ℕ) (O : CellTallies nD τ sig Unit) : Prop := ∀ g u, 0 < O g u → g.1.2 = .tc ∧ n < lv g u

/-- Nothing owed lies above every level. -/
theorem above_zero (n : ℕ) : Above n 0 := fun g u h => absurd h (Nat.lt_irrefl 0)
/-- A debt at a cell above the level may be added. -/
theorem above_add {n k : ℕ} {O : CellTallies nD τ sig Unit} {g : GSem nD τ sig} (h : Above n O) (hg : g.1.2 = .tc) (hl : n < lv g ()) : Above n (O + tallyAt g () k) :=
  fun g' u h' => by
    rw [Pi.add_apply, Finsupp.add_apply, tallyAt_apply] at h'
    by_cases hc : g' = g ∧ u = ()
    · rw [hc.1]; exact ⟨hg, hl⟩
    · rw [if_neg hc] at h'; exact h g' u h'

/-- The tiles still to be sent are owed above level 1. -/
theorem above_owR (c : Dev nD) : ∀ l, Above 1 (owR c l)
  | [] => above_zero 1
  | p :: l => above_add (above_owR c l) rfl (by rw [lv_recv]; decide)
/-- What lies above a level lies above every lower one. -/
theorem Above.le {n k : ℕ} {O : CellTallies nD τ sig Unit} (h : Above n O) (hk : k ≤ n) : Above k O := fun g u hg => ⟨(h g u hg).1, lt_of_le_of_lt hk (h g u hg).2⟩
/-- The signals and tiles still to be given are owed above level 0. -/
theorem above_owA (c : Dev nD) : ∀ l, Above 0 (owA c l)
  | [] => (above_owR c sends).le (by decide)
  | p :: l => above_add (above_owA c l) rfl (by rw [lv_bar]; decide)

/-- A device may wait at a cell no higher than everything it owes. -/
theorem mayWait (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-- A device may wait for a copy of its own whatever signals and tiles it still owes. -/
theorem mayWait_low (c : Dev nD) (q : DmaSem sig) (hq : q.val < 11 ∨ 43 ≤ q.val) {O : CellTallies nD τ sig Unit} (hO : Above 0 O) :
    (levAts L lv : sProp 𝕄) ⊢ MayWait (c : Thread nD τ) (.dma q) () O :=
  mayWait c _ 0 (by unfold lv; rw [role_low q hq]) hO

/-- A device that owes nothing may wait anywhere. -/
theorem mayWait_none (c : Dev nD) (sm : SemLoc sig) : (emp : sProp 𝕄) ⊢ MayWait (c : Thread nD τ) sm () 0 := by
  rw [MayWait_zero]; iintro -; iempintro

end Cert.KernelIdeal.Run

end
-- ==== Proof.Steps.lean ====
module

public import proofs.«01_k».proof.Proof.Sched

@[expose] public section

noncomputable section

/-! # What each segment of the body does -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The cells of a device: its barrier semaphore, and for every device a send and a receive semaphore. -/
abbrev CK : Type := Option (Bool × Dev nD)
/-- The semaphore of a cell. -/
abbrev csem : CK → SemLoc sig
  | none => .reg barS
  | some (false, b) => .dma (snS b)
  | some (true, s) => .dma (rcS s)
/-- The cell on its device. -/
abbrev kcell (ck : Dev nD × CK) : GSem nD τ sig := ((ck.1 : Thread nD τ), csem ck.2)

/-- The invariants of all cells, and that all stand at the first round at least. -/
def records (K : Dev nD × CK → ℕ) : sProp 𝕄 :=
  iprop((bigSep Finset.univ fun ck : Dev nD × CK => cellInv ER (rd m ρ) (K ck) (kcell ck))
    ∗ bigSep Finset.univ fun ck : Dev nD × CK => reached ER (kcell ck) 0)

/-- The invariants may be used any number of times. -/
instance records_persistent (K : Dev nD × CK → ℕ) : BI.Persistent (records (F := F) m ρ K) := by unfold records; infer_instance

/-- The records hold every cell's invariant. -/
theorem inv_at (K : Dev nD × CK → ℕ) (ck : Dev nD × CK) : records m ρ K ⊢ (cellInv ER (rd m ρ) (K ck) (kcell ck) : sProp 𝕄) :=
  sep_elim_left.trans (bigSep_elim (Finset.mem_univ ck))
/-- The records say of every cell that it stands at the first round at least. -/
theorem reached_at (K : Dev nD × CK → ℕ) (ck : Dev nD × CK) : records m ρ K ⊢ (reached ER (kcell ck) 0 : sProp 𝕄) :=
  sep_elim_right.trans (bigSep_elim (Finset.mem_univ ck))

/-! ## Copies of column blocks -/

section
variable (c : Dev nD)

/-- The copy of column block `b` into slot `k`, under way. -/
def flW (k : Fin 8) (b : Dev nD) : sProp 𝕄 :=
  Transfers.Flight EC (c : Thread nD τ) (.dma (cpS k)) () (wtV k).view.dmaCredit iprop(has c (wtV k) (wAt m ρ c b) ∗ has c (wV b) (wAt m ρ c b))

/-- Slot `k` idle: its contents, and its semaphore at zero. -/
def idleW (k : Fin 8) : sProp 𝕄 := iprop(free c (wtV k) ∗ semVal ((c : Thread nD τ), .dma (cpS k)) 0)

/-- A fetch starts the copy of a column block into an idle slot. -/
theorem run_fetch (k : Fin 8) (o : Fin 2 → Nat) {b : Dev nD} (h : o = ![0, 128 * b.val]) (Q : PUnit → sProp 𝕄) :
    iprop(has c (wV b) (wAt m ρ c b) ∗ idleW c k) ⊢ iprop((flW m ρ c k b -∗ Q ⟨⟩) -∗ runs c (fetch k o h) Q) := by
  subst h
  unfold flW idleW fetch
  exact run_copy c (by decide) (wAt m ρ c b) Q

/-- The wait for a fetch gives the slot at the column block, and the block back. -/
theorem run_fetched (k : Fin 8) (o : Fin 2 → Nat) {b : Dev nD} (h : o = ![0, 128 * b.val]) {O : CellTallies nD τ sig Unit} (hO : Above 0 O) (Q : PUnit → sProp 𝕄) :
    iprop(flW m ρ c k b ∗ ow c O ∗ levAts L lv)
      ⊢ iprop((iprop(has c (wtV k) (wAt m ρ c b) ∗ has c (wV b) (wAt m ρ c b) ∗ semVal ((c : Thread nD τ), .dma (cpS k)) 0 ∗ ow c O) -∗ Q ⟨⟩)
        -∗ runs c (fetched k o h) Q) := by
  subst h
  unfold flW fetched
  iintro ⟨HF, HO, Hl⟩ HQ
  iapply (run_wait c rfl _ O Q) $$ [HF HO Hl]
  · isplitl [HF]; · iexact HF
    isplitl [HO]; · iexact HO
    iapply (mayWait_low c (cpS k) (by have := cpS_val k; have := k.isLt; omega) hO); iexact Hl
  iintro ⟨⟨H1, H2⟩, H3, H4⟩
  iapply HQ
  isplitl [H1]; · iexact H1
  isplitl [H2]; · iexact H2
  isplitl [H3] <;> iassumption

/-! ## The product -/

/-- A whole buffer, as its piece at zero offsets. -/
theorem has_full (b : Ref sig .tc) {off : Fin b.ty.shape.rank → Nat} (h : off = fun _ => 0) (inb : ∀ a, off a + b.ty.shape.size a ≤ b.ty.shape.size a)
    (X : b.ty.shape.Idx → Elt F b.ty.elt) :
    (has c ((Memref.whole b).slice (Rect.unit off b.ty.shape.size inb) (fun _ => rfl)) X : sProp 𝕄) = has c (Memref.whole b) X := by
  have hs : ((Memref.whole b).slice (Rect.unit off b.ty.shape.size inb) (fun _ => rfl) : Memref sig .tc _ _ _).view.set = (Memref.whole b : Memref sig .tc _ _ _).view.set := by
    refine Eq.trans (b := Finset.univ) ?_ (View.set_whole b).symm
    show ((View.whole b).slice (Rect.unit off b.ty.shape.size inb)).set = _
    rw [View.set_slice_whole]
    exact Finset.eq_univ_of_forall fun i => View.mem_set_unit_zero h inb i
  have hr : ∀ f : b.ty.Contents (Elt F), ((Memref.whole b).slice (Rect.unit off b.ty.shape.size inb) (fun _ => rfl) : Memref sig .tc _ _ _).view.read (Elt F) f = f :=
    fun f => Memref.read_access_unit_zero (Elt F) b h inb f
  unfold has owns
  refine both ?_ ?_
  · iintro ⟨%f, %hf, H⟩
    iexists f
    isplitr; · ipureintro; exact (hr f).symm.trans hf
    iapply (Entails.of_eq (congrArg (fun S => ((Memref.whole b : Memref sig .tc _ _ _).view.loc (c : Thread nD τ) ↦[S]{fullShare} f : sProp 𝕄)) hs)) $$ H
  · iintro ⟨%f, %hf, H⟩
    iexists f
    isplitr; · ipureintro; exact (hr f).trans hf
    iapply (Entails.of_eq (congrArg (fun S => ((Memref.whole b : Memref sig .tc _ _ _).view.loc (c : Thread nD τ) ↦[S]{fullShare} f : sProp 𝕄)) hs.symm)) $$ H

/-- A column block without its leading dimension has as many elements. -/
theorem casts4096 : S1x4096x128.ShapeCasts S4096x128 := by decide
/-- A column block with its leading dimension has as many elements. -/
theorem casts4096' : S4096x128.ShapeCasts S1x4096x128 := by decide
/-- A tile without its leading dimension has as many elements. -/
theorem casts256 : S1x256x128.ShapeCasts S256x128 := by decide
/-- A tile with its leading dimension has as many elements. -/
theorem casts256' : S256x128.ShapeCasts S1x256x128 := by decide
/-- Two zeros are the zero offset. -/
theorem zero2 : (![0, 0] : Fin 2 → Nat) = fun _ => 0 := funext fun a => by fin_cases a <;> rfl

/-- The buffer for the narrow left operand, as the kernel names it. -/
abbrev xbP : Memref sig .tc .vmem S256x4096 .fp8e4m3 := xbM.slice rX (fun _ => rfl)
/-- The buffer for the narrow right operand, as the kernel names it. -/
abbrev wbP : Memref sig .tc .vmem S4096x128 .fp8e4m3 := wbM.slice rWb (fun _ => rfl)

/-- The device's rows are cast and kept. -/
theorem run_keepX (Q : PUnit → sProp 𝕄) : iprop(has c xM (xAt m ρ c) ∗ free c xbP)
    ⊢ iprop((iprop(has c xM (xAt m ρ c) ∗ has c xbP (k0_pay1 (xAt m ρ c))) -∗ Q ⟨⟩) -∗ runs c keepX Q) := by
  rw [← has_full c cc0_stg0_0 zero2 inb_S256x4096_S256x4096_0_0 (xAt m ρ c)]
  unfold keepX free
  iintro ⟨Hx, %Y, Hb⟩ HQ
  iapply (runs_bind c)
  iapply (run_load c (m := xM) (r := rX) (fun _ => rfl) (xAt m ρ c)) $$ Hx
  iintro Hx
  iapply (runs_bind c)
  iapply (run_load c (m := xbM) (r := rX) (fun _ => rfl) Y) $$ Hb
  iintro Hb
  iapply (run_store c (m := xbM) (r := rX) (fun _ => rfl) (k0_pay1 (xAt m ρ c))) $$ [Hb]
  · iapply (has_free c) $$ Hb
  iintro Hb
  iapply HQ
  isplitl [Hx] <;> iassumption

/-- The column block in a slot is cast into the right operand's buffer, and the slot is free. -/
theorem run_castW (k : Fin 8) (b : Dev nD) (Q : PUnit → sProp 𝕄) : iprop(has c (wtV k) (wAt m ρ c b) ∗ free c wbP)
    ⊢ iprop((iprop(free c (wtV k) ∗ has c wbP (wbAt m ρ c b)) -∗ Q ⟨⟩) -∗ runs c (castW k) Q) := by
  rw [has_unsqueeze c (wtM.slice (rW k) (fun _ => rfl)) squeezes_S1x4096x128_S4096x128 casts4096 casts4096',
    free_squeeze c (wtM.slice (rW k) (fun _ => rfl)) squeezes_S1x4096x128_S4096x128 casts4096 casts4096']
  unfold castW
  iintro ⟨Hw, Hb⟩ HQ
  iapply (runs_bind c)
  iapply (run_load c (m := wtM) (r := rW k) (fun _ => rfl) (shapeCast (rW k).shape (wAt m ρ c b) casts4096')) $$ Hw
  iintro Hw
  unfold free
  icases Hb with ⟨%Y, Hb⟩
  iapply (runs_bind c)
  iapply (run_load c (m := wbM) (r := rWb) (fun _ => rfl) Y) $$ Hb
  iintro Hb
  iapply (run_store c (m := wbM) (r := rWb) (fun _ => rfl) (wbAt m ρ c b)) $$ [Hb]
  · iapply (has_free c) $$ Hb
  iintro Hb
  iapply HQ
  isplitl [Hw]
  · iexists _; iexact Hw
  · iexact Hb

/-- The product of the two narrow operands, scaled and cut at zero. -/
theorem run_dotW (sc : F .f32) (x : FVec F S256x4096 .fp8e4m3) (w : FVec F S4096x128 .fp8e4m3) (Q : FVec F S256x128 .f32 → sProp 𝕄) :
    iprop(has c xbP x ∗ has c wbP w) ⊢ iprop((iprop(has c xbP x ∗ has c wbP w) -∗ Q (k0_pay10 sc x w)) -∗ runs c (dotW sc) Q) := by
  unfold dotW
  iintro ⟨Hx, Hw⟩ HQ
  iapply (runs_bind c)
  iapply (run_load c (m := xbM) (r := rX) (fun _ => rfl) x) $$ Hx
  iintro Hx
  iapply (runs_bind c)
  iapply (run_load c (m := wbM) (r := rWb) (fun _ => rfl) w) $$ Hw
  iintro Hw
  iapply (runs_pure c)
  iapply HQ
  isplitl [Hx] <;> iassumption

/-- A free piece is held at some contents. -/
theorem free_has {sp : Space} {s : Shape} {e : EltTy} {mr : Memref sig .tc sp s e} : (free c mr : sProp 𝕄) ⊢ iprop(∃ X, has c mr X) := Entails.of_eq rfl

/-- One zero is the zero offset. -/
theorem zero1 : (![0] : Fin 1 → Nat) = fun _ => 0 := funext fun a => by fin_cases a; rfl

/-- The two scales are read and multiplied. -/
theorem run_scale (Q : F .f32 → sProp 𝕄) : iprop(has c sxM (sxAt m ρ c) ∗ has c swM (swAt m ρ c))
    ⊢ iprop((iprop(has c sxM (sxAt m ρ c) ∗ has c swM (swAt m ρ c)) -∗ Q (scAt m ρ c)) -∗ runs c scale Q) := by
  rw [← has_full c cc0_stg1_0 zero1 inb_S1_S1_0 (sxAt m ρ c), ← has_full c cc0_stg2_0 zero1 inb_S1_S1_0 (swAt m ρ c)]
  unfold scale
  iintro ⟨Hx, Hw⟩ HQ
  iapply (runs_bind c)
  iapply (runs_bind c (p := Prog.lift (.load sxM (Rect.unit (s := S1) ![0] S1.size inb_S1_S1_0).toLoadRect _)) (k := fun f => .ret (f _)))
  iapply (run_load c (m := sxM) (r := Rect.unit (s := S1) ![0] S1.size inb_S1_S1_0) (fun _ => rfl) (sxAt m ρ c)) $$ Hx
  iintro Hx
  iapply (runs_ret c)
  iapply (runs_bind c)
  iapply (runs_bind c (p := Prog.lift (.load swM (Rect.unit (s := S1) ![0] S1.size inb_S1_S1_0).toLoadRect _)) (k := fun f => .ret (f _)))
  iapply (run_load c (m := swM) (r := Rect.unit (s := S1) ![0] S1.size inb_S1_S1_0) (fun _ => rfl) (swAt m ρ c)) $$ Hw
  iintro Hw
  iapply (runs_ret c)
  iapply (runs_pure c)
  unfold scAt
  iapply HQ
  isplitl [Hx] <;> iassumption

/-! ## Staged results -/

/-- The copy of slot `k` out to rows `b` of the result, under way. -/
def flG (k : Fin 4) (b : Dev nD) : sProp 𝕄 :=
  Transfers.Flight EC (c : Thread nD τ) (.dma (sgS k)) () (oV b).view.dmaCredit iprop(has c (oV b) (res m ρ c b) ∗ has c (sgV k) (res m ρ c b))

/-- Slot `k` of the staged results idle. -/
def idleG (k : Fin 4) : sProp 𝕄 := iprop(free c (sgV k) ∗ semVal ((c : Thread nD τ), .dma (sgS k)) 0)

/-- A tile is stored in a staging slot. -/
theorem run_stage (k : Fin 4) (v : FVec F S1x256x128 .f32) (Q : PUnit → sProp 𝕄) :
    (free c (sgV k) : sProp 𝕄) ⊢ iprop((has c (sgV k) (shapeCast S256x128 v casts256) -∗ Q ⟨⟩) -∗ runs c (stage k v) Q) := by
  rw [has_squeeze c (sgM.slice (rG k) (fun _ => rfl)) squeezes_S1x256x128_S256x128 casts256 casts256',
    free_squeeze c (sgM.slice (rG k) (fun _ => rfl)) squeezes_S1x256x128_S256x128 casts256 casts256']
  unfold stage
  iintro Hs HQ
  ihave Hs1 := (free_has c) $$ Hs
  icases Hs1 with ⟨%Y, Hs⟩
  iapply (runs_bind c)
  iapply (run_load c (m := sgM) (r := rG k) (fun _ => rfl) Y) $$ Hs
  iintro Hs
  iapply (run_store c (m := sgM) (r := rG k) (fun _ => rfl) v) $$ [Hs]
  · iapply (has_free c) $$ Hs
  iexact HQ

/-- A result staged in slot `k` and started out to rows `b`. -/
theorem run_out (k : Fin 4) (v : FVec F S1x256x128 .f32) {o : Fin 2 → Nat} {b : Dev nD} (h : o = ![256 * b.val, 0]) (hv : shapeCast S256x128 v casts256 = res m ρ c b)
    (Q : PUnit → sProp 𝕄) :
    iprop(idleG c k ∗ free c (oV b)) ⊢ iprop((flG m ρ c k b -∗ Q ⟨⟩) -∗ runs c (stage k v >>= fun _ => putOut k o h) Q) := by
  subst h
  unfold idleG flG putOut
  iintro ⟨⟨Hs, Hv⟩, Ho⟩ HQ
  iapply (runs_bind c)
  iapply (run_stage c k v) $$ Hs
  iintro Hs
  iapply (run_copy c (src := sgV k) (dst := oV b) (sm := sgS k) (by decide) (res m ρ c b)) $$ [Hs Hv Ho]
  · isplitl [Hs]; · rw [hv]; iexact Hs
    isplitl [Ho] <;> iassumption
  iexact HQ

/-- The copies out to different rows have the same credit. -/
theorem N_out (b d : Dev nD) : (oV b).view.dmaCredit = (oV d).view.dmaCredit := rfl

/-- The wait for a copy out, through whichever rows it is named. -/
theorem run_putDone (k : Fin 4) {o : Fin 2 → Nat} {d : Dev nD} (b : Dev nD) (h : o = ![256 * d.val, 0]) (Q : PUnit → sProp 𝕄) :
    iprop(flG m ρ c k b ∗ ow c 0) ⊢ iprop((iprop(idleG c k ∗ has c (oV b) (res m ρ c b) ∗ ow c 0) -∗ Q ⟨⟩) -∗ runs c (putDone k o h) Q) := by
  subst h
  unfold flG idleG putDone
  iintro ⟨HF, HO⟩ HQ
  iapply (run_wait c (N_out d b) _ 0 Q) $$ [HF HO]
  · isplitl [HF]; · iexact HF
    isplitl [HO]; · iexact HO
    iapply (mayWait_none c (.dma (sgS k))); iempintro
  iintro ⟨⟨H1, H2⟩, H3, H4⟩
  iapply HQ
  isplitl [H2 H3]
  · isplitl [H2]; · iapply (has_free c) $$ H2
    iexact H3
  isplitl [H1] <;> iassumption

/-- A received tile read, widened, staged and started out. -/
theorem run_widen (k : Fin 4) {o2 o : Fin 2 → Nat} {b : Dev nD} (hb : b ≠ c) (h2 : o2 = ![256 * b.val, 0]) (h : o = ![256 * b.val, 0]) (Q : PUnit → sProp 𝕄) :
    iprop(has c (rbV b) (wire m ρ b c) ∗ idleG c k ∗ free c (oV b))
      ⊢ iprop((iprop(has c (rbV b) (wire m ρ b c) ∗ flG m ρ c k b) -∗ Q ⟨⟩) -∗ runs c (widen k o2 h2 >>= fun _ => putOut k o h) Q) := by
  subst h2
  rw [show (widen k ![256 * b.val, 0] rfl >>= fun _ => putOut k o h : TP F PUnit)
    = Prog.lift (.load rbM (rR' ![256 * b.val, 0] rfl).toLoadRect (View.loadsAt_vmem h_S256x128)) >>= fun v => (stage k (k0_pay70 v) >>= fun _ => putOut k o h) from rfl]
  iintro ⟨Hr, Hk, Ho⟩ HQ
  iapply (runs_bind c)
  iapply (run_load c (m := rbM) (r := rR' ![256 * b.val, 0] rfl) (fun _ => rfl) (wire m ρ b c)) $$ Hr
  iintro Hr
  iapply (run_out m ρ c k (k0_pay70 (wire m ρ b c)) h (by unfold res; rw [if_neg hb])) $$ [Hk Ho]
  · isplitl [Hk] <;> iassumption
  iintro HF
  iapply HQ
  isplitl [Hr] <;> iassumption

/-! ## Signals -/

/-- The signal to device `b`: with it goes the landing area for `b`'s tile. -/
theorem run_sig (K : Dev nD × CK → ℕ) {q b : Dev nD} (hq : q = b) (hb : b ≠ c) (O : CellTallies nD τ sig Unit) (Q : PUnit → sProp 𝕄) :
    iprop(records m ρ K ∗ ow c (O + tallyAt (barCell b) () 1) ∗ dutyTok ER (barCell b) 0 c ∗ free c (rbV b))
      ⊢ iprop((ow c O -∗ Q ⟨⟩) -∗ runs c (sigTo q) Q) := by
  subst hq
  unfold sigTo semSignalWord ow
  iintro ⟨#HR, ⟨%W, HO⟩, Ht, Hf⟩ HQ
  iapply (Rounds.wp_signal 𝒱₀ ER (rd m ρ) (c : Thread nD τ) none (dst := (q : Thread nD τ)) (κ := K (q, none))
      (d := c) (by rw [duties_bar]; exact Finset.mem_erase.mpr ⟨hb.symm, Finset.mem_univ _⟩) ((amount_bar m ρ q c).trans (by decide)) () O rfl) $$ [HO Ht Hf]
  · isplitr; · iapply (inv_at m ρ K (q, none)); iexact HR
    isplitl [HO]; · iexact HO
    isplitl [Ht]; · iexact Ht
    isplitl [Hf]
    · rw [payload_bar]; unfold barPay
      isplitl [Hf]; · iexact Hf
      iapply (reached_at m ρ K (c, some (true, q))); iexact HR
    · iapply (reached_at m ρ K (q, none)); iexact HR
  iintro HO
  iapply (runs_ret c)
  iapply HQ
  iexists W; iexact HO

/-- The wait for every other device's signal. -/
theorem run_all_here (K : Dev nD × CK → ℕ) {O : CellTallies nD τ sig Unit} (hO : Above 1 O) (Q : PUnit → sProp 𝕄) :
    iprop(records m ρ K ∗ levAts L lv ∗ cred (tallyAt (barCell c) () 15) ∗ ow c O ∗ atPos ER (barCell c) 0 ∅ 0)
      ⊢ iprop((iprop(ow c O ∗ atPos ER (barCell c) (0 + 1) ∅ 0 ∗ bigSep (Finset.univ.erase c) (barPay (F := F) c)) -∗ Q ⟨⟩) -∗ runs c (semWaitWord barS 15#32) Q) := by
  unfold semWaitWord ow
  iintro ⟨#HR, #Hl, Hc, ⟨%W, HO⟩, Ha⟩ HQ
  iapply (Rounds.wp_wait_rest_token 𝒱₀ ER (rd m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Ha]
  · isplitr; · iapply (inv_at m ρ K (c, none)); iexact HR
    isplitl [Hc]; · iexact Hc
    isplitl [HO]; · iexact HO
    isplitr; · iapply (mayWait c (.reg barS) 1 (le_of_eq (lv_bar c)) hO); iexact Hl
    iexact Ha
  iintro ⟨HO, Ha, -, Hp⟩
  ihave Hp' := (Entails.of_eq (rest_bar m ρ c)) $$ Hp
  iapply (runs_ret c)
  iapply HQ
  isplitl [HO]; · iexists _; iexact HO
  isplitl [Ha]; · iexact Ha
  iexact Hp'

/-! ## Sending -/

/-- A remote copy, its source and its target held: the source comes back with the send semaphore, the target goes to the receiver. -/
theorem run_push {sp sp' : Space} {s : Shape} {e : EltTy} {src : Memref sig .tc sp s e} {dst : Memref sig .tc sp' s e} {sS sR : DmaSem sig} (b : Dev nD) {hsc : dst.view.ref.isScScratch = false}
    {hsrc : src.view.WordExact} {hdst : dst.view.WordExact} {hsem : DmaTarget.Typed (nD := nD) (τ := τ) (p := .tc) sp (.dma sR) (.remote (Dev.tc b) dst (.dma sS) hsc)}
    {Rd : Rounds.Schedule (GSem nD τ sig) (Dev nD) 𝕄} {κ₁ κ₂ : ℕ}
    (hd₁ : Rd.duties ((c : Thread nD τ), .dma sS) 0 = {0}) (hd₂ : Rd.duties ((b : Thread nD τ), .dma sR) 0 = {0}) {n : ℕ} (hn : dst.view.dmaCredit = n)
    (hk₁ : Rd.amount ((c : Thread nD τ), .dma sS) 0 0 = n) (hk₂ : Rd.amount ((b : Thread nD τ), .dma sR) 0 0 = n)
    (X : s.Idx → Elt F e) (hp₁ : Rd.payload ((c : Thread nD τ), .dma sS) 0 0 = free c src) (hp₂ : Rd.payload ((b : Thread nD τ), .dma sR) 0 0 = has b dst X)
    (O : CellTallies nD τ sig Unit) (Q : PUnit → sProp 𝕄) :
    iprop(cellInv ER Rd κ₁ ((c : Thread nD τ), .dma sS) ∗ cellInv ER Rd κ₂ ((b : Thread nD τ), .dma sR) ∗ has c src X ∗ free b dst
        ∗ ow c (O + tallyAt ((b : Thread nD τ), .dma sR) () n)
        ∗ dutyTok ER ((c : Thread nD τ), .dma sS) 0 0 ∗ reached ER ((c : Thread nD τ), .dma sS) 0
        ∗ dutyTok ER ((b : Thread nD τ), .dma sR) 0 0 ∗ reached ER ((b : Thread nD τ), .dma sR) 0)
      ⊢ iprop((iprop(cred (tallyAt ((c : Thread nD τ), .dma sS) () n) ∗ ow c O) -∗ Q ⟨⟩)
        -∗ runs c (Prog.lift (.enqueueDma src (.remote (Dev.tc b) dst (.dma sS) hsc) (.dma sR) hsrc hdst hsem)) Q) := by
  unfold free has owns ow at *
  iintro ⟨HI1, HI2, ⟨%f, %hf, Hs⟩, ⟨%Z, %g, %hg, Hr⟩, ⟨%W, HO⟩, Ht1, Hr1, Ht2, Hr2⟩ HQ
  iapply (Rounds.wp_send_pointsTo 𝒱₀ ER Rd (c : Thread nD τ) none (c' := (b : Thread nD τ)) (src := src) (dst := dst) (sS := .dma sS) (sem := .dma sR) (κ₁ := κ₁) (κ₂ := κ₂)
    (r₁ := 0) (r₂ := 0) (d₁ := 0) (d₂ := 0) (fs := f) (fd := g) (q := fullShare)
    (by rw [hd₁]; exact Finset.mem_singleton_self _) (by rw [hd₂]; exact Finset.mem_singleton_self _)
    () () n hn hk₁ hk₂ O rfl (W := W)
    (by
      rw [hp₁]
      iintro H; iexists _; iexists f; isplitr; · (ipureintro; rfl)
      iexact H)
    (by
      rw [hp₂]
      iintro H; iexists _
      isplitr; · (ipureintro; exact (View.read_write_univ g _).trans hf)
      iexact H)) $$ [HI1 HI2 Hs Hr HO Ht1 Hr1 Ht2 Hr2]
  · isplitl [HI1]; · iexact HI1
    isplitl [HI2]; · iexact HI2
    isplitl [Hs]; · iexact Hs
    isplitl [Hr]; · iexact Hr
    isplitl [HO]; · iexact HO
    isplitl [Ht1]; · iexact Ht1
    isplitl [Hr1]; · iexact Hr1
    isplitl [Ht2]; · iexact Ht2
    iexact Hr2
  iintro ⟨Hc, HO⟩
  iapply (runs_ret c)
  iapply HQ
  isplitl [Hc]; · iexact Hc
  iexists W; iexact HO

/-- A tile is cast, stored in its send slot and sent, which pays the debt of the tile. -/
theorem run_send (K : Dev nD × CK → ℕ) {q : Dev nD} {o3 o7 : Fin 3 → Nat} {o4 o5 : Fin 1 → Nat} {o6 : Fin 2 → Nat} {b : Dev nD} (hq : q = b) (hb : b ≠ c)
    (h3 : o3 = ![b.val, 0, 0]) (h7 : o7 = ![b.val, 0, 0]) (h4 : o4 = ![b.val]) (h5 : o5 = ![c.val]) (h6 : o6 = ![256 * c.val, 0])
    (O : CellTallies nD τ sig Unit) (Q : PUnit → sProp 𝕄) :
    iprop(records m ρ K ∗ free c (sbV b) ∗ free b (rbV c) ∗ ow c (O + tallyAt (recvCell b c) () N) ∗ dutyTok ER (sendCell c b) 0 0 ∗ dutyTok ER (recvCell b c) 0 0)
      ⊢ iprop((iprop(cred (tallyAt (sendCell c b) () N) ∗ ow c O) -∗ Q ⟨⟩) -∗ runs c (send q o3 o7 o4 o5 o6 h3 h7 h4 h5 h6 (tile m ρ c b)) Q) := by
  subst hq h3 h7 h4 h5 h6
  rw [free_squeeze c (sbM.slice (rB' ![q.val, 0, 0] rfl) (fun _ => rfl)) squeezes_S1x256x128_S256x128 casts256 casts256']
  unfold send
  iintro ⟨#HR, Hs, Hr, HO, Ht1, Ht2⟩ HQ
  ihave Hs1 := (free_has c) $$ Hs
  icases Hs1 with ⟨%Y, Hs⟩
  iapply (runs_bind c)
  iapply (run_load c (m := sbM) (r := rB' ![q.val, 0, 0] rfl) (fun _ => rfl) Y) $$ Hs
  iintro Hs
  iapply (runs_bind c)
  iapply (run_store c (m := sbM) (r := rB' ![q.val, 0, 0] rfl) (fun _ => rfl) (k0_pay12 (tile m ρ c q))) $$ [Hs]
  · iapply (has_free c) $$ Hs
  iintro Hs
  ihave Hs' := (Entails.of_eq (has_squeeze c (sbM.slice (rB' ![q.val, 0, 0] rfl) (fun _ => rfl)) squeezes_S1x256x128_S256x128 casts256 casts256' (k0_pay12 (tile m ρ c q))).symm) $$ Hs
  iapply (run_push c (src := sbV q) (dst := rbV c) (sS := snS q) (sR := rcS c) q (Rd := rd m ρ) (κ₁ := K (c, some (false, q))) (κ₂ := K (q, some (true, c)))
    (duties_send m ρ c q hb) (duties_recv m ρ q c hb.symm) (N_recv c) (amount_send m ρ c q 0) (amount_recv m ρ q c 0) (wire m ρ c q)
    (payload_send m ρ c q 0) (payload_recv m ρ q c 0) O) $$ [Hs' Hr HO Ht1 Ht2] [HQ]
  · isplitr; · iapply (inv_at m ρ K (c, some (false, q))); iexact HR
    isplitr; · iapply (inv_at m ρ K (q, some (true, c))); iexact HR
    isplitl [Hs']; · iexact Hs'
    isplitl [Hr]; · iexact Hr
    isplitl [HO]; · iexact HO
    isplitl [Ht1]; · iexact Ht1
    isplitr; · iapply (reached_at m ρ K (c, some (false, q))); iexact HR
    isplitl [Ht2]; · iexact Ht2
    iapply (reached_at m ρ K (q, some (true, c))); iexact HR
  iexact HQ

/-- The wait for device `b`'s tile. -/
theorem run_arrived (K : Dev nD × CK → ℕ) {o1 : Fin 1 → Nat} {o2 : Fin 2 → Nat} {o3 : Fin 3 → Nat} {b : Dev nD} (hb : b ≠ c) (h1 : o1 = ![b.val]) (h2 : o2 = ![256 * b.val, 0])
    (h3 : o3 = ![b.val, 0, 0]) (Q : PUnit → sProp 𝕄) :
    iprop(records m ρ K ∗ cred (tallyAt (recvCell c b) () N) ∗ ow c 0 ∗ atPos ER (recvCell c b) 0 ∅ 0)
      ⊢ iprop((iprop(ow c 0 ∗ atPos ER (recvCell c b) (0 + 1) ∅ 0 ∗ has c (rbV b) (wire m ρ b c)) -∗ Q ⟨⟩) -∗ runs c (arrived o1 o2 o3 h1 h2 h3) Q) := by
  subst h1 h2 h3
  unfold arrived ow
  iintro ⟨#HR, Hc, ⟨%W, HO⟩, Ha⟩ HQ
  iapply (Rounds.wp_wait_rest_token 𝒱₀ ER (rd m ρ) (c : Thread nD τ) none (κ := K (c, some (true, b)))
      (wpE_waitDma2_eq 𝒱₀ (c : Thread nD τ) none Set.univ) (Set.mem_univ _) () (O := 0) (W := W) (R := 0) (m := 0) (T := ∅)
      (by rw [Nat.zero_add, expect_recv m ρ c b hb])) $$ [Hc HO Ha]
  · isplitr; · iapply (inv_at m ρ K (c, some (true, b))); iexact HR
    isplitl [Hc]; · iexact Hc
    isplitl [HO]; · iexact HO
    isplitr; · rw [MayWait_zero]; iempintro
    iexact Ha
  iintro ⟨HO, Ha, -, Hp⟩
  ihave Hp' := (Entails.of_eq ((rest_recv m ρ c b hb).trans (show recvPay m ρ c b = has c (rbV b) (wire m ρ b c) from rfl))) $$ Hp
  iapply (runs_ret c)
  iapply HQ
  isplitl [HO]; · iexists _; iexact HO
  isplitl [Ha]; · iexact Ha
  iexact Hp'

/-- The wait for the copy of the tile sent to device `b`. -/
theorem run_sent (K : Dev nD × CK → ℕ) {o1 : Fin 1 → Nat} {o2 : Fin 2 → Nat} {o3 : Fin 3 → Nat} {b d : Dev nD} (hb : b ≠ c) (h1 : o1 = ![b.val]) (h2 : o2 = ![256 * d.val, 0])
    (h3 : o3 = ![b.val, 0, 0]) (Q : PUnit → sProp 𝕄) :
    iprop(records m ρ K ∗ cred (tallyAt (sendCell c b) () N) ∗ ow c 0 ∗ atPos ER (sendCell c b) 0 ∅ 0)
      ⊢ iprop((iprop(ow c 0 ∗ atPos ER (sendCell c b) (0 + 1) ∅ 0 ∗ free c (sbV b)) -∗ Q ⟨⟩) -∗ runs c (sent o1 o2 o3 h1 h2 h3) Q) := by
  subst h1 h2 h3
  unfold sent ow
  iintro ⟨#HR, Hc, ⟨%W, HO⟩, Ha⟩ HQ
  iapply (Rounds.wp_wait_rest_token 𝒱₀ ER (rd m ρ) (c : Thread nD τ) none (κ := K (c, some (false, b)))
      (wpE_waitDma2_eq 𝒱₀ (c : Thread nD τ) none Set.univ) (Set.mem_univ _) () (O := 0) (W := W) (R := 0) (m := 0) (T := ∅)
      (by rw [Nat.zero_add, expect_send m ρ c b hb])) $$ [Hc HO Ha]
  · isplitr; · iapply (inv_at m ρ K (c, some (false, b))); iexact HR
    isplitl [Hc]; · iexact Hc
    isplitl [HO]; · iexact HO
    isplitr; · rw [MayWait_zero]; iempintro
    iexact Ha
  iintro ⟨HO, Ha, -, Hp⟩
  ihave Hp' := (Entails.of_eq ((rest_send m ρ c b hb).trans (show sendPay c b = free c (sbV b) from rfl))) $$ Hp
  iapply (runs_ret c)
  iapply HQ
  isplitl [HO]; · iexists _; iexact HO
  isplitl [Ha]; · iexact Ha
  iexact Hp'

end

end Cert.KernelIdeal.Run

end
-- ==== Proof.Phases.lean ====
module

public import proofs.«01_k».proof.Proof.Steps

@[expose] public section

noncomputable section

/-! # The phases of the body -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD) (K : Dev nD × CK → ℕ)

/-! ## Places -/

/-- The place 0 after a device is the device. -/
theorem place_zero : ∀ c : Dev nD, place c 0 = c := by decide +kernel
/-- Every other place after a device is another device. -/
theorem place_ne : ∀ (c : Dev nD) (p : Fin 16), p ≠ 0 → place c p ≠ c := by decide +kernel

/-- The places of the other devices. -/
abbrev others : Finset (Fin 16) := Finset.univ.erase 0

/-! ## Signals -/

/-- What goes with the signal to the device `p` places after. -/
def sigRes (p : Fin 16) : sProp 𝕄 := iprop(⌜p ≠ 0⌝ ∗ dutyTok ER (barCell (place c p)) 0 c ∗ free c (rbV (place c p)))

/-- The fifteen signals: each pays its unit and hands over the landing rows, and afterwards only the tiles are owed. -/
theorem run_signals (Q : sProp 𝕄) : iprop(records m ρ K ∗ ow c (O₀ c) ∗ all (sigRes c) offs)
    ⊢ iprop((ow c (owR c sends) -∗ Q) -∗ runs c (each (fun p => sigTo (F := F) (peer c p)) offs) (fun _ => Q)) := by
  iintro ⟨#HR, HO, HA⟩ HQ
  iapply (each_run c (fun p => sigTo (F := F) (peer c p)) (fun l => iprop(records m ρ K ∗ ow c (owA c l))) (sigRes c) (fun _ => iprop(emp)) ?_ offs [] Q) $$ [HO HA]
  · intro p l Q
    unfold sigRes
    iintro ⟨⟨#HR, HO⟩, %hp, Ht, Hf⟩ HQ
    iapply (run_sig m ρ c K (peer_eq c p) (place_ne c p hp) (owA c l) (fun _ => Q)) $$ [HO Ht Hf]
    · isplitr; · iexact HR
      isplitl [HO]; · iexact HO
      isplitl [Ht] <;> iassumption
    iintro HO
    iapply HQ
    isplitl [HO]
    · isplitr; · iexact HR
      iexact HO
    iempintro
  · isplitl [HO]
    · isplitr; · iexact HR
      iexact HO
    iexact HA
  iintro ⟨⟨-, HO⟩, -⟩
  iapply HQ
  iexact HO

/-! ## Fetches -/

/-- The column block `p` places after, where the device holds it. -/
def wRes (p : Fin 16) : sProp 𝕄 := has c (wV (place c p)) (wAt m ρ c (place c p))

/-- A fetch of the block `p` places after: it is under way. -/
theorem run_fetchAt (k : Fin 8) (p : Fin 16) (Q : PUnit → sProp 𝕄) :
    iprop(wRes m ρ c p ∗ idleW c k) ⊢ iprop((flW m ρ c k (place c p) -∗ Q ⟨⟩) -∗ runs c (fetchAt c k p) Q) :=
  run_fetch m ρ c k _ (colW_eq c p) Q

/-- Slot and place of a fetch: before it, and after. -/
def fetchA (a : Fin 8 × Fin 16) : sProp 𝕄 := iprop(wRes m ρ c a.2 ∗ idleW c a.1)
/-- What a fetch leaves: the copy under way. -/
def fetchB (a : Fin 8 × Fin 16) : sProp 𝕄 := flW m ρ c a.1 (place c a.2)

/-- The seven fetches that fill the window. -/
theorem run_early (Q : sProp 𝕄) : all (fetchA m ρ c) early
    ⊢ iprop((all (fetchB m ρ c) early -∗ Q) -∗ runs c (each (fun a => fetchAt (F := F) c a.1 a.2) early) (fun _ => Q)) := by
  iintro HA HQ
  iapply (each_run c (fun a : Fin 8 × Fin 16 => fetchAt (F := F) c a.1 a.2) (fun _ => iprop(emp)) (fetchA m ρ c) (fetchB m ρ c) ?_ early [] Q) $$ [HA]
  · intro a l Q
    unfold fetchA fetchB
    iintro ⟨-, HA⟩ HQ
    iapply (run_fetchAt m ρ c a.1 a.2 (fun _ => Q)) $$ HA
    iintro HB
    iapply HQ
    isplitr; · iempintro
    iexact HB
  · isplitr; · iempintro
    iexact HA
  iintro ⟨-, HB⟩
  iapply HQ
  iexact HB

/-! ## Tiles -/

/-- What a slot is refilled from. -/
def refill : Option (Fin 16) → sProp 𝕄
  | some r => wRes m ρ c r
  | none => iprop(emp)
/-- The slot after it was refilled, or not. -/
def slotW (k : Fin 8) : Option (Fin 16) → sProp 𝕄
  | some r => flW m ρ c k (place c r)
  | none => idleW c k

/-- The step that refills a slot, where there is a block to refill it from. -/
def refillAt (k : Fin 8) : Option (Fin 16) → TP F PUnit
  | some r => fetchAt c k r
  | none => pure ⟨⟩

/-- The refill of a slot: the next copy is under way, or the slot stays idle. -/
theorem run_refillAt (k : Fin 8) (r : Option (Fin 16)) (Q : PUnit → sProp 𝕄) :
    iprop(refill m ρ c r ∗ idleW c k) ⊢ iprop((slotW m ρ c k r -∗ Q ⟨⟩) -∗ runs c (refillAt c k r) Q) := by
  cases r with
  | some r => exact run_fetchAt m ρ c k r Q
  | none =>
    unfold refillAt refill slotW
    iintro ⟨-, H⟩ HQ
    iapply (runs_pure c)
    iapply HQ; iexact H

/-- A tile's steps one after another: wait, cast, refill, multiply, and put out or send. -/
theorem tileAt_eq (sc : F .f32) (k : Fin 8) (p : Fin 16) (r : Option (Fin 16)) : tileAt c sc k p r
    = fetchedAt c k p >>= fun _ => castW k >>= fun _ => refillAt c k r >>= fun _ => dotW sc >>= fun v => match p with | 0 => ownAt c v | _ => sendAt c p v := by
  unfold tileAt refillAt
  cases r <;> rfl

/-- What every tile works in: the left operand, the right operand's buffer, and the debt of the tiles still to be sent. -/
def work (l : List (Fin 16)) : sProp 𝕄 := iprop(has c xbP (k0_pay1 (xAt m ρ c)) ∗ free c wbP ∗ ow c (owR c l))

/-- The fetch awaited, the tile computed, the slot refilled. -/
theorem run_tile (l : List (Fin 16)) (k : Fin 8) (p : Fin 16) (r : Option (Fin 16)) (cont : FVec F S256x128 .f32 → TP F PUnit) (Q : PUnit → sProp 𝕄) :
    iprop(levAts L lv ∗ work m ρ c l ∗ flW m ρ c k (place c p) ∗ refill m ρ c r)
      ⊢ iprop((iprop(work m ρ c l ∗ slotW m ρ c k r ∗ wRes m ρ c p) -∗ runs c (cont (tile m ρ c (place c p))) Q)
        -∗ runs c (fetchedAt c k p >>= fun _ => castW k >>= fun _ => refillAt c k r >>= fun _ => dotW (scAt m ρ c) >>= cont) Q) := by
  unfold work
  iintro ⟨Hl, ⟨Hx, Hw, HO⟩, HF, Hr⟩ HQ
  iapply (runs_bind c)
  iapply (run_fetched m ρ c k _ (colW_eq c p) ((above_owR c l).le (by decide))) $$ [HF HO Hl]
  · isplitl [HF]; · iexact HF
    isplitl [HO] <;> iassumption
  iintro ⟨Ht, Hb, Hv, HO⟩
  iapply (runs_bind c)
  iapply (run_castW m ρ c k (place c p)) $$ [Ht Hw]
  · isplitl [Ht] <;> iassumption
  iintro ⟨Ht, Hw⟩
  iapply (runs_bind c)
  iapply (run_refillAt m ρ c k r) $$ [Hr Ht Hv]
  · isplitl [Hr]; · iexact Hr
    unfold idleW
    isplitl [Ht] <;> iassumption
  iintro Hs
  iapply (runs_bind c)
  iapply (run_dotW c (scAt m ρ c) (k0_pay1 (xAt m ρ c)) (wbAt m ρ c (place c p))) $$ [Hx Hw]
  · isplitl [Hx] <;> iassumption
  iintro ⟨Hx, Hw⟩
  iapply HQ
  isplitl [Hx Hw HO]
  · isplitl [Hx]; · iexact Hx
    isplitl [Hw]; · iapply (has_free c) $$ Hw
    iexact HO
  isplitl [Hs]; · iexact Hs
  unfold wRes; iexact Hb

/-- What sending to the device `p` places after takes. -/
def sendRes (p : Fin 16) : sProp 𝕄 :=
  iprop(free (place c p) (rbV c) ∗ free c (sbV (place c p)) ∗ dutyTok ER (sendCell c (place c p)) 0 0 ∗ dutyTok ER (recvCell (place c p) c) 0 0)
/-- What a sent tile leaves: the credit for its return. -/
def sentRes (p : Fin 16) : sProp 𝕄 := cred (tallyAt (sendCell c (place c p)) () N)

/-- What a tile for another device starts from: its block under way, its slot's refill, and what sending takes. -/
def tileA (a : Fin 8 × Fin 16 × Option (Fin 16)) : sProp 𝕄 := iprop(⌜a.2.1 ≠ 0⌝ ∗ flW m ρ c a.1 (place c a.2.1) ∗ refill m ρ c a.2.2 ∗ sendRes c a.2.1)
/-- What such a tile leaves: the slot, the block back in place, and the credit for the send. -/
def tileB (a : Fin 8 × Fin 16 × Option (Fin 16)) : sProp 𝕄 := iprop(slotW m ρ c a.1 a.2.2 ∗ wRes m ρ c a.2.1 ∗ sentRes c a.2.1)

/-- What all tiles share, with the tiles of the list still to be sent. -/
def tileI (l : List (Fin 8 × Fin 16 × Option (Fin 16))) : sProp 𝕄 := iprop(records m ρ K ∗ levAts L lv ∗ work m ρ c (l.map fun a => a.2.1))

/-- A run of tiles for other devices: all are computed and sent. -/
theorem run_tiles (l l' : List (Fin 8 × Fin 16 × Option (Fin 16))) (Q : sProp 𝕄) : iprop(tileI m ρ c K (l ++ l') ∗ all (tileA m ρ c) l)
    ⊢ iprop((iprop(tileI m ρ c K l' ∗ all (tileB m ρ c) l) -∗ Q) -∗ runs c (each (fun a => tileAt c (scAt m ρ c) a.1 a.2.1 a.2.2) l) (fun _ => Q)) := by
  refine each_run c _ (tileI m ρ c K) (tileA m ρ c) (tileB m ρ c) ?_ l l' Q
  rintro ⟨k, p, r⟩ l Q
  unfold tileI tileA tileB
  dsimp only
  rw [tileAt_eq, List.map_cons]
  iintro ⟨⟨#HR, #Hl, HW⟩, %hp, HF, Hr, Hs⟩ HQ
  iapply (run_tile m ρ c _ k p r _ (fun _ => Q)) $$ [HW HF Hr]
  · isplitr; · iexact Hl
    isplitl [HW]; · iexact HW
    isplitl [HF] <;> iassumption
  iintro ⟨HW, Hk, Hw⟩
  split
  · exact absurd rfl hp
  unfold sendRes work sendAt
  icases Hs with ⟨Hr, Hs, Ht1, Ht2⟩
  icases HW with ⟨Hx, Hb, HO⟩
  iapply (run_send m ρ c K (dest_eq c p) (place_ne c p hp) _ _ _ _ _ (owR c (l.map fun a => a.2.1))) $$ [HO Hr Hs Ht1 Ht2]
  · isplitr; · iexact HR
    isplitl [Hs]; · iexact Hs
    isplitl [Hr]; · iexact Hr
    isplitl [HO]; · iexact HO
    isplitl [Ht1] <;> iassumption
  iintro ⟨Hc, HO⟩
  iapply HQ
  isplitl [Hx Hb HO]
  · isplitr; · iexact HR
    isplitr; · iexact Hl
    isplitl [Hx]; · iexact Hx
    isplitl [Hb] <;> iassumption
  isplitl [Hk]; · iexact Hk
  isplitl [Hw]; · iexact Hw
  unfold sentRes; iexact Hc

/-- The last tile, the device's own. -/
theorem run_ownTile (Q : PUnit → sProp 𝕄) :
    iprop(levAts L lv ∗ work m ρ c [] ∗ flW m ρ c 7 (place c 0) ∗ idleG c 0 ∗ free c (oV c))
      ⊢ iprop((iprop(work m ρ c [] ∗ idleW c 7 ∗ wRes m ρ c 0 ∗ flG m ρ c 0 c) -∗ Q ⟨⟩) -∗ runs c (tileAt c (scAt m ρ c) 7 0 none) Q) := by
  rw [tileAt_eq]
  iintro ⟨Hl, HW, HF, Hk, Ho⟩ HQ
  iapply (run_tile m ρ c [] 7 0 none _ Q) $$ [Hl HW HF]
  · isplitl [Hl]; · iexact Hl
    isplitl [HW]; · iexact HW
    isplitl [HF]; · iexact HF
    unfold refill; iempintro
  iintro ⟨HW, Hs, Hw⟩
  unfold ownAt slotW
  iapply (run_out m ρ c 0 (k0_pay11 (tile m ρ c (place c 0))) (v2_eq (meRow_eq c)) (by unfold res; rw [if_pos rfl, place_zero])) $$ [Hk Ho]
  · isplitl [Hk] <;> iassumption
  iintro Hf
  iapply HQ
  isplitl [HW]; · iexact HW
  isplitl [Hs]; · iexact Hs
  isplitl [Hw] <;> iassumption

/-! ## Receipts -/

/-- A slot of the staged results: idle, or on its way out. -/
def slotG (k : Fin 4) : Option (Fin 16) → sProp 𝕄
  | some p => flG m ρ c k (place c p)
  | none => idleG c k
/-- The rows a slot went to. -/
def outDone : Option (Fin 16) → sProp 𝕄
  | some p => has c (oV (place c p)) (res m ρ c (place c p))
  | none => iprop(emp)

/-- What a receipt starts from: the credit of the copy that comes in, the receive cell's position, and the rows of the result. -/
def recvA (p : Fin 16) : sProp 𝕄 :=
  iprop(⌜p ≠ 0⌝ ∗ cred (tallyAt (recvCell c (place c p)) () N) ∗ atPos ER (recvCell c (place c p)) 0 ∅ 0 ∗ free c (oV (place c p)))
/-- What a receipt leaves: the receive cell past its round, and the landing rows free. -/
def recvB (p : Fin 16) : sProp 𝕄 := iprop(atPos ER (recvCell c (place c p)) (0 + 1) ∅ 0 ∗ free c (rbV (place c p)))

/-- One receipt. -/
theorem run_receive (p : Fin 16) (k : Fin 4) (o : Option (Fin 16)) (Q : PUnit → sProp 𝕄) :
    iprop(records m ρ K ∗ ow c 0 ∗ slotG m ρ c k o ∗ recvA c p)
      ⊢ iprop((iprop(ow c 0 ∗ slotG m ρ c k (some p) ∗ recvB c p ∗ outDone m ρ c o) -∗ Q ⟨⟩) -∗ runs c (receiveAt c p k o.isSome) Q) := by
  cases o with
  | none =>
    rw [show receiveAt (F := F) c p k (Option.isSome (none : Option (Fin 16))) = (arrived ![(placeW c (w32 p)).toNat] ![(Scalar.muli (placeW c (w32 p)) 256#32).toNat, 0] ![(placeW c (w32 p)).toNat, 0, 0]
        (b := place c p) (v1_eq (placeW_eq c p)) (v2_eq (rowW_eq c p)) (v3_eq (placeW_eq c p)) >>= fun _ => (widen k ![(Scalar.muli (placeW c (w32 p)) 256#32).toNat, 0] (v2_eq (rowW_eq c p))
          >>= fun _ => putOut k ![(Scalar.muli (placeW c (w32 p)) 256#32).toNat, 0] (v2_eq (rowW_eq c p)))) from rfl]
    unfold recvA recvB slotG outDone
    iintro ⟨HR, HO, Hk, %hp, Hc, Ha, Ho⟩ HQ
    iapply (runs_bind c)
    iapply (run_arrived m ρ c K (place_ne c p hp) (v1_eq (placeW_eq c p)) (v2_eq (rowW_eq c p)) (v3_eq (placeW_eq c p))) $$ [HR HO Hc Ha]
    · isplitl [HR]; · iexact HR
      isplitl [Hc]; · iexact Hc
      isplitl [HO] <;> iassumption
    iintro ⟨HO, Ha, Hr⟩
    iapply (run_widen m ρ c k (place_ne c p hp) (v2_eq (rowW_eq c p)) (v2_eq (rowW_eq c p))) $$ [Hr Hk Ho]
    · isplitl [Hr]; · iexact Hr
      isplitl [Hk] <;> iassumption
    iintro ⟨Hr, HF⟩
    iapply HQ
    isplitl [HO]; · iexact HO
    isplitl [HF]; · iexact HF
    isplitl [Ha Hr]
    · isplitl [Ha]; · iexact Ha
      iapply (has_free c) $$ Hr
    iempintro
  | some q =>
    unfold receiveAt recvA recvB slotG outDone
    iintro ⟨HR, HO, Hk, %hp, Hc, Ha, Ho⟩ HQ
    iapply (runs_bind c)
    iapply (run_arrived m ρ c K (place_ne c p hp) (v1_eq (placeW_eq c p)) (v2_eq (rowW_eq c p)) (v3_eq (placeW_eq c p))) $$ [HR HO Hc Ha]
    · isplitl [HR]; · iexact HR
      isplitl [Hc]; · iexact Hc
      isplitl [HO] <;> iassumption
    iintro ⟨HO, Ha, Hr⟩
    iapply (runs_bind c)
    iapply (run_putDone m ρ c k (place c q) (v2_eq (rowW_eq c p))) $$ [Hk HO]
    · isplitl [Hk] <;> iassumption
    iintro ⟨Hk, Hd, HO⟩
    iapply (run_widen m ρ c k (place_ne c p hp) (v2_eq (rowW_eq c p)) (v2_eq (rowW_eq c p))) $$ [Hr Hk Ho]
    · isplitl [Hr]; · iexact Hr
      isplitl [Hk] <;> iassumption
    iintro ⟨Hr, HF⟩
    iapply HQ
    isplitl [HO]; · iexact HO
    isplitl [HF]; · iexact HF
    isplitl [Ha Hr]
    · isplitl [Ha]; · iexact Ha
      iapply (has_free c) $$ Hr
    iexact Hd

/-- Slots 1 to 3. -/
def slots (o₁ o₂ o₃ : Option (Fin 16)) : sProp 𝕄 := iprop(slotG m ρ c 1 o₁ ∗ slotG m ρ c 2 o₂ ∗ slotG m ρ c 3 o₃)

/-- Three receipts, through the three slots. -/
theorem run_three (p₁ p₂ p₃ : Fin 16) (o₁ o₂ o₃ : Option (Fin 16)) (g : Bool) (h₁ : g = o₁.isSome) (h₂ : g = o₂.isSome) (h₃ : g = o₃.isSome)
    (l : List (Fin 16 × Fin 4 × Bool)) (Q : PUnit → sProp 𝕄) :
    iprop(records m ρ K ∗ ow c 0 ∗ slots m ρ c o₁ o₂ o₃ ∗ recvA c p₁ ∗ recvA c p₂ ∗ recvA c p₃)
      ⊢ iprop((iprop(ow c 0 ∗ slots m ρ c (some p₁) (some p₂) (some p₃) ∗ (recvB c p₁ ∗ recvB c p₂ ∗ recvB c p₃) ∗ outDone m ρ c o₁ ∗ outDone m ρ c o₂ ∗ outDone m ρ c o₃)
          -∗ runs c (each (fun a => receiveAt c a.1 a.2.1 a.2.2) l) Q)
        -∗ runs c (each (fun a => receiveAt c a.1 a.2.1 a.2.2) ((p₁, 1, g) :: (p₂, 2, g) :: (p₃, 3, g) :: l)) Q) := by
  unfold slots
  iintro ⟨#HR, HO, ⟨Hk1, Hk2, Hk3⟩, Ha1, Ha2, Ha3⟩ HQ
  simp only [each]
  iapply (runs_bind c)
  rw [h₁]
  iapply (run_receive m ρ c K p₁ 1 o₁) $$ [HO Hk1 Ha1]
  · isplitr; · iexact HR
    isplitl [HO]; · iexact HO
    isplitl [Hk1] <;> iassumption
  iintro ⟨HO, Hk1, Hb1, Hd1⟩
  iapply (runs_bind c)
  rw [← h₁, h₂]
  iapply (run_receive m ρ c K p₂ 2 o₂) $$ [HO Hk2 Ha2]
  · isplitr; · iexact HR
    isplitl [HO]; · iexact HO
    isplitl [Hk2] <;> iassumption
  iintro ⟨HO, Hk2, Hb2, Hd2⟩
  iapply (runs_bind c)
  rw [← h₂, h₃]
  iapply (run_receive m ρ c K p₃ 3 o₃) $$ [HO Hk3 Ha3]
  · isplitr; · iexact HR
    isplitl [HO]; · iexact HO
    isplitl [Hk3] <;> iassumption
  iintro ⟨HO, Hk3, Hb3, Hd3⟩
  iapply HQ
  isplitl [HO]; · iexact HO
  isplitl [Hk1 Hk2 Hk3]
  · isplitl [Hk1]; · iexact Hk1
    isplitl [Hk2] <;> iassumption
  isplitl [Hb1 Hb2 Hb3]
  · isplitl [Hb1]; · iexact Hb1
    isplitl [Hb2] <;> iassumption
  isplitl [Hd1]; · iexact Hd1
  isplitl [Hd2] <;> iassumption

/-! ## Drains -/

/-- The last place through each slot. -/
def lastOf : Fin 4 → Fin 16 := ![0, 13, 14, 15]

/-- The last four waits: every staging slot is idle, and the rows it went to are written. -/
theorem run_drain (Q : sProp 𝕄) : iprop(ow c 0 ∗ all (fun k => flG m ρ c k (place c (lastOf k))) [0, 1, 2, 3])
    ⊢ iprop((iprop(ow c 0 ∗ all (fun k => iprop(idleG c k ∗ has c (oV (place c (lastOf k))) (res m ρ c (place c (lastOf k))))) [0, 1, 2, 3]) -∗ Q)
      -∗ runs c (each (fun k => putDone (F := F) k ![0, 0] (b := (0 : Dev nD)) rfl) [0, 1, 2, 3]) (fun _ => Q)) := by
  refine each_run c _ (fun _ => ow c 0) _ _ ?_ [0, 1, 2, 3] [] Q
  intro k l Q
  iintro ⟨HO, HF⟩ HQ
  iapply (run_putDone m ρ c k (o := ![0, 0]) (d := 0) (place c (lastOf k)) rfl) $$ [HO HF]
  · isplitl [HF] <;> iassumption
  iintro ⟨Hk, Hd, HO⟩
  iapply HQ
  isplitl [HO]; · iexact HO
  isplitl [Hk] <;> iassumption

/-- What the wait for a send starts from: its credit, and the send cell's position. -/
def sentA (p : Fin 16) : sProp 𝕄 := iprop(⌜p ≠ 0⌝ ∗ sentRes c p ∗ atPos ER (sendCell c (place c p)) 0 ∅ 0)
/-- What the wait for a send leaves: the send cell past its round, and the send slot free. -/
def sentB (p : Fin 16) : sProp 𝕄 := iprop(atPos ER (sendCell c (place c p)) (0 + 1) ∅ 0 ∗ free c (sbV (place c p)))

/-- The fifteen waits for the sends. -/
theorem run_sents (Q : sProp 𝕄) : iprop(records m ρ K ∗ ow c 0 ∗ all (sentA c) offs)
    ⊢ iprop((iprop(ow c 0 ∗ all (sentB c) offs) -∗ Q) -∗ runs c (each (fun p => sentAt (F := F) c p) offs) (fun _ => Q)) := by
  iintro ⟨#HR, HO, HA⟩ HQ
  iapply (each_run c (fun p => sentAt (F := F) c p) (fun _ => iprop(records m ρ K ∗ ow c 0)) (sentA c) (sentB c) ?_ offs [] Q) $$ [HO HA]
  · intro p l Q
    unfold sentA sentB sentRes
    iintro ⟨⟨#HR, HO⟩, %hp, Hc, Ha⟩ HQ
    iapply (run_sent m ρ c K (place_ne c p hp) (v1_eq (placeW_eq c p)) (v2_eq (meRow_eq c)) (v3_eq (placeW_eq c p))) $$ [HO Hc Ha]
    · isplitr; · iexact HR
      isplitl [Hc]; · iexact Hc
      isplitl [HO] <;> iassumption
    iintro ⟨HO, Ha, Hf⟩
    iapply HQ
    isplitl [HO]
    · isplitr; · iexact HR
      iexact HO
    isplitl [Ha] <;> iassumption
  · isplitl [HO]
    · isplitr; · iexact HR
      iexact HO
    iexact HA
  iintro ⟨⟨-, HO⟩, HB⟩
  iapply HQ
  isplitl [HO] <;> iassumption

end Cert.KernelIdeal.Run

end
-- ==== Proof.Body.lean ====
module

public import proofs.«01_k».proof.Proof.Phases

@[expose] public section

noncomputable section

/-! # The whole body at a device -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD) (K : Dev nD × CK → ℕ)

/-! ## Lists of resources -/

omit [FloatOps F] in
/-- A conjunction over two lists joined splits into one over each. -/
theorem all_append {α : Type} (Φ : α → sProp 𝕄) : ∀ l l' : List α, all Φ (l ++ l') ⊢ iprop(all Φ l ∗ all Φ l')
  | [], l' => by rw [all_nil, List.nil_append]; iintro H; isplitr; · iempintro
                 iexact H
  | a :: l, l' => by
    rw [List.cons_append, all_cons, all_cons]
    iintro ⟨Ha, H⟩
    ihave H' := (all_append Φ l l') $$ H
    icases H' with ⟨H1, H2⟩
    isplitl [Ha H1]
    · isplitl [Ha] <;> iassumption
    iexact H2

omit [FloatOps F] in
/-- Conjunctions over two lists make one over the lists joined. -/
theorem append_all {α : Type} (Φ : α → sProp 𝕄) : ∀ l l' : List α, iprop(all Φ l ∗ all Φ l') ⊢ all Φ (l ++ l')
  | [], l' => by rw [all_nil, List.nil_append]; iintro ⟨-, H⟩; iexact H
  | a :: l, l' => by
    rw [List.cons_append, all_cons, all_cons]
    iintro ⟨⟨Ha, H1⟩, H2⟩
    isplitl [Ha]; · iexact Ha
    iapply (append_all Φ l l'); isplitl [H1] <;> iassumption

omit [FloatOps F] in
/-- A list cut in two. -/
theorem all_cut {α : Type} (Φ : α → sProp 𝕄) {l : List α} (l₁ l₂ : List α) (h : l = l₁ ++ l₂) : all Φ l ⊢ iprop(all Φ l₁ ∗ all Φ l₂) := by
  subst h; exact all_append Φ l₁ l₂
omit [FloatOps F] in
/-- A list from two parts. -/
theorem all_glue {α : Type} (Φ : α → sProp 𝕄) {l : List α} (l₁ l₂ : List α) (h : l = l₁ ++ l₂) : iprop(all Φ l₁ ∗ all Φ l₂) ⊢ all Φ l := by
  subst h; exact append_all Φ l₁ l₂

omit [FloatOps F] in
/-- A fact true of every member of a list may be added to each conjunct. -/
theorem all_pure {α : Type} (φ : α → Prop) (Φ : α → sProp 𝕄) : ∀ l : List α, (∀ a ∈ l, φ a) → (all Φ l ⊢ all (fun a => iprop(⌜φ a⌝ ∗ Φ a)) l)
  | [], _ => BI.Entails.refl _
  | a :: l, h => by
    rw [all_cons, all_cons]
    iintro ⟨Ha, H⟩
    isplitl [Ha]
    · isplitr; · (ipureintro; exact h a List.mem_cons_self)
      iexact Ha
    iapply (all_pure φ Φ l fun a ha => h a (List.mem_cons_of_mem _ ha)) $$ H

/-! ## Places enumerate devices -/

/-- The devices by their places after `c`. -/
def placeEmb (c : Dev nD) : Fin 16 ↪ Dev nD := ⟨place c, (by decide +kernel : ∀ c : Dev nD, Function.Injective (place c)) c⟩
/-- The sixteen places after a device are all the devices. -/
theorem univ_place : ∀ c : Dev nD, Finset.univ.map (placeEmb c) = Finset.univ := by decide +kernel
/-- The fifteen places after a device other than its own are all the other devices. -/
theorem others_place : ∀ c : Dev nD, others.map (placeEmb c) = Finset.univ.erase c := by decide +kernel

omit [FloatOps F] in
/-- A conjunction over all devices is one over the places after a device. -/
theorem by_place (Φ : Dev nD → sProp 𝕄) : bigSep Finset.univ Φ = bigSep Finset.univ fun p => Φ (place c p) := by
  exact (congrArg (fun S => bigSep S Φ) (univ_place c)).symm.trans (bigSep_map ..)
omit [FloatOps F] in
/-- A conjunction over the other devices is one over the other places. -/
theorem by_place' (Φ : Dev nD → sProp 𝕄) : bigSep (Finset.univ.erase c) Φ = bigSep others fun p => Φ (place c p) := by
  exact (congrArg (fun S => bigSep S Φ) (others_place c)).symm.trans (bigSep_map ..)

/-! ## The tiles, in two runs and the last -/

/-- The first eight tiles: the slot of the window, the place of the tile's owner, and the place whose block refills the slot. -/
abbrev tiles₁ : List (Fin 8 × Fin 16 × Option (Fin 16)) :=
  [(0, 12, some 4), (1, 13, some 5), (2, 14, some 6), (3, 15, some 7), (4, 8, some 1), (5, 9, some 2), (6, 10, some 3), (7, 11, some 0)]
/-- The next seven tiles, after which the slots are not refilled. -/
abbrev tiles₂ : List (Fin 8 × Fin 16 × Option (Fin 16)) := [(0, 4, none), (1, 5, none), (2, 6, none), (3, 7, none), (4, 1, none), (5, 2, none), (6, 3, none)]

/-- What tiles for other devices start from, put together from lists of flights, of refills and of what sending takes. -/
theorem tilesA (l : List (Fin 8 × Fin 16 × Option (Fin 16))) (h : (l.all fun a => decide (a.2.1 ≠ 0)) = true) :
    iprop(all (fun a => flW m ρ c a.1 (place c a.2.1)) l ∗ all (fun a => refill m ρ c a.2.2) l ∗ all (fun a => sendRes c a.2.1) l) ⊢ all (tileA m ρ c) l :=
  (BI.sep_mono (BI.Entails.refl _) (all_zip _ _ l)).trans ((all_zip _ _ l).trans (all_pure _ _ l fun a ha => of_decide_eq_true (List.all_eq_true.mp h a ha)))

/-- What tiles leave, taken apart into lists of slots, of blocks and of credits. -/
theorem tilesB (l : List (Fin 8 × Fin 16 × Option (Fin 16))) :
    all (tileB m ρ c) l ⊢ iprop(all (fun a => slotW m ρ c a.1 a.2.2) l ∗ all (fun a => wRes m ρ c a.2.1) l ∗ all (fun a => sentRes (F := F) c a.2.1) l) :=
  (all_sep _ _ l).trans (BI.sep_mono (BI.Entails.refl _) (all_sep _ _ l))

/-- The first eight blocks fetched are those that the first eight tiles wait for. -/
theorem fetched_tiles : all (fetchB m ρ c) ((0, 12) :: early) = all (fun a => flW m ρ c a.1 (place c a.2.1)) tiles₁ := by
  simp only [early, tiles₁, all_cons, all_nil, fetchB]
/-- The other eight blocks are those that the first eight tiles refill their slots from. -/
theorem refill_tiles : all (wRes m ρ c) [4, 5, 6, 7, 1, 2, 3, 0] = all (fun a => refill m ρ c a.2.2) tiles₁ := by
  simp only [tiles₁, all_cons, all_nil, refill]
/-- The slots that the first eight tiles refilled are those that the next seven tiles and the last one wait for. -/
theorem refilled_tiles : all (fun a => slotW m ρ c a.1 a.2.2) tiles₁ ⊢ iprop(all (fun a => flW m ρ c a.1 (place c a.2.1)) tiles₂ ∗ flW m ρ c 7 (place c 0)) := by
  simp only [tiles₁, tiles₂, all_cons, all_nil, slotW]
  iintro ⟨H0, H1, H2, H3, H4, H5, H6, H7, -⟩
  iframe
/-- The places of the first eight tiles, in order. -/
theorem places_tiles₁ (Φ : Fin 16 → sProp 𝕄) : all Φ [12, 13, 14, 15, 8, 9, 10, 11] = all (fun a => Φ a.2.1) tiles₁ := by
  simp only [tiles₁, all_cons, all_nil]
/-- The places of the next seven tiles, in order. -/
theorem places_tiles₂ (Φ : Fin 16 → sProp 𝕄) : all Φ [4, 5, 6, 7, 1, 2, 3] = all (fun a => Φ a.2.1) tiles₂ := by
  simp only [tiles₂, all_cons, all_nil]
/-- After the next seven tiles their slots are idle. -/
theorem idle_tiles₂ : all (idleW (F := F) c) [0, 1, 2, 3, 4, 5, 6] = all (fun a => slotW m ρ c a.1 a.2.2) tiles₂ := by
  simp only [tiles₂, all_cons, all_nil, slotW]

/-- All tiles: the blocks fetched first are in flight, the rest still in place. -/
theorem run_allTiles (Q : sProp 𝕄) :
    iprop(records m ρ K ∗ levAts L lv ∗ work m ρ c sends ∗ all (fetchB m ρ c) ((0, 12) :: early) ∗ all (wRes m ρ c) [4, 5, 6, 7, 1, 2, 3, 0]
        ∗ all (sendRes c) sends ∗ idleG c 0 ∗ free c (oV c))
      ⊢ iprop((iprop(work m ρ c [] ∗ all (idleW c) [0, 1, 2, 3, 4, 5, 6, 7] ∗ all (wRes m ρ c) [12, 13, 14, 15, 8, 9, 10, 11, 4, 5, 6, 7, 1, 2, 3, 0] ∗ all (sentRes (F := F) c) sends ∗ flG m ρ c 0 c) -∗ Q)
        -∗ runs c (each (fun a => tileAt c (scAt m ρ c) a.1 a.2.1 a.2.2) tiles) (fun _ => Q)) := by
  rw [show tiles = tiles₁ ++ (tiles₂ ++ [(7, 0, none)]) from rfl, each_append, each_append]
  iintro ⟨#HR, #Hl, HW, HF, Hw, Hs, Hg, Ho⟩ HQ
  ihave Hs' := (all_cut (sendRes (F := F) c) (l := sends) [12, 13, 14, 15, 8, 9, 10, 11] [4, 5, 6, 7, 1, 2, 3] rfl) $$ Hs
  icases Hs' with ⟨Hs1, Hs2⟩
  iapply (runs_bind c)
  iapply (run_tiles m ρ c K tiles₁ tiles₂) $$ [HW HF Hw Hs1]
  · isplitl [HW]
    · unfold tileI
      isplitr; · iexact HR
      isplitr; · iexact Hl
      iexact HW
    iapply (tilesA m ρ c tiles₁ rfl)
    isplitl [HF]; · iapply (Entails.of_eq (fetched_tiles m ρ c)) $$ HF
    isplitl [Hw]; · iapply (Entails.of_eq (refill_tiles m ρ c)) $$ Hw
    iapply (Entails.of_eq (places_tiles₁ (sendRes (F := F) c))) $$ Hs1
  iintro ⟨HI, HB⟩
  ihave HB' := (tilesB m ρ c tiles₁) $$ HB
  icases HB' with ⟨HF, Hw1, Hc1⟩
  ihave HF' := (refilled_tiles m ρ c) $$ HF
  icases HF' with ⟨HF, HF7⟩
  iapply (runs_bind c)
  iapply (run_tiles m ρ c K tiles₂ []) $$ [HI HF Hs2]
  · isplitl [HI]; · iexact HI
    iapply (tilesA m ρ c tiles₂ rfl)
    isplitl [HF]; · iexact HF
    isplitr
    · simp only [tiles₂, all_cons, all_nil, refill]
      repeat (isplitr; · iempintro)
      iempintro
    iapply (Entails.of_eq (places_tiles₂ (sendRes (F := F) c))) $$ Hs2
  iintro ⟨HI, HB⟩
  ihave HB' := (tilesB m ρ c tiles₂) $$ HB
  icases HB' with ⟨Hk, Hw2, Hc2⟩
  unfold tileI
  icases HI with ⟨-, -, HW⟩
  simp only [each]
  iapply (runs_bind c)
  iapply (run_ownTile m ρ c) $$ [HW HF7 Hg Ho]
  · isplitr; · iexact Hl
    isplitl [HW]; · iexact HW
    isplitl [HF7]; · iexact HF7
    isplitl [Hg] <;> iassumption
  iintro ⟨HW, Hk7, Hw0, Hg⟩
  iapply (runs_pure c PUnit.unit)
  iapply HQ
  isplitl [HW]; · iexact HW
  isplitl [Hk Hk7]
  · iapply (all_glue (idleW (F := F) c) [0, 1, 2, 3, 4, 5, 6] [7] rfl)
    isplitl [Hk]; · iapply (Entails.of_eq (idle_tiles₂ m ρ c).symm) $$ Hk
    rw [all_cons, all_nil]
    isplitl [Hk7]; · iexact Hk7
    iempintro
  isplitl [Hw1 Hw2 Hw0]
  · iapply (all_glue (wRes m ρ c) [12, 13, 14, 15, 8, 9, 10, 11] [4, 5, 6, 7, 1, 2, 3, 0] rfl)
    isplitl [Hw1]; · iapply (Entails.of_eq (places_tiles₁ (wRes m ρ c)).symm) $$ Hw1
    iapply (all_glue (wRes m ρ c) [4, 5, 6, 7, 1, 2, 3] [0] rfl)
    isplitl [Hw2]; · iapply (Entails.of_eq (places_tiles₂ (wRes m ρ c)).symm) $$ Hw2
    rw [all_cons, all_nil]
    isplitl [Hw0]; · iexact Hw0
    iempintro
  isplitl [Hc1 Hc2]
  · iapply (all_glue (sentRes (F := F) c) (l := sends) [12, 13, 14, 15, 8, 9, 10, 11] [4, 5, 6, 7, 1, 2, 3] rfl)
    isplitl [Hc1]; · iapply (Entails.of_eq (places_tiles₁ (sentRes (F := F) c)).symm) $$ Hc1
    iapply (Entails.of_eq (places_tiles₂ (sentRes (F := F) c)).symm) $$ Hc2
  iexact Hg

/-! ## The receipts, by threes -/

/-- All fifteen receipts: every tile that comes in is widened and put out, and the copies out of the last three are still under way. -/
theorem run_receipts (Q : sProp 𝕄) :
    iprop(records m ρ K ∗ ow c 0 ∗ slots m ρ c none none none ∗ all (recvA (F := F) c) offs)
      ⊢ iprop((iprop(ow c 0 ∗ slots m ρ c (some 13) (some 14) (some 15) ∗ all (recvB (F := F) c) offs ∗ all (fun p => outDone m ρ c (some p)) [1, 2, 3, 4, 5, 6, 7, 8, 9, 10, 11, 12]) -∗ Q)
        -∗ runs c (each (fun a => receiveAt c a.1 a.2.1 a.2.2) receipts) (fun _ => Q)) := by
  simp only [offs, all_cons, all_nil]
  iintro ⟨#HR, HO, Hk, Ha1, Ha2, Ha3, Ha4, Ha5, Ha6, Ha7, Ha8, Ha9, Ha10, Ha11, Ha12, Ha13, Ha14, Ha15, -⟩ HQ
  iapply (run_three m ρ c K 1 2 3 none none none false rfl rfl rfl) $$ [HO Hk Ha1 Ha2 Ha3]
  · isplitr; · iexact HR
    isplitl [HO]; · iexact HO
    isplitl [Hk]; · iexact Hk
    isplitl [Ha1]; · iexact Ha1
    isplitl [Ha2] <;> iassumption
  iintro ⟨HO, Hk, ⟨Hb1, Hb2, Hb3⟩, -⟩
  iapply (run_three m ρ c K 4 5 6 (some 1) (some 2) (some 3) true rfl rfl rfl) $$ [HO Hk Ha4 Ha5 Ha6]
  · isplitr; · iexact HR
    isplitl [HO]; · iexact HO
    isplitl [Hk]; · iexact Hk
    isplitl [Ha4]; · iexact Ha4
    isplitl [Ha5] <;> iassumption
  iintro ⟨HO, Hk, ⟨Hb4, Hb5, Hb6⟩, Hd1, Hd2, Hd3⟩
  iapply (run_three m ρ c K 7 8 9 (some 4) (some 5) (some 6) true rfl rfl rfl) $$ [HO Hk Ha7 Ha8 Ha9]
  · isplitr; · iexact HR
    isplitl [HO]; · iexact HO
    isplitl [Hk]; · iexact Hk
    isplitl [Ha7]; · iexact Ha7
    isplitl [Ha8] <;> iassumption
  iintro ⟨HO, Hk, ⟨Hb7, Hb8, Hb9⟩, Hd4, Hd5, Hd6⟩
  iapply (run_three m ρ c K 10 11 12 (some 7) (some 8) (some 9) true rfl rfl rfl) $$ [HO Hk Ha10 Ha11 Ha12]
  · isplitr; · iexact HR
    isplitl [HO]; · iexact HO
    isplitl [Hk]; · iexact Hk
    isplitl [Ha10]; · iexact Ha10
    isplitl [Ha11] <;> iassumption
  iintro ⟨HO, Hk, ⟨Hb10, Hb11, Hb12⟩, Hd7, Hd8, Hd9⟩
  iapply (run_three m ρ c K 13 14 15 (some 10) (some 11) (some 12) true rfl rfl rfl) $$ [HO Hk Ha13 Ha14 Ha15]
  · isplitr; · iexact HR
    isplitl [HO]; · iexact HO
    isplitl [Hk]; · iexact Hk
    isplitl [Ha13]; · iexact Ha13
    isplitl [Ha14] <;> iassumption
  iintro ⟨HO, Hk, ⟨Hb13, Hb14, Hb15⟩, Hd10, Hd11, Hd12⟩
  iapply (runs_pure c PUnit.unit)
  iapply HQ
  isplitl [HO]; · iexact HO
  isplitl [Hk]; · iexact Hk
  isplitl [Hb1 Hb2 Hb3 Hb4 Hb5 Hb6 Hb7 Hb8 Hb9 Hb10 Hb11 Hb12 Hb13 Hb14 Hb15]
  · iframe
  iframe

/-! ## The body -/

/-- What a device has when its body begins, beside the shared records: its operands staged, every piece of every buffer, its positions, its tokens, its credit and its debt. -/
def before : sProp 𝕄 :=
  iprop(ow c (O₀ c) ∗ (has c xM (xAt m ρ c) ∗ has c sxM (sxAt m ρ c) ∗ has c swM (swAt m ρ c)) ∗ free c xbP ∗ free c wbP
    ∗ bigSep Finset.univ (wRes m ρ c) ∗ bigSep Finset.univ (idleW (F := F) c) ∗ bigSep Finset.univ (idleG (F := F) c)
    ∗ bigSep others (sigRes (F := F) c) ∗ cred (tallyAt (barCell c) () 15) ∗ atPos ER (barCell c) 0 ∅ 0
    ∗ bigSep others (fun p => iprop(free (F := F) c (sbV (place c p)) ∗ dutyTok ER (sendCell c (place c p)) 0 0 ∗ dutyTok ER (recvCell (place c p) c) 0 0))
    ∗ bigSep others (recvA (F := F) c) ∗ free c (oV c) ∗ bigSep others (fun p => iprop(⌜p ≠ 0⌝ ∗ atPos ER (sendCell c (place c p)) 0 ∅ 0)))

/-- What it has when its body ends: the result written, everything else as before, nothing owed. -/
def after : sProp 𝕄 :=
  iprop(ow c 0 ∗ (has c xM (xAt m ρ c) ∗ has c sxM (sxAt m ρ c) ∗ has c swM (swAt m ρ c)) ∗ free c xbP ∗ free c wbP
    ∗ bigSep Finset.univ (wRes m ρ c) ∗ bigSep Finset.univ (idleW (F := F) c) ∗ bigSep Finset.univ (idleG (F := F) c)
    ∗ bigSep Finset.univ (fun p => has c (oV (place c p)) (res m ρ c (place c p)))
    ∗ atPos ER (barCell c) (0 + 1) ∅ 0 ∗ bigSep others (recvB (F := F) c) ∗ bigSep others (sentB (F := F) c))

omit [FloatOps F] in
/-- The other places, in rising order. -/
theorem others_all (Φ : Fin 16 → sProp 𝕄) : bigSep others Φ = all Φ offs := bigSep_all Φ offs others (by decide) (by decide)
omit [FloatOps F] in
/-- The other places, in the order in which tiles are sent. -/
theorem others_sends (Φ : Fin 16 → sProp 𝕄) : bigSep others Φ = all Φ sends := bigSep_all Φ sends others (by decide) (by decide)
omit [FloatOps F] in
/-- All sixteen places, in the order in which blocks are fetched. -/
theorem blocks_all (Φ : Fin 16 → sProp 𝕄) : bigSep Finset.univ Φ = all Φ [12, 13, 14, 15, 8, 9, 10, 11, 4, 5, 6, 7, 1, 2, 3, 0] := bigSep_all Φ _ _ (by decide) (by decide)
omit [FloatOps F] in
/-- All sixteen places, those whose copies out are drained last coming first. -/
theorem rows_all (Φ : Fin 16 → sProp 𝕄) : bigSep Finset.univ Φ = all Φ [0, 13, 14, 15, 1, 2, 3, 4, 5, 6, 7, 8, 9, 10, 11, 12] := bigSep_all Φ _ _ (by decide) (by decide)
omit [FloatOps F] in
/-- The eight slots of the window, in order. -/
theorem slots8_all (Φ : Fin 8 → sProp 𝕄) : bigSep Finset.univ Φ = all Φ [0, 1, 2, 3, 4, 5, 6, 7] := bigSep_all Φ _ _ (by decide) (by decide)
omit [FloatOps F] in
/-- The four staging slots, in order. -/
theorem slots4_all (Φ : Fin 4 → sProp 𝕄) : bigSep Finset.univ Φ = all Φ [0, 1, 2, 3] := bigSep_all Φ _ _ (by decide) (by decide)

/-- The first eight blocks and the idle window, paired for the first fetch and the seven that follow it. -/
theorem fetch_all : iprop(all (wRes m ρ c) [12, 13, 14, 15, 8, 9, 10, 11] ∗ all (idleW (F := F) c) [0, 1, 2, 3, 4, 5, 6, 7])
    ⊢ iprop((wRes m ρ c 12 ∗ idleW c 0) ∗ all (fetchA m ρ c) early) := by
  simp only [early, all_cons, all_nil, fetchA]
  iintro ⟨⟨Ha1, Ha2, Ha3, Ha4, Ha5, Ha6, Ha7, Ha8, -⟩, Hb1, Hb2, Hb3, Hb4, Hb5, Hb6, Hb7, Hb8, -⟩
  iframe

/-- After the receipts each staging slot's last copy out is under way: the device's own tile in slot 0, the last three receipts in the others. -/
theorem drain_all : iprop(flG m ρ c 0 c ∗ slots m ρ c (some 13) (some 14) (some 15)) ⊢ all (fun k => flG m ρ c k (place c (lastOf k))) [0, 1, 2, 3] := by
  simp only [all_cons, all_nil]
  unfold slots slotG
  iintro ⟨H0, H1, H2, H3⟩
  isplitl [H0]
  · rw [show place c (lastOf 0) = c from place_zero c]; iexact H0
  isplitl [H1]; · iexact H1
  isplitl [H2]; · iexact H2
  isplitl [H3]; · iexact H3
  iempintro

/-- The rows written by the last copies and by the earlier ones. -/
theorem rows_done : iprop(all (fun k => has c (oV (place c (lastOf k))) (res m ρ c (place c (lastOf k)))) [0, 1, 2, 3] ∗ all (fun p => outDone m ρ c (some p)) [1, 2, 3, 4, 5, 6, 7, 8, 9, 10, 11, 12])
    ⊢ all (fun p => has c (oV (place c p)) (res m ρ c (place c p))) [0, 13, 14, 15, 1, 2, 3, 4, 5, 6, 7, 8, 9, 10, 11, 12] :=
  (BI.sep_mono (Entails.of_eq (all_map (fun p => has c (oV (place c p)) (res m ρ c (place c p))) lastOf [0, 1, 2, 3]).symm) (BI.Entails.refl _)).trans
    (all_glue _ [0, 13, 14, 15] [1, 2, 3, 4, 5, 6, 7, 8, 9, 10, 11, 12] rfl)

/-- The four idle staging slots, written out. -/
theorem slots4_all_cons : all (idleG (F := F) c) [0, 1, 2, 3] = iprop(idleG c 0 ∗ idleG c 1 ∗ idleG c 2 ∗ idleG c 3 ∗ emp) := rfl

/-- What the waits for the sends start from, put together from credits in order of sending and positions in rising order. -/
theorem sents_ready : iprop(all (sentRes (F := F) c) sends ∗ all (fun p => iprop(⌜p ≠ 0⌝ ∗ atPos ER (sendCell c (place c p)) 0 ∅ 0)) offs) ⊢ all (sentA (F := F) c) offs := by
  rw [← others_sends, others_all]
  refine (all_zip _ _ offs).trans (all_mono (fun p => ?_) offs)
  unfold sentA
  iintro ⟨Hc, %hp, Ha⟩
  isplitr; · (ipureintro; exact hp)
  isplitl [Hc] <;> iassumption

/-- Asking for the device's index gives it. -/
theorem run_deviceId (Q : Dev nD → sProp 𝕄) : Q c ⊢ runs c (Prog.lift .deviceId) Q := by
  show Q c ⊢ wp frame (wpE defs₀ 𝒱₀ (c : Thread nD τ) none) Set.univ (.op .deviceId .ret) Q
  exact (runs_ret c c Q).trans (Entails.of_eq (wp_deviceId ..).symm)

/-- The whole body. -/
theorem run_prog (Q : sProp 𝕄) : iprop(records m ρ K ∗ levAts L lv ∗ before m ρ c) ⊢ iprop((after m ρ c -∗ Q) -∗ runs c prog (fun _ => Q)) := by
  unfold before after
  rw [blocks_all (wRes m ρ c), slots8_all (idleW c), slots4_all (idleG c), others_all (sigRes c), others_sends (fun p => iprop(free (F := F) c (sbV (place c p)) ∗ _)), others_all (recvA c),
    others_all (fun p => iprop(⌜p ≠ 0⌝ ∗ atPos ER (sendCell c (place c p)) 0 ∅ 0)), others_all (recvB c), others_all (sentB c), rows_all]
  iintro ⟨#HR, #Hl, HO, ⟨Hx, Hsx, Hsw⟩, Hxb, Hwb, Hw, Hk, Hg, Hsig, Hcb, Hab, Hs, Hrv, Ho, Hsn⟩ HQ
  unfold prog
  iapply (runs_bind c)
  iapply (run_deviceId c)
  iapply (runs_bind c)
  iapply (run_signals m ρ c K) $$ [HO Hsig]
  · isplitr; · iexact HR
    isplitl [HO] <;> iassumption
  iintro HO
  ihave Hw' := (all_cut (wRes m ρ c) (l := [12, 13, 14, 15, 8, 9, 10, 11, 4, 5, 6, 7, 1, 2, 3, 0]) [12, 13, 14, 15, 8, 9, 10, 11] [4, 5, 6, 7, 1, 2, 3, 0] rfl) $$ Hw
  icases Hw' with ⟨Hw1, Hw2⟩
  ihave Hf := (fetch_all m ρ c) $$ [Hw1 Hk]
  · isplitl [Hw1] <;> iassumption
  icases Hf with ⟨Hf0, Hf⟩
  iapply (runs_bind c)
  iapply (run_fetchAt m ρ c 0 12) $$ Hf0
  iintro HF0
  iapply (runs_bind c)
  iapply (run_keepX m ρ c) $$ [Hx Hxb]
  · isplitl [Hx] <;> iassumption
  iintro ⟨Hx, Hxb⟩
  iapply (runs_bind c)
  iapply (run_early m ρ c) $$ Hf
  iintro HF
  iapply (runs_bind c)
  iapply (run_scale m ρ c) $$ [Hsx Hsw]
  · isplitl [Hsx] <;> iassumption
  iintro ⟨Hsx, Hsw⟩
  iapply (runs_bind c)
  iapply (run_all_here m ρ c K (above_owR c sends)) $$ [Hcb HO Hab]
  · isplitr; · iexact HR
    isplitr; · iexact Hl
    isplitl [Hcb]; · iexact Hcb
    isplitl [HO] <;> iassumption
  iintro ⟨HO, Hab, Hp⟩
  ihave Hp := (Entails.of_eq ((by_place' c (barPay (F := F) c)).trans (others_sends _))) $$ Hp
  ihave Hp := (show all (fun p => barPay (F := F) c (place c p)) sends ⊢ _ from all_sep (fun p => free (place c p) (rbV c)) (fun p => reached ER (recvCell (place c p) c) 0) sends) $$ Hp
  icases Hp with ⟨Hp, -⟩
  ihave Hs := (all_zip (fun p => free (place c p) (rbV c)) _ sends) $$ [Hp Hs]
  · isplitl [Hp] <;> iassumption
  ihave Hg := (Entails.of_eq (slots4_all_cons (F := F) c)) $$ Hg
  icases Hg with ⟨Hg0, Hg1, Hg2, Hg3, -⟩
  iapply (runs_bind c)
  iapply (run_allTiles m ρ c K) $$ [HO Hxb Hwb HF0 HF Hw2 Hs Hg0 Ho]
  · isplitr; · iexact HR
    isplitr; · iexact Hl
    isplitl [HO Hxb Hwb]
    · unfold work
      isplitl [Hxb]; · iexact Hxb
      isplitl [Hwb] <;> iassumption
    isplitl [HF0 HF]
    · iapply (show iprop(flW m ρ c 0 (place c 12) ∗ all (fetchB m ρ c) early) ⊢ all (fetchB m ρ c) ((0, 12) :: early) from BI.Entails.refl _)
      isplitl [HF0] <;> iassumption
    isplitl [Hw2]; · iexact Hw2
    isplitl [Hs]; · iexact Hs
    isplitl [Hg0] <;> iassumption
  unfold work
  iintro ⟨⟨Hxb, Hwb, HO⟩, Hk, Hw, Hc, Hg0⟩
  iapply (runs_bind c)
  iapply (run_receipts m ρ c K) $$ [HO Hg1 Hg2 Hg3 Hrv]
  · isplitr; · iexact HR
    isplitl [HO]; · iexact HO
    isplitl [Hg1 Hg2 Hg3]
    · unfold slots slotG
      isplitl [Hg1]; · iexact Hg1
      isplitl [Hg2] <;> iassumption
    iexact Hrv
  iintro ⟨HO, Hk3, Hrv, Hd⟩
  ihave Hdr := (drain_all m ρ c) $$ [Hg0 Hk3]
  · isplitl [Hg0] <;> iassumption
  iapply (runs_bind c)
  iapply (run_drain m ρ c) $$ [HO Hdr]
  · isplitl [HO] <;> iassumption
  iintro ⟨HO, Hdr⟩
  ihave Hdr := (all_sep (idleG c) (fun k => has c (oV (place c (lastOf k))) (res m ρ c (place c (lastOf k)))) [0, 1, 2, 3]) $$ Hdr
  icases Hdr with ⟨Hg, Hd4⟩
  ihave Hrows := (rows_done m ρ c) $$ [Hd4 Hd]
  · isplitl [Hd4] <;> iassumption
  ihave Hsn := (sents_ready c) $$ [Hc Hsn]
  · isplitl [Hc] <;> iassumption
  iapply (run_sents m ρ c K) $$ [HO Hsn]
  · isplitr; · iexact HR
    isplitl [HO] <;> iassumption
  iintro ⟨HO, Hsn⟩
  iapply HQ
  isplitl [HO]; · iexact HO
  isplitl [Hx Hsx Hsw]
  · isplitl [Hx]; · iexact Hx
    isplitl [Hsx] <;> iassumption
  isplitl [Hxb]; · iapply (has_free c) $$ Hxb
  isplitl [Hwb]; · iexact Hwb
  isplitl [Hw]; · iexact Hw
  isplitl [Hk]; · iexact Hk
  isplitl [Hg]; · iexact Hg
  isplitl [Hrows]; · iexact Hrows
  isplitl [Hab]; · iexact Hab
  isplitl [Hrv] <;> iassumption

end Cert.KernelIdeal.Run

end
-- ==== Proof.Pieces.lean ====
module

public import proofs.«01_k».proof.Proof.Body

@[expose] public section

noncomputable section

/-! # Whole buffers and their pieces -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Bands along an axis -/

/-- Bands of width `n` along one axis, whole along the others, are apart and cover. -/
theorem bands {s : Shape} {k n : ℕ} (a₀ : Fin s.rank) (off : Fin k → Fin s.rank → ℕ) (size : Fin s.rank → ℕ) (inb : ∀ t a, off t a + size a ≤ s.size a)
    (hn : size a₀ = n) (hk : s.size a₀ = n * k) (h0 : ∀ t, off t a₀ = n * t.val) (hoff : ∀ t a, a ≠ a₀ → off t a = 0) (hsize : ∀ a, a ≠ a₀ → size a = s.size a) :
    (∀ t t', t ≠ t' → Disjoint (Rect.unit (off t) size (inb t)).set (Rect.unit (off t') size (inb t')).set)
      ∧ (Finset.univ : Finset (Fin k)).biUnion (fun t => (Rect.unit (off t) size (inb t)).set) = Finset.univ := by
  constructor
  · intro t t' ht
    refine Finset.disjoint_left.mpr fun i hi hi' => ht (Fin.ext ?_)
    have h1 := Rect.mem_set_unit.mp hi a₀
    have h2 := Rect.mem_set_unit.mp hi' a₀
    rw [h0, hn] at h1 h2
    have e1 : (i a₀ : ℕ) / n = t.val := Nat.div_eq_of_lt_le (by rw [Nat.mul_comm]; exact h1.1) (by rw [Nat.succ_mul, Nat.mul_comm]; exact h1.2)
    have e2 : (i a₀ : ℕ) / n = t'.val := Nat.div_eq_of_lt_le (by rw [Nat.mul_comm]; exact h2.1) (by rw [Nat.succ_mul, Nat.mul_comm]; exact h2.2)
    exact e1.symm.trans e2
  · refine Finset.eq_univ_iff_forall.mpr fun i => ?_
    have hlt : (i a₀ : ℕ) < n * k := hk ▸ (i a₀).isLt
    have hnpos : 0 < n := Nat.pos_of_ne_zero fun e => by rw [e, Nat.zero_mul] at hlt; exact absurd hlt (Nat.not_lt_zero _)
    refine Finset.mem_biUnion.mpr ⟨⟨(i a₀ : ℕ) / n, Nat.div_lt_of_lt_mul hlt⟩, Finset.mem_univ _, Rect.mem_set_unit.mpr fun a => ?_⟩
    by_cases ha : a = a₀
    · subst ha; rw [h0, hn]
      refine ⟨Nat.mul_div_le _ _, ?_⟩
      have := Nat.lt_mul_div_succ (i a : ℕ) hnpos
      rwa [Nat.mul_add, Nat.mul_one] at this
    · rw [hoff _ a ha, hsize a ha, Nat.zero_add]; exact ⟨Nat.zero_le _, (i a).isLt⟩

/-- Column block `b` of the second operand. -/
abbrev rC (b : Fin 16) : Rect S4096x2048 := rC' (b := b) ![0, 128 * b.val] rfl
/-- Row block `b` of an array of 4096 rows and 128 columns. -/
abbrev rR (b : Fin 16) : Rect S4096x128 := rR' (b := b) ![256 * b.val, 0] rfl
/-- Slot `b` of the send buffer. -/
abbrev rB (b : Fin 16) : Rect S16x256x128 := rB' (b := b) ![b.val, 0, 0] rfl

/-- The eight slots of the window cover its buffer without overlap. -/
theorem bands_W : (∀ t t' : Fin 8, t ≠ t' → Disjoint (rW t).set (rW t').set) ∧ (Finset.univ : Finset (Fin 8)).biUnion (fun t => (rW t).set) = Finset.univ :=
  bands (s := S8x4096x128) (n := 1) 0 (fun t => ![t.val, 0, 0]) S1x4096x128.size inbW rfl rfl (fun t => (Nat.one_mul _).symm)
    (fun t a ha => by fin_cases a; exacts [absurd rfl ha, rfl, rfl]) (fun a ha => by fin_cases a; exacts [absurd rfl ha, rfl, rfl])
/-- The four staging slots cover their buffer without overlap. -/
theorem bands_G : (∀ t t' : Fin 4, t ≠ t' → Disjoint (rG t).set (rG t').set) ∧ (Finset.univ : Finset (Fin 4)).biUnion (fun t => (rG t).set) = Finset.univ :=
  bands (s := S4x256x128) (n := 1) 0 (fun t => ![t.val, 0, 0]) S1x256x128.size inbG rfl rfl (fun t => (Nat.one_mul _).symm)
    (fun t a ha => by fin_cases a; exacts [absurd rfl ha, rfl, rfl]) (fun a ha => by fin_cases a; exacts [absurd rfl ha, rfl, rfl])
/-- The sixteen column blocks cover the second operand without overlap. -/
theorem bands_C : (∀ t t' : Fin 16, t ≠ t' → Disjoint (rC t).set (rC t').set) ∧ (Finset.univ : Finset (Fin 16)).biUnion (fun t => (rC t).set) = Finset.univ :=
  bands (s := S4096x2048) (n := 128) 1 (fun t => ![0, 128 * t.val]) S4096x128.size (fun t => inbC' rfl) rfl rfl (fun t => rfl)
    (fun t a ha => by fin_cases a; exacts [rfl, absurd rfl ha]) (fun a ha => by fin_cases a; exacts [rfl, absurd rfl ha])
/-- The sixteen row blocks cover an array of 4096 rows and 128 columns without overlap. -/
theorem bands_R : (∀ t t' : Fin 16, t ≠ t' → Disjoint (rR t).set (rR t').set) ∧ (Finset.univ : Finset (Fin 16)).biUnion (fun t => (rR t).set) = Finset.univ :=
  bands (s := S4096x128) (n := 256) 0 (fun t => ![256 * t.val, 0]) S256x128.size (fun t => inbR' rfl) rfl rfl (fun t => rfl)
    (fun t a ha => by fin_cases a; exacts [absurd rfl ha, rfl]) (fun a ha => by fin_cases a; exacts [absurd rfl ha, rfl])
/-- The sixteen slots of the send buffer cover it without overlap. -/
theorem bands_B : (∀ t t' : Fin 16, t ≠ t' → Disjoint (rB t).set (rB t').set) ∧ (Finset.univ : Finset (Fin 16)).biUnion (fun t => (rB t).set) = Finset.univ :=
  bands (s := S16x256x128) (n := 1) 0 (fun t => ![t.val, 0, 0]) S1x256x128.size (fun t => inbB' rfl) rfl rfl (fun t => (Nat.one_mul _).symm)
    (fun t a ha => by fin_cases a; exacts [absurd rfl ha, rfl, rfl]) (fun a ha => by fin_cases a; exacts [absurd rfl ha, rfl, rfl])

/-! ## The buffers of the body -/

variable (c : Dev nD)

/-- A buffer held whole at some contents is a buffer free. -/
theorem free_whole (b : Ref sig .tc) : (iprop(∃ f : Buf (Elt F) ((c : Thread nD τ).loc b), ((c : Thread nD τ).loc b) ↦{fullShare} f) : sProp 𝕄) = free c (Memref.whole b) :=
  congrArg BIBase.exists (funext fun f => (has_whole c b f).symm)

/-- Contents exist for every shape and element type. -/
theorem elt_ne (e : EltTy) (s : Shape) : Nonempty (s.Idx → Elt F e) := inferInstance

/-- The eight slots for column blocks of the second operand. -/
theorem slotsW : (free c wtM : sProp 𝕄) = bigSep Finset.univ fun k => free (F := F) c (wtV k) := by
  rw [bigSep_congr fun k _ => free_squeeze (F := F) c (wtM.slice (rW k) (fun _ => rfl)) squeezes_S1x4096x128_S4096x128 casts4096 casts4096']
  exact both (free_split c wtM rW (fun _ _ => rfl) bands_W.1 bands_W.2) (free_join c wtM rW (fun _ _ => rfl) bands_W.1 bands_W.2 fun t => elt_ne _ _)
/-- The four slots for tiles on their way out. -/
theorem slotsG : (free c sgM : sProp 𝕄) = bigSep Finset.univ fun k => free (F := F) c (sgV k) := by
  rw [bigSep_congr fun k _ => free_squeeze (F := F) c (sgM.slice (rG k) (fun _ => rfl)) squeezes_S1x256x128_S256x128 casts256 casts256']
  exact both (free_split c sgM rG (fun _ _ => rfl) bands_G.1 bands_G.2) (free_join c sgM rG (fun _ _ => rfl) bands_G.1 bands_G.2 fun t => elt_ne _ _)
/-- The sixteen slots of the send buffer. -/
theorem slotsB : (free c sbM : sProp 𝕄) = bigSep Finset.univ fun b => free (F := F) c (sbV b) := by
  rw [bigSep_congr fun b _ => free_squeeze (F := F) c (sbM.slice (rB b) (fun _ => rfl)) squeezes_S1x256x128_S256x128 casts256 casts256']
  exact both (free_split c sbM rB (fun _ _ => rfl) bands_B.1 bands_B.2) (free_join c sbM rB (fun _ _ => rfl) bands_B.1 bands_B.2 fun t => elt_ne _ _)
/-- The sixteen row blocks of the landing buffer. -/
theorem slotsR : (free c rbM : sProp 𝕄) = bigSep Finset.univ fun b => free (F := F) c (rbV b) :=
  both (free_split c rbM rR (fun _ _ => rfl) bands_R.1 bands_R.2) (free_join c rbM rR (fun _ _ => rfl) bands_R.1 bands_R.2 fun t => elt_ne _ _)
/-- The sixteen row blocks of the result. -/
theorem slotsO : (free c oM : sProp 𝕄) ⊢ bigSep Finset.univ fun b => free (F := F) c (oV b) :=
  free_split c oM rR (fun _ _ => rfl) bands_R.1 bands_R.2
/-- The result's row blocks, each at its contents, are the result. -/
theorem glueO : (bigSep Finset.univ fun s => has c (oV s) (res m ρ c s))
    ⊢ (iprop(∃ X, ⌜∀ s j, X ((rR s).emb j) = res m ρ c s j⌝ ∗ has c oM X) : sProp 𝕄) :=
  has_glue c oM rR (fun _ _ => rfl) bands_R.1 bands_R.2 (res m ρ c)
/-- The second operand's column blocks. -/
theorem colsW : (has c wM ((s₀ m ρ).mem ((c : Thread nD τ).loc main_arg1)) : sProp 𝕄) = bigSep Finset.univ fun b => has c (wV b) (wAt m ρ c b) :=
  both (has_split c wM rC (fun _ _ => rfl) bands_C.1 bands_C.2 _) (has_join c wM rC (fun _ _ => rfl) bands_C.1 bands_C.2 _)

/-- Both buffers for narrow operands, read whole. -/
theorem free_full (b : Ref sig .tc) {off : Fin b.ty.shape.rank → Nat} (h : off = fun _ => 0) (inb : ∀ a, off a + b.ty.shape.size a ≤ b.ty.shape.size a) :
    (free c ((Memref.whole b).slice (Rect.unit off b.ty.shape.size inb) (fun _ => rfl)) : sProp 𝕄) = free (F := F) c (Memref.whole b) :=
  congrArg BIBase.exists (funext fun X => has_full c b h inb X)
/-- The buffer for the narrow left operand, as a whole and as the kernel names it. -/
theorem wholeX : (free c xbM : sProp 𝕄) = free (F := F) c xbP := (free_full c cc0_scratch0 zero2 _).symm
/-- The buffer for the narrow right operand, as a whole and as the kernel names it. -/
theorem wholeW : (free c wbM : sProp 𝕄) = free (F := F) c wbP := (free_full c cc0_scratch2 zero2 _).symm

end Cert.KernelIdeal.Run

end
-- ==== Proof.Device.lean ====
module

public import proofs.«01_k».proof.Proof.Pieces

@[expose] public section

noncomputable section

/-! # A device from its launch to its end -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, one by one -/

/-- A family over the cells of a device: its barrier, its send and its receive semaphores. -/
theorem by_cell (Φ : CK → sProp 𝕄) : bigSep Finset.univ Φ
    = iprop(Φ none ∗ (bigSep Finset.univ fun b => Φ (some (false, b))) ∗ bigSep Finset.univ fun b => Φ (some (true, b))) := by
  let e : Fin 1 ⊕ (Dev nD ⊕ Dev nD) ≃ CK :=
    { toFun := fun x => match x with | .inl _ => none | .inr (.inl b) => some (false, b) | .inr (.inr b) => some (true, b)
      invFun := fun x => match x with | none => .inl 0 | some (false, b) => .inr (.inl b) | some (true, b) => .inr (.inr b)
      left_inv := fun x => by rcases x with x | x | x <;> first | rfl | exact congrArg Sum.inl (Subsingleton.elim _ _)
      right_inv := fun x => by rcases x with _ | ⟨_ | _, b⟩ <;> rfl }
  rw [bigSep_univ_equiv e, bigSep_univ_sum, bigSep_univ_sum, Finset.univ_unique, bigSep_singleton]; rfl

variable (c : Dev nD) (K : Dev nD × CK → ℕ)

/-- Where device `c` stands at each of its cells at launch. -/
def stands : sProp 𝕄 := bigSep Finset.univ fun k : CK => atPos ER (kcell (c, k)) 0 ∅ 0

/-- The duties device `c` discharges: at every device's barrier, at its own send semaphores, at its receive semaphore on every device. -/
def payToks : sProp 𝕄 := bigSep Finset.univ fun b : Dev nD => bigSep Finset.univ fun k : Option Bool => match k with
  | none => dutyTok ER (barCell b) 0 c
  | some false => dutyTok ER (sendCell c b) 0 0
  | some true => dutyTok ER (recvCell b c) 0 0

/-- The semaphores of the copies on the device, at zero. -/
def lows : sProp 𝕄 := iprop((bigSep Finset.univ fun k : Fin 8 => semVal ((c : Thread nD τ), .dma (cpS k)) 0)
  ∗ bigSep Finset.univ fun k : Fin 4 => semVal ((c : Thread nD τ), .dma (sgS k)) 0)

/-- The credit device `c` draws on: a unit from each other device at its barrier, a tile's from each other device. -/
def due : sProp 𝕄 := iprop(cred (tallyAt (barCell c) () 15) ∗ bigSep (Finset.univ.erase c) fun s => cred (tallyAt (recvCell c s) () N))

/-- The buffers of the body, free. -/
def buffers : sProp 𝕄 := iprop(free (F := F) c xbM ∗ free (F := F) c wtM ∗ free (F := F) c wbM ∗ free (F := F) c sbM ∗ free (F := F) c rbM ∗ free (F := F) c sgM)

/-- The three staged operands. -/
def operands : sProp 𝕄 := iprop(has c xM (xAt m ρ c) ∗ has c sxM (sxAt m ρ c) ∗ has c swM (swAt m ρ c))

/-- The second operand's array. -/
def weights : sProp 𝕄 := has c wM ((s₀ m ρ).mem ((c : Thread nD τ).loc main_arg1))

/-- The result: every row block at the tile of the device it is from. -/
def result : sProp 𝕄 := iprop(∃ X, ⌜∀ s j, X ((rR s).emb j) = res m ρ c s j⌝ ∗ has c oM X)

/-- What a device does not use: its send and receive semaphores for itself, and the slots that go with them. -/
def unused : sProp 𝕄 := iprop(atPos ER (sendCell c c) 0 ∅ 0 ∗ atPos ER (recvCell c c) 0 ∅ 0 ∗ free (F := F) c (sbV c) ∗ free (F := F) c (rbV c))

/-- A conjunction over the three kinds of cell, written out. -/
theorem opt_bool (Φ : Option Bool → sProp 𝕄) : bigSep Finset.univ Φ = iprop(Φ none ∗ Φ (some false) ∗ Φ (some true)) :=
  bigSep_univ_eq_bigSepL [none, some false, some true] (by decide) (by decide) Φ

/-- A conjunct per other place, with that the place is not the first. -/
theorem others_pure (Φ : Fin 16 → sProp 𝕄) : bigSep others Φ ⊢ bigSep others fun p => iprop(⌜p ≠ 0⌝ ∗ Φ p) :=
  bigSep_mono fun p hp => show (Φ p ⊢ iprop(⌜p ≠ 0⌝ ∗ Φ p)) from by
    iintro H
    isplitr; · ipureintro; exact (Finset.mem_erase.mp hp).1
    iexact H

/-- What the launch gives a device is what its body starts from, and what it does not use. -/
theorem enter : iprop(ow c (O₀ c) ∗ operands m ρ c ∗ stands (F := F) c ∗ payToks (F := F) c ∗ lows (F := F) c ∗ due (F := F) c ∗ buffers (F := F) c ∗ weights m ρ c ∗ free c oM)
    ⊢ iprop(before m ρ c ∗ unused (F := F) c) := by
  unfold before unused operands stands payToks lows due buffers weights
  rw [by_cell, wholeX, wholeW, slotsW, slotsG, slotsB, slotsR, colsW]
  rw [bigSep_congr fun b _ => opt_bool _]
  rw [bigSep_sep', bigSep_sep']
  iintro ⟨HO, Hops, ⟨Hab, Has, Har⟩, ⟨Htb, Hts, Htr⟩, ⟨Hcp, Hsg⟩, ⟨Hcb, Hcr⟩, ⟨Hxb, Hwt, Hwb, Hsb, Hrb, Hst⟩, Hw, Ho⟩
  ihave Ho := slotsO c $$ Ho
  ihave Has := (Entails.of_eq (bigSep_univ_at _ c)) $$ Has
  ihave Har := (Entails.of_eq (bigSep_univ_at _ c)) $$ Har
  ihave Htb := (Entails.of_eq (bigSep_univ_at _ c)) $$ Htb
  ihave Hts := (Entails.of_eq (bigSep_univ_at _ c)) $$ Hts
  ihave Htr := (Entails.of_eq (bigSep_univ_at _ c)) $$ Htr
  ihave Hsb := (Entails.of_eq (bigSep_univ_at _ c)) $$ Hsb
  ihave Hrb := (Entails.of_eq (bigSep_univ_at _ c)) $$ Hrb
  ihave Ho := (Entails.of_eq (bigSep_univ_at _ c)) $$ Ho
  icases Has with ⟨Ha1, Has⟩
  icases Har with ⟨Ha2, Har⟩
  icases Htb with ⟨-, Htb⟩
  icases Hts with ⟨-, Hts⟩
  icases Htr with ⟨-, Htr⟩
  icases Hsb with ⟨Hs1, Hsb⟩
  icases Hrb with ⟨Hr1, Hrb⟩
  icases Ho with ⟨Ho1, Ho⟩
  ihave Hw := (Entails.of_eq (by_place c _)) $$ Hw
  ihave Has := ((Entails.of_eq (by_place' c _)).trans (others_pure _)) $$ Has
  ihave Hrec := (show iprop(bigSep (Finset.univ.erase c) (fun s => cred (tallyAt (recvCell c s) () N)) ∗ bigSep (Finset.univ.erase c) (fun s => atPos ER (recvCell c s) 0 ∅ 0)
      ∗ bigSep (Finset.univ.erase c) fun s => free (F := F) c (oV s)) ⊢ bigSep others (recvA (F := F) c) from
    (Entails.of_eq ((congrArg (BI.sep _) (bigSep_sep' _ _ _).symm).trans ((bigSep_sep' _ _ _).symm.trans (by_place' c _)))).trans (others_pure _)) $$ [Hcr Har Ho]
  · iframe
  ihave Hsig := (show iprop(bigSep (Finset.univ.erase c) (fun s => dutyTok ER (barCell s) 0 c) ∗ bigSep (Finset.univ.erase c) fun s => free (F := F) c (rbV s))
      ⊢ bigSep others (sigRes (F := F) c) from
    (Entails.of_eq ((bigSep_sep' _ _ _).symm.trans (by_place' c _))).trans (others_pure _)) $$ [Htb Hrb]
  · iframe
  ihave Hsend := (show iprop(bigSep (Finset.univ.erase c) (fun s => free (F := F) c (sbV s)) ∗ bigSep (Finset.univ.erase c) (fun s => dutyTok ER (sendCell c s) 0 0)
      ∗ bigSep (Finset.univ.erase c) fun s => dutyTok ER (recvCell s c) 0 0) ⊢ bigSep others (fun p => iprop(free (F := F) c (sbV (place c p)) ∗ dutyTok ER (sendCell c (place c p)) 0 0 ∗ dutyTok ER (recvCell (place c p) c) 0 0)) from
    (Entails.of_eq ((congrArg (BI.sep _) (bigSep_sep' _ _ _).symm).trans ((bigSep_sep' _ _ _).symm.trans (by_place' c _))))) $$ [Hsb Hts Htr]
  · iframe
  ihave HiW := (Entails.of_eq (bigSep_sep' Finset.univ (fun k => free (F := F) c (wtV k)) (fun k => semVal ((c : Thread nD τ), .dma (cpS k)) 0)).symm) $$ [Hwt Hcp]
  · iframe
  ihave HiG := (Entails.of_eq (bigSep_sep' Finset.univ (fun k => free (F := F) c (sgV k)) (fun k => semVal ((c : Thread nD τ), .dma (sgS k)) 0)).symm) $$ [Hst Hsg]
  · iframe
  isplitr [Ha1 Ha2 Hs1 Hr1]
  · isplitl [HO]; · iexact HO
    isplitl [Hops]; · iexact Hops
    isplitl [Hxb]; · iexact Hxb
    isplitl [Hwb]; · iexact Hwb
    isplitl [Hw]; · iexact Hw
    isplitl [HiW]; · iexact HiW
    isplitl [HiG]; · iexact HiG
    isplitl [Hsig]; · iexact Hsig
    isplitl [Hcb]; · iexact Hcb
    isplitl [Hab]; · iexact Hab
    isplitl [Hsend]; · iexact Hsend
    isplitl [Hrec]; · iexact Hrec
    isplitl [Ho1]; · iexact Ho1
    iexact Has
  · isplitl [Ha1]; · iexact Ha1
    isplitl [Ha2]; · iexact Ha2
    isplitl [Hs1]; · iexact Hs1
    iexact Hr1

/-- The cells, closed, at zero. -/
def closed : sProp 𝕄 := bigSep Finset.univ fun k : CK => semVal (kcell (c, k)) 0

/-- A cell past its round, or without duties, closes. -/
theorem close_at (k : CK) (R : ℕ) (hR : ∀ r, R ≤ r → (rd (F := F) m ρ).duties (kcell (c, k)) r = ∅) :
    iprop(records m ρ K ∗ atPos ER (kcell (c, k)) R ∅ 0) ⊢ (|={Set.univ}=> semVal (kcell (c, k)) 0 : sProp 𝕄) :=
  (sep_mono_left (inv_at m ρ K (c, k))).trans (Rounds.cell_close ER (rd m ρ) (Set.mem_univ _) (fun h => h) hR)

/-- Several cells close together. -/
theorem close_all {I : Type} [DecidableEq I] (S : Finset I) (k : I → CK) (R : ℕ) (hR : ∀ i ∈ S, ∀ r, R ≤ r → (rd (F := F) m ρ).duties (kcell (c, k i)) r = ∅) :
    iprop(records m ρ K ∗ bigSep S fun i => atPos ER (kcell (c, k i)) R ∅ 0) ⊢ (|={Set.univ}=> bigSep S fun i => semVal (kcell (c, k i)) 0 : sProp 𝕄) :=
  ((sep_mono_left (BI.bigSep_of_persistent S (records m ρ K))).trans
    (by rw [← bigSep_sep']; exact bigSep_mono fun i hi => close_at m ρ c K (k i) R (hR i hi))).trans (bigSep_fupd _ _)

/-- What a device ends with: its operands, its buffers free, its semaphores at zero, the second operand as it was, the result. -/
def finish : sProp 𝕄 := iprop(ow c 0 ∗ operands m ρ c ∗ buffers (F := F) c ∗ closed (F := F) c ∗ lows (F := F) c ∗ weights m ρ c ∗ result m ρ c)

/-- When the body ends the cells close, and the pieces join to the buffers and to the assembled result. -/
theorem leave : iprop(records m ρ K ∗ after m ρ c ∗ unused (F := F) c) ⊢ (|={Set.univ}=> finish m ρ c : sProp 𝕄) := by
  unfold after unused finish operands buffers closed lows weights result
  rw [by_cell, wholeX, wholeW, slotsW, slotsG, slotsB, slotsR, colsW]
  iintro ⟨#HR, ⟨HO, Hops, Hxb, Hwb, Hw, HiW, HiG, Hres, Hab, Hrec, Hsen⟩, Ha1, Ha2, Hs1, Hr1⟩
  ihave Hw := (show bigSep Finset.univ (wRes m ρ c) ⊢ _ from Entails.of_eq (by_place c (fun b => has c (wV b) (wAt m ρ c b))).symm) $$ Hw
  ihave Hres := ((Entails.of_eq (by_place c (fun s => has c (oV s) (res m ρ c s))).symm).trans (glueO m ρ c)) $$ Hres
  ihave HiW := (show bigSep Finset.univ (idleW (F := F) c) ⊢ _ from Entails.of_eq (bigSep_sep' Finset.univ (fun k => free (F := F) c (wtV k)) (fun k => semVal ((c : Thread nD τ), .dma (cpS k)) 0))) $$ HiW
  ihave HiG := (show bigSep Finset.univ (idleG (F := F) c) ⊢ _ from Entails.of_eq (bigSep_sep' Finset.univ (fun k => free (F := F) c (sgV k)) (fun k => semVal ((c : Thread nD τ), .dma (sgS k)) 0))) $$ HiG
  icases HiW with ⟨Hwt, Hcp⟩
  icases HiG with ⟨Hst, Hsg⟩
  ihave Hrec := (show bigSep others (recvB (F := F) c) ⊢ _ from Entails.of_eq ((by_place' c (fun s => iprop(atPos ER (recvCell c s) (0 + 1) ∅ 0 ∗ free (F := F) c (rbV s)))).symm.trans (bigSep_sep' _ _ _))) $$ Hrec
  ihave Hsen := (show bigSep others (sentB (F := F) c) ⊢ _ from Entails.of_eq ((by_place' c (fun s => iprop(atPos ER (sendCell c s) (0 + 1) ∅ 0 ∗ free (F := F) c (sbV s)))).symm.trans (bigSep_sep' _ _ _))) $$ Hsen
  icases Hrec with ⟨Har, Hrb⟩
  icases Hsen with ⟨Has, Hsb⟩
  imod (close_at m ρ c K none (0 + 1) (duties_later m ρ _)) $$ [Hab] with Hab
  · isplitr; · iexact HR
    iexact Hab
  imod (close_at m ρ c K (some (false, c)) 0 (duties_own_send m ρ c)) $$ [Ha1] with Ha1
  · isplitr; · iexact HR
    iexact Ha1
  imod (close_at m ρ c K (some (true, c)) 0 (duties_own_recv m ρ c)) $$ [Ha2] with Ha2
  · isplitr; · iexact HR
    iexact Ha2
  imod (close_all m ρ c K (Finset.univ.erase c) (fun b => some (false, b)) (0 + 1) (fun b _ => duties_later m ρ _)) $$ [Has] with Has
  · isplitr; · iexact HR
    iexact Has
  imod (close_all m ρ c K (Finset.univ.erase c) (fun b => some (true, b)) (0 + 1) (fun b _ => duties_later m ρ _)) $$ [Har] with Har
  · isplitr; · iexact HR
    iexact Har
  imodintro
  ihave Has := (Entails.of_eq (bigSep_univ_at (fun b => semVal (kcell (c, some (false, b))) 0) c).symm) $$ [Ha1 Has]
  · isplitl [Ha1] <;> iassumption
  ihave Har := (Entails.of_eq (bigSep_univ_at (fun b => semVal (kcell (c, some (true, b))) 0) c).symm) $$ [Ha2 Har]
  · isplitl [Ha2] <;> iassumption
  ihave Hsb := (Entails.of_eq (bigSep_univ_at (fun b => free (F := F) c (sbV b)) c).symm) $$ [Hs1 Hsb]
  · isplitl [Hs1] <;> iassumption
  ihave Hrb := (Entails.of_eq (bigSep_univ_at (fun b => free (F := F) c (rbV b)) c).symm) $$ [Hr1 Hrb]
  · isplitl [Hr1] <;> iassumption
  isplitl [HO]; · iexact HO
  isplitl [Hops]; · iexact Hops
  isplitl [Hxb Hwt Hwb Hsb Hrb Hst]
  · isplitl [Hxb]; · iexact Hxb
    isplitl [Hwt]; · iexact Hwt
    isplitl [Hwb]; · iexact Hwb
    isplitl [Hsb]; · iexact Hsb
    isplitl [Hrb] <;> iassumption
  isplitl [Hab Has Har]
  · isplitl [Hab]; · iexact Hab
    isplitl [Has] <;> iassumption
  isplitl [Hcp Hsg]
  · isplitl [Hcp] <;> iassumption
  isplitl [Hw]; · iexact Hw
  iexact Hres

/-- The body of a device, from what the launch gives it to what it ends with. -/
theorem run_device : iprop(records m ρ K ∗ levAts L lv ∗ ow c (O₀ c) ∗ operands m ρ c ∗ stands (F := F) c ∗ payToks (F := F) c ∗ lows (F := F) c ∗ due (F := F) c ∗ buffers (F := F) c ∗ weights m ρ c ∗ free c oM)
    ⊢ runs c prog (fun _ => finish m ρ c) := by
  iintro ⟨#HR, Hl, H⟩
  ihave H := enter m ρ c $$ H
  icases H with ⟨Hb, Hu⟩
  iapply (wp_fupd frame (wpE (defs₀ (F := F)) 𝒱₀ (c : Thread nD τ) none) Set.univ prog (fun _ => finish m ρ c))
  iapply (run_prog m ρ c K (iprop(|={Set.univ}=> finish m ρ c))) $$ [Hb Hl]
  · isplitr; · iexact HR
    isplitl [Hl] <;> iassumption
  iintro Ha
  iapply (leave m ρ c K) $$ [Ha Hu]
  isplitr; · iexact HR
  isplitl [Ha] <;> iassumption

end Cert.KernelIdeal.Run

end
-- ==== Proof.Deal.lean ====
module

public import proofs.«01_k».proof.Proof.Device

@[expose] public section

noncomputable section

/-! # Cells, duties and credit at launch -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and duties are told apart -/

/-- Different cells of a device are different semaphores. -/
theorem role_csem (k k' : CK) (h : csem k = csem k') : k = k' := by
  have h' : role (csem k) = role (csem k') := congrArg role h
  rcases k with _ | ⟨_ | _, b⟩ <;> rcases k' with _ | ⟨_ | _, b'⟩ <;>
    simp only [csem, role_bar, role_send, role_recv, reduceCtorEq, Role.send.injEq, Role.recv.injEq] at h' <;> first | rfl | (subst h'; rfl)

/-- Different cells of different devices are different semaphores. -/
theorem kcell_injective : Function.Injective (kcell : Dev nD × CK → GSem nD τ sig) := fun x y h =>
  Prod.ext (congrArg (fun g : GSem nD τ sig => g.1.1) h) (role_csem _ _ (congrArg Prod.snd h))

/-- Every cell of every device. -/
def kcells : Finset (GSem nD τ sig) := Finset.univ.map ⟨kcell, kcell_injective⟩

/-- The duty device `x.1` discharges with device `x.2.1`, of the kind `x.2.2`. -/
abbrev tokOf (x : Dev nD × Dev nD × Option Bool) : GSem nD τ sig × ℕ × Dev nD := match x.2.2 with
  | none => (kcell (x.2.1, none), 0, x.1)
  | some false => (kcell (x.1, some (false, x.2.1)), 0, 0)
  | some true => (kcell (x.2.1, some (true, x.1)), 0, 0)

/-- Different duties have different tokens. -/
theorem tokOf_injective : Function.Injective tokOf := by
  rintro ⟨c, b, k⟩ ⟨c', b', k'⟩ h
  have hc : ∀ {x y : GSem nD τ sig × ℕ × Dev nD}, x = y → x.1 = y.1 := fun e => congrArg Prod.fst e
  have hn := hc h
  rcases k with _ | _ | _ <;> rcases k' with _ | _ | _ <;> have hk := kcell_injective hn <;> simp only [Prod.mk.injEq, reduceCtorEq, and_false, false_and, Option.some.injEq] at hk
  · have h2 : c = c' := congrArg (fun x : GSem nD τ sig × ℕ × Dev nD => x.2.2) h
    obtain ⟨rfl, -⟩ := hk; subst h2; rfl
  · obtain ⟨rfl, -, rfl⟩ := hk; rfl
  · obtain ⟨rfl, -, rfl⟩ := hk; rfl

/-- Every duty. -/
def ktoks : Finset (GSem nD τ sig × ℕ × Dev nD) := Finset.univ.map ⟨tokOf, tokOf_injective⟩

/-- The ghost state at launch: the staging's cells, the kernel's cells and duties. -/
def u₀ : UU :=
  (initOf (Pipeline.cells cfgs cellOf_inj) (Pipeline.launchToks cfgs cellOf_inj), (initOf kcells ktoks, (1 : Counters)))

/-- The launch's own resources split into the part of the launch and the part of the kernel's cells. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the ghost state at launch deals device `c`. -/
def G (c : Dev nD) : sProp 𝕄 :=
  iprop((bigSep Finset.univ fun k : CK => roundState ER (rd m ρ) (kcell (c, k)) 0) ∗ (stands (F := F) c ∗ bigSep Finset.univ fun k : CK => reached ER (kcell (c, k)) 0) ∗ payToks (F := F) c)

/-- The kernel's cells at their start give every device its share: states, positions and duty tokens. -/
theorem fund_cells : BI.own (ER (initOf kcells ktoks)) ⊢ (|==> bigSep Finset.univ (G m ρ) : sProp 𝕄) := by
  have hX (Φ : GSem nD τ sig → sProp 𝕄) : bigSep kcells Φ = bigSep Finset.univ fun c : Dev nD => bigSep Finset.univ fun k : CK => Φ (kcell (c, k)) := by
    unfold kcells; rw [bigSep_map, bigSep_univ_prod]; rfl
  have hT : bigSep ktoks (fun x => (dutyTok ER x.1 x.2.1 x.2.2 : sProp 𝕄)) = bigSep Finset.univ fun c : Dev nD => payToks (F := F) c := by
    unfold ktoks payToks; rw [bigSep_map, bigSep_univ_prod]
    refine bigSep_congr fun c _ => ?_
    rw [bigSep_univ_prod]
    refine bigSep_congr fun b _ => bigSep_congr fun k _ => ?_
    rcases k with _ | _ | _ <;> rfl
  iintro HX
  imod (Rounds.fund ER (rd m ρ) kcells ktoks) $$ HX with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G stands; simp only [bigSep_sep']
  isplitl [Hst]; · iexact Hst
  isplitl [Hat Hr]
  · isplitl [Hat] <;> iassumption
  iexact Htok

/-! ## The semaphores -/

/-- The kernel's own semaphores: those of local copies, then the send and receive semaphores. -/
abbrev osem : (Fin 8 ⊕ Fin 4) ⊕ (Bool × Dev nD) → SemLoc sig
  | .inl (.inl k) => .dma (cpS k)
  | .inl (.inr k) => .dma (sgS k)
  | .inr p => csem (some p)

/-- The semaphores listed are exactly those that belong to the kernel's scope. -/
theorem ownSemFacts : Pipeline.OwnSemFacts cfg0.spec osem := by decide +kernel

/-- A device's own semaphores, each at zero. -/
abbrev ownSems (c : Dev nD) : sProp 𝕄 := Pipeline.ownSems0 (Ix := Unit) (Name := ℕ) (U := UU) (Lvl := ℕ) (Val := Elt F) (τ := τ) osem c

/-- The semaphores of a device are its cells, all but the barrier's its own, and those of its local copies. -/
theorem sems_eq (c : Dev nD) : iprop(ownSems (F := F) c ∗ unscopedSems0 c) = iprop(closed (F := F) c ∗ lows (F := F) c) := by
  have hu : (unscopedSems0 c : sProp 𝕄) = semVal (barCell c) 0 := by
    unfold unscopedSems0; rw [bigSep_eq_bigSepL_of_eq [SemLoc.reg barS] (by decide +kernel) (by decide)]; rfl
  have ho : ownSems (F := F) c = iprop(lows (F := F) c ∗ (bigSep Finset.univ fun b => semVal (sendCell c b) 0) ∗ bigSep Finset.univ fun b => semVal (recvCell c b) 0) := by
    unfold ownSems Pipeline.ownSems0 lows
    rw [bigSep_univ_sum, bigSep_univ_sum, bigSep_univ_prod, bigSep_univ_eq_bigSepL [false, true] (by decide) (by decide)]; rfl
  have hc : closed (F := F) c = iprop(semVal (barCell c) 0 ∗ (bigSep Finset.univ fun b => semVal (sendCell c b) 0) ∗ bigSep Finset.univ fun b => semVal (recvCell c b) 0) := by
    unfold closed; exact by_cell _
  rw [hu, ho, hc]
  refine both ?_ ?_
  · iintro ⟨⟨Hl, H⟩, Hb⟩
    isplitr [Hl]
    · isplitl [Hb] <;> iassumption
    iexact Hl
  · iintro ⟨⟨Hb, H⟩, Hl⟩
    isplitr [Hb]
    · isplitl [Hl] <;> iassumption
    iexact Hb

/-! ## The cells are allocated -/

/-- What every device holds once the cells are allocated. -/
def G' (c : Dev nD) : sProp 𝕄 := iprop((∃ K, records m ρ K) ∗ stands (F := F) c ∗ payToks (F := F) c ∗ lows (F := F) c)

/-- A device's semaphores at zero and the states of its cells become the invariants of its cells. -/
theorem core_alloc (c : Dev nD) : iprop(ownSems (F := F) c ∗ unscopedSems0 c ∗ G m ρ c)
    ⊢ |={Set.univ}=> iprop((bigSep Finset.univ fun k : CK => iprop(∃ κ : ℕ, cellInv ER (rd m ρ) κ (kcell (c, k))))
        ∗ (bigSep Finset.univ fun k : CK => reached ER (kcell (c, k)) 0) ∗ iprop(stands (F := F) c ∗ payToks (F := F) c ∗ lows (F := F) c)) := by
  unfold G
  iintro ⟨Hos, Hus, Hst, ⟨Hat, Hr⟩, Htok⟩
  ihave Hv := (Entails.of_eq (sems_eq (F := F) c)) $$ [Hos Hus]
  · isplitl [Hos] <;> iassumption
  icases Hv with ⟨Hv, Hl⟩
  imod (show iprop(closed (F := F) c ∗ bigSep Finset.univ fun k : CK => roundState ER (rd m ρ) (kcell (c, k)) 0)
      ⊢ (|={Set.univ}=> bigSep Finset.univ fun k : CK => iprop(∃ κ : ℕ, cellInv ER (rd m ρ) κ (kcell (c, k))) : sProp 𝕄) from by
        unfold closed; rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok] <;> iassumption

/-- The invariants of all devices' cells are given to every device. -/
theorem share_records :
    (bigSep Finset.univ fun c : Dev nD => iprop((bigSep Finset.univ fun k : CK => iprop(∃ κ : ℕ, cellInv ER (rd m ρ) κ (kcell (c, k))))
        ∗ (bigSep Finset.univ fun k : CK => reached ER (kcell (c, k)) 0) ∗ iprop(stands (F := F) c ∗ payToks (F := F) c ∗ lows (F := F) c)) : sProp 𝕄)
      ⊢ bigSep Finset.univ (G' m ρ) := by
  rw [bigSep_sep', bigSep_sep', ← bigSep_univ_prod (fun ck : Dev nD × CK => iprop(∃ κ : ℕ, cellInv ER (rd m ρ) κ (kcell ck))),
    ← bigSep_univ_prod (fun ck : Dev nD × CK => (reached ER (kcell ck) 0 : sProp 𝕄))]
  unfold G'
  iintro ⟨HI, HR, H⟩
  ihave HK := (BI.bigSep_exists_pi Finset.univ (fun (ck : Dev nD × CK) (κ : ℕ) => (cellInv ER (rd m ρ) κ (kcell ck) : sProp 𝕄))) $$ HI
  icases HK with ⟨%K, HI⟩
  iapply (Entails.of_eq (bigSep_sep' Finset.univ (fun _ : Dev nD => iprop(∃ K, records m ρ K)) (fun c => iprop(stands (F := F) c ∗ payToks (F := F) c ∗ lows (F := F) c))).symm)
  isplitr [H]
  · iapply ((BI.bigSep_of_persistent Finset.univ (records m ρ K)).trans (bigSep_mono fun c _ => show (records m ρ K ⊢ iprop(∃ K, records m ρ K)) from by iintro H; iexists K; iexact H))
    unfold records
    isplitl [HI] <;> iassumption
  iexact H

/-- Every device's semaphores become its cells, known to all. -/
theorem glob : (bigSep Finset.univ fun c => iprop(ownSems (F := F) c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (share_records m ρ))

/-! ## The credit -/

omit [FloatOps F] in
/-- How much a device owes a receive cell is a tile's credit for every tile in the list that goes there. -/
theorem owR_at (d c s : Dev nD) : ∀ l : List (Fin 16), owR d l (recvCell c s) () = if s = d then N * l.countP (fun p => place d p = c) else 0
  | [] => by simp [owR]
  | p :: l => by
    unfold owR
    rw [Pi.add_apply, Finsupp.add_apply, owR_at d c s l, tallyAt_apply, List.countP_cons]
    have hk : (recvCell c s = recvCell (place d p) d) ↔ (place d p = c ∧ s = d) := by
      constructor
      · intro h
        have h' : ((c, some (true, s)) : Dev nD × CK) = (place d p, some (true, d)) := kcell_injective h
        simp only [Prod.mk.injEq, Option.some.injEq, true_and] at h'
        exact ⟨h'.1.symm, h'.2⟩
      · rintro ⟨rfl, rfl⟩; rfl
    by_cases hs : s = d
    · by_cases hp : place d p = c
      · rw [if_pos hs, if_pos hs, if_pos ⟨hk.mpr ⟨hp, hs⟩, rfl⟩, if_pos (by simpa using hp), Nat.mul_add, Nat.mul_one]
      · rw [if_pos hs, if_pos hs, if_neg (fun h => hp (hk.mp h.1).1), if_neg (by simpa using hp)]; rfl
    · rw [if_neg hs, if_neg hs, if_neg (fun h => hs (hk.mp h.1).2)]

/-- A receive cell is not a barrier cell. -/
theorem recv_ne_bar (c s b : Dev nD) : recvCell c s ≠ barCell b := fun h => by
  have h' := congrArg (fun g : GSem nD τ sig => role g.2) h
  simp only [role_recv, role_bar, reduceCtorEq] at h'

/-- The signals still to be given add nothing to what is owed to a receive cell. -/
theorem owA_recv (d c s : Dev nD) : ∀ l : List (Fin 16), owA d l (recvCell c s) () = owR d sends (recvCell c s) ()
  | [] => rfl
  | p :: l => by
    unfold owA
    rw [Pi.add_apply, Finsupp.add_apply, owA_recv d c s l, tallyAt_ne_cell (recv_ne_bar _ _ _)]; rfl

/-- The tiles still to be sent add nothing to what is owed to a barrier cell. -/
theorem owR_bar (d c : Dev nD) : ∀ l : List (Fin 16), owR d l (barCell c) () = 0
  | [] => rfl
  | p :: l => by
    unfold owR
    rw [Pi.add_apply, Finsupp.add_apply, owR_bar d c l, tallyAt_ne_cell (recv_ne_bar _ _ _).symm]; rfl

/-- How much a device owes a barrier cell is the number of signals in the list that go there. -/
theorem owA_bar (d c : Dev nD) : ∀ l : List (Fin 16), owA d l (barCell c) () = l.countP (fun p => place d p = c)
  | [] => owR_bar d c sends
  | p :: l => by
    unfold owA
    rw [Pi.add_apply, Finsupp.add_apply, owA_bar d c l, tallyAt_apply, List.countP_cons]
    have hk : (barCell c = barCell (place d p)) ↔ (place d p = c) :=
      ⟨fun h => (congrArg (fun g : GSem nD τ sig => g.1.1) h).symm, fun h => by rw [h]⟩
    by_cases hp : place d p = c
    · rw [if_pos ⟨hk.mpr hp, rfl⟩, if_pos (by simpa using hp)]
    · rw [if_neg (fun h => hp (hk.mp h.1)), if_neg (by simpa using hp)]

/-- Each device signals every other device once, and itself never. -/
theorem count_offs : ∀ d c : Dev nD, offs.countP (fun p => place d p = c) = if d = c then 0 else 1 := by decide +kernel
/-- Each device sends every other device one tile, and itself none. -/
theorem count_sends : ∀ d c : Dev nD, sends.countP (fun p => place d p = c) = if d = c then 0 else 1 := by decide +kernel
/-- Every device has fifteen others. -/
theorem sum_bar : ∀ c : Dev nD, (Finset.univ.sum fun d : Dev nD => if d = c then 0 else 1) = 15 := by decide +kernel

/-- At launch a device is owed fifteen units on its barrier semaphore. -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  exact (Finset.sum_congr rfl fun d _ => (owA_bar d c offs).trans (count_offs d c)).trans (sum_bar c)

/-- At launch a device is owed one tile's credit on its receive semaphore for each other device. -/
theorem launch_recv (c s : Dev nD) (h : s ≠ c) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same]
  refine (Finset.sum_congr rfl fun d _ => (owA_recv d c s offs).trans (owR_at d c s sends)).trans ?_
  rw [Finset.sum_ite_eq Finset.univ s, if_pos (Finset.mem_univ _), count_sends, if_neg h, Nat.mul_one]

/-- The receive semaphores for different devices are different. -/
theorem rcS_injective : Function.Injective fun s : Dev nD => (SemLoc.dma (rcS s) : SemLoc sig) := fun s s' h => by
  have h' := role_csem (some (true, s)) (some (true, s')) h
  simpa using h'

/-- What is owed a device at launch is what it draws on. -/
theorem creds (c : Dev nD) : (Pipeline.launchCred O₀ c : sProp 𝕄) ⊢ due (F := F) c := by
  unfold Pipeline.launchCred due
  rw [bigSep_univ_at _ (SemLoc.reg barS), launch_bar]
  refine sep_mono_right ?_
  refine (bigSep_subset (t := (Finset.univ.erase c).map ⟨_, rcS_injective⟩) fun x hx => ?_).trans ?_
  · obtain ⟨s, -, rfl⟩ := Finset.mem_map.mp hx
    exact Finset.mem_erase.mpr ⟨fun h => recv_ne_bar c s c (congrArg (Prod.mk (c : Thread nD τ)) h), Finset.mem_univ _⟩
  · rw [bigSep_map]
    exact bigSep_mono fun s hs => Entails.of_eq (congrArg cred (launch_recv c s (Finset.mem_erase.mp hs).1))

end Cert.KernelIdeal.Run

end
-- ==== Proof.Launch.lean ====
module

public import proofs.«01_k».proof.Proof.Deal
public import Idealize.ShloMosaic.Lib.Pipeline.CollectiveSegs

@[expose] public section

noncomputable section

/-! # The run of the whole program -/

namespace Cert.KernelIdeal.Run

open Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

/-- What device `c` starts from, its buffers apart. -/
def start (c : Dev nD) : sProp 𝕄 := iprop(G' m ρ c ∗ due (F := F) c ∗ levAts L lv ∗ weights m ρ c ∗ free c oM)

/-- Before the body. -/
def Φ₀ (c : Dev nD) : sProp 𝕄 := iprop(start m ρ c ∗ buffers (F := F) c)
/-- After the body. -/
def Φ₁ (c : Dev nD) : sProp 𝕄 := iprop(buffers (F := F) c ∗ closed (F := F) c ∗ lows (F := F) c ∗ weights m ρ c ∗ result m ρ c)

/-- The data of the launch: the arrays as launched, the staged operands unchanged by the body, what is held before and after the body, and what is owed then. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => sxAt m ρ c
    | ⟨2, _⟩ => swAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The launch holds each window's array in full. -/
theorem share_eq (c : Dev nD) (w : Fin cfg0.W) : (dats m ρ 0 c).share w = fullShare := by unfold Dat.share; split <;> rfl

/-- Before the body the first window holds the device's rows. -/
theorem before_x (c : Dev nD) (d) : (dats m ρ 0 c).before (0 : Fin 3) t0_0 d = xAt m ρ c := by unfold Dat.before; rw [if_pos (fetch0_0 t0_0)]; rfl
/-- Before the body the second window holds the first scale. -/
theorem before_sx (c : Dev nD) (d) : (dats m ρ 0 c).before (1 : Fin 3) t0_0 d = sxAt m ρ c := by unfold Dat.before; rw [if_pos (fetch0_1 t0_0)]; rfl
/-- Before the body the third window holds the second scale. -/
theorem before_sw (c : Dev nD) (d) : (dats m ρ 0 c).before (2 : Fin 3) t0_0 d = swAt m ρ c := by unfold Dat.before; rw [if_pos (fetch0_2 t0_0)]; rfl

/-- The body of the region, with the region's data around it. -/
theorem body_run (c : Dev nD) :
    iprop(Φ₀ m ρ c ∗ (dats m ρ 0 c).owesAt () t0_0.castSucc
      ∗ (∃ d, has c xM ((dats m ρ 0 c).before (0 : Fin 3) t0_0 d)) ∗ (∃ d, has c sxM ((dats m ρ 0 c).before (1 : Fin 3) t0_0 d)) ∗ (∃ d, has c swM ((dats m ρ 0 c).before (2 : Fin 3) t0_0 d)))
    ⊢ runs c body0 (fun _ => iprop(Φ₁ m ρ c ∗ (dats m ρ 0 c).owesAt () t0_0.succ ∗ has c xM (xAt m ρ c) ∗ has c sxM (sxAt m ρ c) ∗ has c swM (swAt m ρ c))) := by
  rw [body_eq]
  simp only [before_x, before_sx, before_sw]
  have hpost : (finish m ρ c : sProp 𝕄) ⊢ iprop(Φ₁ m ρ c ∗ (dats m ρ 0 c).owesAt () t0_0.succ ∗ has c xM (xAt m ρ c) ∗ has c sxM (sxAt m ρ c) ∗ has c swM (swAt m ρ c)) := by
    unfold finish Φ₁ operands ow Dat.owesAt Pipeline.owesWithin
    rw [show (dats m ρ 0 c).owed t0_0.succ = 0 from rfl]
    iintro ⟨⟨%W, HO⟩, Hops, H⟩
    isplitl [H]; · iexact H
    isplitl [HO]
    · iexists W
      isplitr; · ipureintro; exact fun _ _ => Or.inl trivial
      iexact HO
    iexact Hops
  unfold Φ₀ start G' Dat.owesAt Pipeline.owesWithin
  rw [show (dats m ρ 0 c).owed t0_0.castSucc = O₀ c from rfl]
  iintro ⟨⟨⟨⟨⟨%K, HR⟩, Hst, Htk, Hlo⟩, Hdue, Hlev, Hw, Ho⟩, Hbuf⟩, ⟨%W, -, HO⟩, ⟨%d0, Hx⟩, ⟨%d1, Hsx⟩, ⟨%d2, Hsw⟩⟩
  iapply ((run_device m ρ c K).trans (wp_mono frame (wpE (defs₀ (F := F)) 𝒱₀ (c : Thread nD τ) none) Set.univ fun _ => hpost))
  isplitl [HR]; · iexact HR
  isplitl [Hlev]; · iexact Hlev
  isplitl [HO]; · unfold ow; iexists W; iexact HO
  isplitl [Hx Hsx Hsw]
  · unfold operands
    isplitl [Hx]; · iexact Hx
    isplitl [Hsx] <;> iassumption
  isplitl [Hst]; · iexact Hst
  isplitl [Htk]; · iexact Htk
  isplitl [Hlo]; · iexact Hlo
  isplitl [Hdue]; · iexact Hdue
  isplitl [Hbuf]; · iexact Hbuf
  isplitl [Hw] <;> iassumption

/-- The body, run from what the launch gives it, leaves what the launch asks of it. -/
theorem body_obligation (c : Dev nD) : BodyObligation (dats (F := F) m ρ 0 c) (defs₀ (F := F)) 𝒱₀ () Set.univ := fun t => by
  rw [fin_N0 t]
  rw [bigSep_W0, bigSep_W0]
  exact body_run m ρ c

/-! ## The launch -/

/-- Reading a buffer held whole. -/
theorem read_whole (c : Dev nD) (b : Ref sig .tc) (f : b.ty.Contents (Elt F)) (s : Phys nD τ sig (Elt F)) :
    iprop(has c (Memref.whole b) f ∗ SI s) ⊢ (iprop(⌜s.mem.mem ((c : Thread nD τ).loc b) = f⌝ ∗ SI s) : sProp 𝕄) := by
  rw [has_whole]
  have h := Idealize.ShloMosaic.pointsTo_read_all (Ix := Unit) (Name := ℕ) (U := UU) (Lvl := ℕ) ({()} : Finset Unit) (fun _ => (c : Thread nD τ).loc b) (fun _ => f) s
  rw [bigSep_singleton] at h
  iintro H
  ihave H := h $$ H
  icases H with ⟨%h, H⟩
  isplitr; · ipureintro; exact h () (Finset.mem_singleton_self _)
  iexact H

/-- What the memory of device `c` holds at the end beside its windows' arrays. -/
def ends (c : Dev nD) (s : MemSt nD τ sig (Elt F)) : Prop :=
  (∀ sm : SemLoc sig, sm.isScoped .tc = false → s.sem ((c.tc : Thread nD τ), sm) = 0)
    ∧ s.mem ((c : Thread nD τ).loc main_arg1) = (s₀ m ρ).mem ((c : Thread nD τ).loc main_arg1)
    ∧ ∀ b j, (s.mem ((c : Thread nD τ).loc main_v1) : (main_v1 : Ref sig .tc).ty.Contents (Elt F)) ((rR b).emb j) = res m ρ c b j

/-- What a device has at launch makes the start of its run. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, unscopedRest0_eq]
  iintro ⟨⟨Hw, Ho⟩, Hlev, Hcr, -, HG⟩
  ihave Hc := (creds (F := F) c) $$ Hcr
  imodintro
  unfold start weights
  isplitl
  · isplitl [HG]; · iexact HG
    isplitl [Hc]; · iexact Hc
    isplitl [Hlev]; · iexact Hlev
    isplitl [Hw]
    · iapply (Entails.of_eq (has_whole c main_arg1 _).symm) $$ Hw
    iapply ((Entails.of_eq (has_whole c main_v1 _).symm).trans (has_free c oM _)) $$ Ho
  · iempintro

/-- The buffers of the kernel's scope are those that the body uses. -/
theorem buffers_eq (c : Dev nD) : (Pipeline.scopedRest cfg0.spec c : sProp 𝕄) = buffers (F := F) c := by
  unfold buffers
  rw [← free_whole c cc0_scratch0, ← free_whole c cc0_scratch1, ← free_whole c cc0_scratch2, ← free_whole c cc0_scratch3, ← free_whole c cc0_scratch4, ← free_whole c cc0_scratch5]
  exact scopedRest0_eq c

/-- The start of the run and the fresh buffers make what is held before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, buffers_eq]
  unfold Φ₀
  iintro ⟨Hs, -, Hr⟩
  isplitl [Hs] <;> iassumption

/-- What is held after the body gives back the scope's semaphores and buffers, and keeps the second operand and the result. -/
theorem phi1_exit (c : Dev nD) :
    (dats m ρ 0 c).Φ (Fin.last cfg0.N) ⊢ iprop((unscopedSems0 c ∗ weights m ρ c ∗ result m ρ c) ∗ ownSems (F := F) c ∗ Pipeline.scopedRest cfg0.spec c) := by
  rw [show (dats m ρ 0 c).Φ (Fin.last cfg0.N) = Φ₁ m ρ c from rfl, buffers_eq]
  unfold Φ₁
  iintro ⟨Hb, Hc, Hl, Hw, Hr⟩
  ihave Hs := (Entails.of_eq (sems_eq (F := F) c).symm) $$ [Hc Hl]
  · isplitl [Hc] <;> iassumption
  icases Hs with ⟨Ho, Hu⟩
  isplitl [Hu Hw Hr]
  · isplitl [Hu]; · iexact Hu
    isplitl [Hw] <;> iassumption
  isplitl [Ho] <;> iassumption

/-- From what a device holds at the end its memory is read off: counters at zero, the second operand as it was, the result at the tiles. -/
theorem ends_read (c : Dev nD) (s : Phys nD τ sig (Elt F)) :
    iprop((unscopedSems0 c ∗ weights m ρ c ∗ result m ρ c) ∗ emp ∗ SI s) ⊢ (|={Set.univ}=> iprop(⌜ends m ρ c s.mem⌝ ∗ SI s) : sProp 𝕄) := by
  unfold weights result
  iintro ⟨⟨Hu, Hw, ⟨%X, %hX, Ho⟩⟩, -, HSI⟩
  ihave H := (read_whole c main_arg1 _ s) $$ [Hw HSI]
  · isplitl [Hw] <;> iassumption
  icases H with ⟨%hw, HSI⟩
  ihave H := (read_whole c main_v1 X s) $$ [Ho HSI]
  · isplitl [Ho] <;> iassumption
  icases H with ⟨%ho, HSI⟩
  imod (Pipeline.unscopedSems0_read (X := unscopedSems0 c) (c := c) fupd_intro s) $$ [Hu HSI] with ⟨%hu, HSI⟩
  · isplitl [Hu] <;> iassumption
  imodintro
  isplitr
  · ipureintro
    exact ⟨hu, hw, fun b j => (congrFun ho _).trans (hX b j)⟩
  iexact HSI

/-- The launch may wait for its own copies: they lie below everything that a device owes. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) (by
      rcases t with ⟨_ | _, ht⟩
      · exact above_owA c offs
      · exact above_zero 0)

/-- Every device's operands end as they were, its result is the tiles sent to it, one device's under another's, and every semaphore is at zero. -/
def Ends (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ ∀ b j, (s.mem ((c : Thread nD τ).loc main_v1) : (main_v1 : Ref sig .tc).ty.Contents (Elt F)) ((rR b).emb j) = res m ρ c b j)
  ∧ s.sem = fun _ => 0

set_option maxRecDepth 8000 in
/-- The program, on any float values and from any memory: it runs to the end on every device, and ends so. -/
theorem run_main : θ_run defs (onTc (τ := τ) (main (F := F))) (s₀ m ρ) (fun r => Ends m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ weights m ρ c ∗ result m ρ c)) (Z := fun _ => iprop(emp))
    (hX := start_intro m ρ) (hin := phi0_intro m ρ) (hout := phi1_exit m ρ)
    (QY := ends m ρ) (hY := ends_read m ρ)
    (hQ := fun s h hs => ⟨fun c =>
      ⟨((h c).1 0).trans ((dats m ρ 0 c).arrAt_in (0 : Fin 3) rfl _), (h c).2.2.2.1, ((h c).1 1).trans ((dats m ρ 0 c).arrAt_in (1 : Fin 3) rfl _),
        ((h c).1 2).trans ((dats m ρ 0 c).arrAt_in (2 : Fin 3) rfl _), (h c).2.2.2.2⟩, sem_eq_zero hs fun c => (h c).2.2.1⟩)

end Cert.KernelIdeal.Run

end
-- ==== Proof.RefValue.lean ====
/- Hand-written: what the reference leaves in its result array, as one function of its argument arrays, and one entry of it
   over the reals. -/
module

public import proofs.«01_k».proof.Proof.Gen.ReferenceIdeal.Run
public import Idealize.ShloMosaic.Lib.KernelVsHost
public import Idealize.ShloMosaic.Lib.MatmulPlain
public import Idealize.ShloMosaic.Lib.Quiescent

@[expose] public section

noncomputable section

namespace Cert.Proof.RefValue

open Cert.ReferenceIdeal Cert.ReferenceIdeal.Gen
open Idealize.ShloMosaic Idealize.ShloMosaic.TcCoe Idealize.SL.Sem Idealize.ShloMosaic.ValueIdx
open scoped BigOperators

section
variable {F : FTy → Type} [FloatOps F]

/-- The only place of a one-word argument. -/
def word : S1.Idx := fun a => match a with | ⟨0, _⟩ => (0 : Fin 1)

/-- The result array as a function of the four argument arrays: the product, times the product of the two scales laid
    over the whole array, and the maximum of that with zero. -/
def G (x : Vec F S4096x4096 .f32) (w : Vec F S4096x2048 .f32) (a b : Vec F S1 .f32) : Vec F S4096x2048 .f32 :=
  maximumf (mulf (Host.dotGeneral dot_S4096x4096_S4096x2048_S4096x2048_1_0_0_1_n_n none x w)
      (broadcastInDim S4096x2048 ![0, 1] bcast_S1x1_S4096x2048_0_1 (broadcastInDim S1x1 ![1] bcast_S1_S1x1_1 (mulf a b))))
    (broadcastInDim S4096x2048 ![] bcast_S_S4096x2048 (constant S_ .f32 0x00000000#32))

/-- The reference's run: the result array ends at `G` of the argument arrays, which end as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v6)
        = G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  Cert.ReferenceIdeal.Value.run m ρ

/-- The reference declares no semaphore, so every counter is at zero in every memory of it. -/
theorem no_counters (s : MemSt nD τ sig (Elt F)) : s.sem = fun _ => 0 := sem_eq_zero_of_no_sems (by decide) s

end

/-- One entry of the result over the reals: the dot product of a row of the left operand with a column of the right one,
    times the product of the two scales, cut at zero from below. -/
def entry (x : Fin 4096 → Ideal .f32) (w : Fin 4096 → Ideal .f32) (a b : Ideal .f32) : Ideal .f32 :=
  max ((∑ k : Fin 4096, x k * w k) * (a * b)) 0

/-- The reference's result at row `r` and column `q`. -/
theorem G_at (x : Vec Ideal S4096x4096 .f32) (w : Vec Ideal S4096x2048 .f32) (a b : Vec Ideal S1 .f32)
    (r : Fin 4096) (q : Fin 2048) :
    G (F := Ideal) x w a b (ix2 r q) = entry (fun k => x (ix2 r k)) (fun k => w (ix2 k q)) (a word) (b word) := by
  have hs : (broadcastInDim S4096x2048 ![0, 1] bcast_S1x1_S4096x2048_0_1
      (broadcastInDim S1x1 ![1] bcast_S1_S1x1_1 (mulf (F := Ideal) (φ := .f32) a b)) : Vec Ideal S4096x2048 .f32) (ix2 r q) = a word * b word :=
    congrArg (mulf (F := Ideal) (φ := .f32) a b) (funext fun i => by match i with | ⟨0, _⟩ => rfl)
  unfold G
  rw [← matmul_zero_eq_dotGeneral]
  show max (FloatOps.matmul (DotDims.plain 4096 4096 2048) none (φ₁ := .f32) (φ₂ := .f32) x w
      (fun _ => Ideal.ofBits .f32 0x00000000#32) (ix2 r q) * _) (Ideal.ofBits .f32 0x00000000#32) = _
  rw [Ideal.matmul_plain_apply, Ideal.ofBits_zero_f32, zero_add, hs]
  rfl

end Cert.Proof.RefValue

end
-- ==== Proof.Value.lean ====
/- Hand-written: over the reals, the piece of the result that a device leaves for each sender is the reference's result
   read at the rows of that sender and the columns of that device. Both are the same sum of products, scaled and cut at
   zero; a cast between float types is the identity. -/
module

public import proofs.«01_k».proof.Proof.Launch
public import proofs.«01_k».proof.Proof.RefValue
public import Idealize.ShloMosaic.Lib.MatmulPlain
public import Idealize.ShloMosaic.Lib.Layout

@[expose] public section

noncomputable section

namespace Cert.Proof.Equation

open Idealize.ShloMosaic Idealize.ShloMosaic.TcCoe Idealize.SL.Sem Idealize.ShloMosaic.ValueIdx
open Cert.KernelIdeal Cert.KernelIdeal.Gen Cert.KernelIdeal.Run
open RefValue (entry G_at)
open scoped BigOperators

/-- The product a device computes, at row `r` and column `q`, from its rows, its cast columns and the scale. -/
theorem product_at (sc : Ideal .f32) (x : Vec Ideal S256x4096 .fp8e4m3) (w : Vec Ideal S4096x128 .fp8e4m3)
    (r : Fin 256) (q : Fin 128) :
    k0_pay10 (F := Ideal) sc x w (ix2 r q) = max ((∑ k : Fin 4096, x (ix2 r k) * w (ix2 k q)) * sc) 0 := by
  show max (FloatOps.matmul (DotDims.plain 256 4096 128) none (φ₁ := .fp8e4m3) (φ₂ := .fp8e4m3) x w
      (fun _ => Ideal.ofBits .f32 0x00000000#32) (ix2 r q) * sc) (Ideal.ofBits .f32 0x00000000#32) = _
  rw [Ideal.matmul_plain_apply, Ideal.ofBits_zero_f32, zero_add]

variable (m : (ℓ : Loc nD τ sig) → Buf (Elt Ideal) ℓ) (ρ : Dev nD → PrngReg)

/-- The four argument arrays of a device as launched: its rows, the columns, and the two scales. -/
def argX (c : Dev nD) : S256x4096.Idx → Ideal .f32 := m ((c : Thread nD τ).loc main_arg0)
/-- The columns, as launched. -/
def argW (c : Dev nD) : S4096x2048.Idx → Ideal .f32 := m ((c : Thread nD τ).loc main_arg1)
/-- The scale of the rows, as launched. -/
def argA (c : Dev nD) : S1.Idx → Ideal .f32 := m ((c : Thread nD τ).loc main_arg2)
/-- The scale of the columns, as launched. -/
def argB (c : Dev nD) : S1.Idx → Ideal .f32 := m ((c : Thread nD τ).loc main_arg3)

/-- The staged rows of a device are its own argument. -/
theorem xAt_eq (c : Dev nD) : xAt m ρ c = argX m c := by
  funext j
  refine congrArg (argX m c) (funext fun a => Fin.ext ?_)
  match a with
  | ⟨0, _⟩ => show 0 * 256 + 1 * (j 0).val = (j 0).val; omega
  | ⟨1, _⟩ => show 0 * 4096 + 1 * (j 1).val = (j 1).val; omega

/-- The two scales multiplied, as the device's own arguments. -/
theorem scAt_eq (c : Dev nD) :
    scAt m ρ c = argA m c RefValue.word
      * argB m c RefValue.word := by
  refine congrArg₂ (fun a b : Ideal .f32 => a * b)
    (congrArg (argA m c) (funext fun a => Fin.ext ?_))
    (congrArg (argB m c) (funext fun a => Fin.ext ?_)) <;>
  · match a with
    | ⟨0, _⟩ => rfl

/-- Column `q` of the `b`-th band of columns. -/
def col (b : Fin 16) (q : Fin 128) : Fin 2048 := ⟨128 * b.val + q.val, by omega⟩
/-- Row `r` of the `s`-th band of rows. -/
def row (s : Fin 16) (r : Fin 256) : Fin 4096 := ⟨256 * s.val + r.val, by omega⟩

/-- The cast columns for receiver `b` are those columns of the device's own second argument. -/
theorem wbAt_at (c b : Dev nD) (k : Fin 4096) (q : Fin 128) :
    (wbAt m ρ c b (ix2 k q) : Ideal .fp8e4m3) = argW m c (ix2 k (col b q)) := by
  have h : wbAt m ρ c b = fun i => (wAt m ρ c b i : Ideal .f32) := by
    unfold wbAt k0_pay3
    show shapeCast S4096x128 (shapeCast S4096x128 (shapeCast S1x4096x128 (wAt m ρ c b) _) _) _ = _
    rw [shapeCast_shapeCast, shapeCast_self]
  rw [h]
  refine congrArg (argW m c) (funext fun a => Fin.ext ?_)
  match a with
  | ⟨0, _⟩ => show 0 + 1 * k.val = k.val; omega
  | ⟨1, _⟩ => show 128 * b.val + 1 * q.val = 128 * b.val + q.val; omega

/-- What device `c` holds for sender `s` is the product that `s` computed for `c`, sent or kept. -/
theorem res_eq (c s : Dev nD) : (res m ρ c s : S256x128.Idx → Ideal .f32) = tile m ρ s c := by
  unfold res
  split
  · next h =>
    subst h
    unfold k0_pay11
    exact shapeCast_shapeCast _ _ _
  · unfold wire k0_pay70 k0_pay12
    show shapeCast S256x128 (shapeCast S1x256x128 (shapeCast S256x128 (shapeCast S1x256x128 (tile m ρ s c : S256x128.Idx → Ideal .f32) _) _) _) _ = _
    rw [shapeCast_shapeCast, shapeCast_shapeCast]

/-- One entry of what device `c` holds for sender `s`, by the arguments of `s`. -/
theorem res_at (c s : Dev nD) (r : Fin 256) (q : Fin 128) :
    (res m ρ c s (ix2 r q) : Ideal .f32)
      = entry (fun k => argX m s (ix2 r k))
          (fun k => argW m s (ix2 k (col c q)))
          (argA m s RefValue.word)
          (argB m s RefValue.word) := by
  rw [res_eq]
  unfold tile
  rw [product_at, scAt_eq]
  unfold entry
  refine congrArg (fun z : Ideal .f32 => max (z * _) 0) (Finset.sum_congr rfl fun k _ => ?_)
  rw [wbAt_at]
  have hx : k0_pay1 (xAt m ρ s) = argX m s := by
    unfold k0_pay1
    rw [← xAt_eq m ρ s]
    exact (shapeCast_self _ _).trans (shapeCast_self (xAt m ρ s : S256x4096.Idx → Ideal .f32) _)
  rw [hx]

/-- Where each device's rows, and on every device the columns and the scales, are those of the whole arrays `x`, `w`,
    `a`, `b`, an array built of the pieces is the device's band of columns of the reference's result. -/
theorem assembled (x : ReferenceIdeal.S4096x4096.Idx → Ideal .f32) (w : S4096x2048.Idx → Ideal .f32) (a b : S1.Idx → Ideal .f32)
    (hx : ∀ c : Dev nD, argX m c = Layout.block ⟨2, ![256, 4096]⟩ ⟨2, ![4096, 4096]⟩ 0 16 c x)
    (hw : ∀ c : Dev nD, argW m c = w)
    (ha : ∀ c : Dev nD, argA m c = a)
    (hb : ∀ c : Dev nD, argB m c = b)
    (c : Dev nD) (v : S4096x128.Idx → Ideal .f32) (hv : ∀ s j, v ((rR s).emb j) = res m ρ c s j) :
    v = Layout.block ⟨2, ![4096, 128]⟩ ⟨2, ![4096, 2048]⟩ 1 16 c (RefValue.G (F := Ideal) x w a b) := by
  funext i
  have hs : (i 0).val / 256 < 16 := by have := (i 0).isLt; change _ < 4096 at this; omega
  let s : Fin 16 := ⟨(i 0).val / 256, hs⟩
  let r : Fin 256 := ⟨(i 0).val % 256, Nat.mod_lt _ (by norm_num)⟩
  let q : Fin 128 := i 1
  have hi : (rR s).emb (ix2 r q) = i := by
    funext d; apply Fin.ext
    match d with
    | ⟨0, _⟩ => show 256 * ((i 0).val / 256) + 1 * ((i 0).val % 256) = (i 0).val; omega
    | ⟨1, _⟩ => show 0 + 1 * (i 1).val = (i 1).val; omega
  have hj : (Layout.block ⟨2, ![4096, 128]⟩ ⟨2, ![4096, 2048]⟩ 1 16 c (RefValue.G (F := Ideal) x w a b) : S4096x128.Idx → Ideal .f32) i
      = RefValue.G (F := Ideal) x w a b (ix2 (row s r) (col c q)) := by
    rw [Layout.block_apply]
    refine congrArg (RefValue.G (F := Ideal) x w a b) (funext fun d => Fin.ext ?_)
    rw [Layout.Tiles.idx_val]
    match d with
    | ⟨0, _⟩ => show (i 0).val = 256 * ((i 0).val / 256) + (i 0).val % 256; omega
    | ⟨1, _⟩ => show c.val * 128 + (i 1).val = 128 * c.val + (i 1).val; omega
  rw [hj, G_at]
  conv_lhs => rw [← hi]
  refine (hv s (ix2 r q)).trans ((res_at m ρ c s r q).trans ?_)
  rw [hx, hw, ha, hb]
  unfold entry
  refine congrArg (fun z : Ideal .f32 => max (z * _) 0) (Finset.sum_congr rfl fun k _ => ?_)
  refine congrArg (fun z : Ideal .f32 => z * _) ?_
  refine (Layout.block_apply _ _ _ _).trans ?_
  refine congrArg x (funext fun d => Fin.ext ?_)
  rw [Layout.Tiles.idx_val]
  match d with
  | ⟨0, _⟩ => show (i 0).val / 256 * 256 + (i 0).val % 256 = 256 * ((i 0).val / 256) + (i 0).val % 256; omega
  | ⟨1, _⟩ => rfl

end Cert.Proof.Equation

end
-- ==== Proof.lean ====
module

public import proofs.«01_k».proof.Proof.Gen.ReferenceIdeal.Run
public import proofs.«01_k».proof.Proof.Launch
public import proofs.«01_k».proof.Proof.RefValue
public import proofs.«01_k».proof.Proof.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init

@[expose] public section

noncomputable section

namespace Cert.Proof

open Idealize.ShloMosaic Idealize.ShloMosaic.TcCoe Idealize.SL.Sem

/-- The two printings of the kernel have the same body, row by row of the table of bodies. -/
theorem bodies_same : Kernel.defs₀ (F := Bits) = KernelIdeal.defs₀ (F := Bits) := by
  unfold Kernel.defs₀ KernelIdeal.defs₀
  refine congrArg Defs.onTc (funext fun l => funext fun _ => ?_)
  match l with
  | ⟨0, _⟩ => rfl

/-- So they have the same table of definitions, the launch's own included. -/
theorem defs_same : Kernel.defs (F := Bits) = KernelIdeal.defs (F := Bits) :=
  congrArg (Pipeline.defs (KernelIdeal.pcfgs (F := Bits))) bodies_same

/-- The kernel's own program leaves its arguments as launched and every semaphore counter at zero. -/
theorem frame_kernel : Cert.quiescent_Kernel := by
  intro m ρ _
  rw [defs_same]
  exact (θ_run KernelIdeal.defs (onTc (τ := KernelIdeal.τ) (KernelIdeal.main (F := Bits))) (KernelIdeal.Run.s₀ m ρ)).mono
    (fun _ h => ⟨fun c => ⟨(h.1 c).1, (h.1 c).2.1, (h.1 c).2.2.1, (h.1 c).2.2.2.1⟩, h.2⟩)
    (KernelIdeal.Run.run_main (F := Bits) m ρ)

/-- So does the program over the reals. -/
theorem frame_kernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.KernelIdeal.Run.run_main m ρ)

/-- And so does the reference. -/
theorem frame_reference : Cert.quiescent_ReferenceIdeal := fun m ρ _ =>
  (θ_run ReferenceIdeal.defs _ _).mono (fun r h => ⟨fun c => (h c).2, RefValue.no_counters r.2⟩) (RefValue.run m ρ)

/-- Over the reals, from arguments laid out as the mesh splits the reference's, every device ends with its band of 128
    columns of the reference's result, all 4096 rows of it. -/
theorem value : Cert.algebraic_KernelIdeal_ReferenceIdeal := fun m g m' g' _ hargs =>
  ⟨RefValue.G (F := Ideal) _ _ _ _,
    (θ_run Cert.KernelIdeal.defs _ _).mono
      (fun _ h c => ⟨Equation.assembled m g _ _ _ _ (fun c => (hargs c).1) (fun c => (hargs c).2.1) (fun c => (hargs c).2.2.1)
          (fun c => (hargs c).2.2.2) c _ (h.1 c).2.2.2.2,
        (h.1 c).1, (h.1 c).2.1, (h.1 c).2.2.1, (h.1 c).2.2.2.1⟩)
      (Cert.KernelIdeal.Run.run_main (F := Ideal) m g),
    (θ_run Cert.ReferenceIdeal.defs _ _).mono (fun _ h => h 0) (RefValue.run (F := Ideal) m' g')⟩

/-- Everything claimed, the side conditions the programs state first. -/
theorem claim : Cert.Claim :=
  ⟨Cert.Kernel.Gen.facts, Cert.KernelIdeal.Gen.facts, Cert.ReferenceIdeal.Gen.facts,
    frame_kernel, frame_kernelIdeal, frame_reference, trivial, value⟩

end Cert.Proof

end
